-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite [hPre_finite : Cert.Pre_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite [hPre_finite : Cert.Pre_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Kernel2Ideal_pre_finite [hKernel2Ideal : Cert.Kernel2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Reference2Ideal_pre_finite [hReference2Ideal : Cert.Reference2Ideal.Facts] [hPre_finite : Cert.Pre_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal_pre_finite [hKernel2Ideal : Cert.Kernel2Ideal.Facts] [hReference2Ideal : Cert.Reference2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v19_0)) (v1 : (c : Dev Cert.Kernel2Ideal.nD) → Buf (Elt Ideal) ((c.tc : Thread Cert.Kernel2Ideal.nD Cert.Kernel2Ideal.τ).loc Cert.Kernel2Ideal.main_v19_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v19_0) = v0 c
          ∧ r.2.mem ((c.tc : Thread Cert.Kernel2Ideal.nD Cert.Kernel2Ideal.τ).loc Cert.Kernel2Ideal.main_v19_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v75) = v0 c
          ∧ r.2.mem ((c.tc : Thread Cert.Reference2Ideal.nD Cert.Reference2Ideal.τ).loc Cert.Reference2Ideal.main_v77) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v57) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v14_0)) (v1 : (c : Dev Cert.Kernel4Ideal.nD) → Buf (Elt Ideal) ((c.tc : Thread Cert.Kernel4Ideal.nD Cert.Kernel4Ideal.τ).loc Cert.Kernel4Ideal.main_v14_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v14_0) = v0 c
          ∧ r.2.mem ((c.tc : Thread Cert.Kernel4Ideal.nD Cert.Kernel4Ideal.τ).loc Cert.Kernel4Ideal.main_v14_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v18) = v0 c
          ∧ r.2.mem ((c.tc : Thread Cert.Reference4Ideal.nD Cert.Reference4Ideal.τ).loc Cert.Reference4Ideal.main_v25) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v8_0)) (v1 : (c : Dev Cert.Kernel5Ideal.nD) → Buf (Elt Ideal) ((c.tc : Thread Cert.Kernel5Ideal.nD Cert.Kernel5Ideal.τ).loc Cert.Kernel5Ideal.main_v8_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v8_0) = v0 c
          ∧ r.2.mem ((c.tc : Thread Cert.Kernel5Ideal.nD Cert.Kernel5Ideal.τ).loc Cert.Kernel5Ideal.main_v8_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v18) = v0 c
          ∧ r.2.mem ((c.tc : Thread Cert.Reference5Ideal.nD Cert.Reference5Ideal.τ).loc Cert.Reference5Ideal.main_v19) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_finite (hKernel2Ideal := hKernel2Ideal) (hPre_finite := hPre_finite)
    ∧ quiescent_Reference2Ideal (hReference2Ideal := hReference2Ideal)
    ∧ quiescent_Reference2Ideal_pre_finite (hReference2Ideal := hReference2Ideal) (hPre_finite := hPre_finite)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_pre_finite (hKernel2Ideal := hKernel2Ideal) (hReference2Ideal := hReference2Ideal) (hPre_finite := hPre_finite)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_finite.lean ====
abbrev S16x2048x3600 : Shape := ⟨3, ![16, 2048, 3600]⟩
abbrev S16 : Shape := ⟨1, ![16]⟩
abbrev S_ : Shape := ⟨0, ![]⟩

class Facts : Prop where
  bcast_S_S16x2048x3600 : S_.BroadcastsInDim S16x2048x3600 (![] : Fin 0 → Fin S16x2048x3600.rank)
  reducesTo_S16x2048x3600_S_d0_1_2 : S16x2048x3600.ReducesTo [0, 1, 2] S_
  h_S_ : 0 < S_.numel
  bcast_S_S16 : S_.BroadcastsInDim S16 (![] : Fin 0 → Fin S16.rank)
  reducesTo_S16_S_d0 : S16.ReducesTo [0] S_

variable [Facts]

def fn {F : FTy → Type} [FloatOps F] (main_arg0 : FVec F S16x2048x3600 .f32) (main_arg1 : FVec F S16 .f32) : IVec S_ 1 :=
  let main_v0 : FVec F S16x2048x3600 .f32 := Host.absf main_arg0
  let main_cst : FVec F S_ .f32 := constant S_ .f32 0x7F800000#32
  let main_v1 : FVec F S16x2048x3600 .f32 := broadcastInDim S16x2048x3600 ![] bcast_S_S16x2048x3600 main_cst
  let main_v2 : IVec S16x2048x3600 1 := cmpf .olt main_v0 main_v1
  let main_c : IVec S_ 1 := constantI S_ 1 1#1
  let main_v3 : IVec S_ 1 := (fun x v => Host.reduce IntOp.andi x v reducesTo_S16x2048x3600_S_d0_1_2 h_S_) main_v2 main_c
  let main_v4 : FVec F S16 .f32 := Host.absf main_arg1
  let main_cst_0 : FVec F S_ .f32 := constant S_ .f32 0x7F800000#32
  let main_v5 : FVec F S16 .f32 := broadcastInDim S16 ![] bcast_S_S16 main_cst_0
  let main_v6 : IVec S16 1 := cmpf .olt main_v4 main_v5
  let main_c_1 : IVec S_ 1 := constantI S_ 1 1#1
  let main_v7 : IVec S_ 1 := (fun x v => Host.reduce IntOp.andi x v reducesTo_S16_S_d0 h_S_) main_v6 main_c_1
  let main_v8 : IVec S_ 1 := andi main_v3 main_v7
  main_v8
-- ==== Kernel.lean ====
abbrev S16x2048x1024 : Shape := ⟨3, ![16, 2048, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S32768x1024 : Shape := ⟨2, ![32768, 1024]⟩
abbrev S1x1024 : Shape := ⟨2, ![1, 1024]⟩
abbrev S1x5632 : Shape := ⟨2, ![1, 5632]⟩
abbrev S1024x1024 : Shape := ⟨2, ![1024, 1024]⟩
abbrev S16x1024 : Shape := ⟨2, ![16, 1024]⟩
abbrev S1056x1024 : Shape := ⟨2, ![1056, 1024]⟩
abbrev S1024x2816 : Shape := ⟨2, ![1024, 2816]⟩
abbrev S16 : Shape := ⟨1, ![16]⟩
abbrev S16x1 : Shape := ⟨2, ![16, 1]⟩
abbrev S1024x1 : Shape := ⟨2, ![1024, 1]⟩
abbrev S1024x256 : Shape := ⟨2, ![1024, 256]⟩
abbrev S1056x256 : Shape := ⟨2, ![1056, 256]⟩
abbrev S1x256 : Shape := ⟨2, ![1, 256]⟩

abbrev nBuf : Space → Nat
  | .hbm => 14
  | .vmem => 16
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x5632, .f32⟩
  | .hbm, ⟨3, _⟩ => ⟨S3x5632, .f32⟩
  | .hbm, ⟨4, _⟩ => ⟨S5632, .f32⟩
  | .hbm, ⟨5, _⟩ => ⟨S2816x1024, .f32⟩
  | .hbm, ⟨6, _⟩ => ⟨S1024, .f32⟩
  | .hbm, ⟨7, _⟩ => ⟨S32768x1024, .f32⟩
  | .hbm, ⟨8, _⟩ => ⟨S1024x5632, .bf16⟩
  | .hbm, ⟨9, _⟩ => ⟨S2816x1024, .bf16⟩
  | .hbm, ⟨10, _⟩ => ⟨S1x1024, .f32⟩
  | .hbm, ⟨11, _⟩ => ⟨S1x5632, .f32⟩
  | .hbm, ⟨12, _⟩ => ⟨S1x1024, .f32⟩
  | .hbm, ⟨13, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S16x1024, .f32⟩
  | .local _ .vmem, ⟨3, _⟩ => ⟨S16x1024, .f32⟩
  | .local _ .vmem, ⟨4, _⟩ => ⟨S16x1024, .f32⟩
  | .local _ .vmem, ⟨5, _⟩ => ⟨S16x1024, .f32⟩
  | .local _ .vmem, ⟨6, _⟩ => ⟨S1x1024, .f32⟩
  | .local _ .vmem, ⟨7, _⟩ => ⟨S1024x5632, .bf16⟩
  | .local _ .vmem, ⟨8, _⟩ => ⟨S3x5632, .f32⟩
  | .local _ .vmem, ⟨9, _⟩ => ⟨S1x5632, .f32⟩
  | .local _ .vmem, ⟨10, _⟩ => ⟨S2816x1024, .bf16⟩
  | .local _ .vmem, ⟨11, _⟩ => ⟨S1x1024, .f32⟩
  | .local _ .vmem, ⟨12, _⟩ => ⟨S1024x1024, .f32⟩
  | .local _ .vmem, ⟨13, _⟩ => ⟨S1024x1024, .f32⟩
  | .local _ .vmem, ⟨14, _⟩ => ⟨S1056x1024, .bf16⟩
  | .local _ .vmem, ⟨15, _⟩ => ⟨S1024x2816, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c64_i32 : BitVec 32 := 64#32
  let v2 : BitVec 32 := Scalar.muli v1 c64_i32
  let c1_i32 : BitVec 32 := 1#32
  let v3 : BitVec 32 := Scalar.subi v2 c1_i32
  let c0_i32 : BitVec 32 := 0#32
  let v4 : BitVec 32 := Scalar.maxsi v3 c0_i32
  let c0_i32_0 : BitVec 32 := 0#32
  let c0_i32_1 : BitVec 32 := 0#32
  ![v4.toNat, c0_i32_0.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c1_i32 : BitVec 32 := 1#32
  let v2 : BitVec 32 := Scalar.addi v1 c1_i32
  let c64_i32 : BitVec 32 := 64#32
  let v3 : BitVec 32 := Scalar.muli v2 c64_i32
  let c2047_i32 : BitVec 32 := 2047#32
  let v4 : BitVec 32 := Scalar.minsi v3 c2047_i32
  let c0_i32 : BitVec 32 := 0#32
  let c0_i32_0 : BitVec 32 := 0#32
  ![v4.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S3x5632 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x5632 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ReferenceIdeal.lean ====
abbrev S16x2048x1024 : Shape := ⟨3, ![16, 2048, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x5632 : Shape := ⟨3, ![16, 2048, 5632]⟩
abbrev S16x2050x5632 : Shape := ⟨3, ![16, 2050, 5632]⟩
abbrev S1x5632 : Shape := ⟨2, ![1, 5632]⟩
abbrev S1x1x5632 : Shape := ⟨3, ![1, 1, 5632]⟩
abbrev S16x2048x2816 : Shape := ⟨3, ![16, 2048, 2816]⟩
abbrev S32768x1024 : Shape := ⟨2, ![32768, 1024]⟩

abbrev nBuf : Space → Nat
  | .hbm => 81
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x5632, .f32⟩
  | .hbm, ⟨3, _⟩ => ⟨S3x5632, .f32⟩
  | .hbm, ⟨4, _⟩ => ⟨S5632, .f32⟩
  | .hbm, ⟨5, _⟩ => ⟨S2816x1024, .f32⟩
  | .hbm, ⟨6, _⟩ => ⟨S1024, .f32⟩
  | .hbm, ⟨7, _⟩ => ⟨S16x2048x1024, .f32⟩
  | .hbm, ⟨8, _⟩ => ⟨S_, .f32⟩
  | .hbm, ⟨9, _⟩ => ⟨S16x2048, .f32⟩
  | .hbm, ⟨10, _⟩ => ⟨S16x2048x1, .f32⟩
  | .hbm, ⟨11, _⟩ => ⟨S_, .f32⟩
  | .hbm, ⟨12, _⟩ => ⟨S16x2048x1, .f32⟩
  | .hbm, ⟨13, _⟩ => ⟨S16x2048x1, .f32⟩
  | .hbm, ⟨14, _⟩ => ⟨S_, .f32⟩
  | .hbm, ⟨15, _⟩ => ⟨S16x2048x1, .f32⟩
  | .hbm, ⟨16, _⟩ => ⟨S16x2048x1, .f32⟩
  | .hbm, ⟨17, _⟩ => ⟨S16x2048x1, .f32⟩
  | .hbm, ⟨18, _⟩ => ⟨S16x2048x1024, .f32⟩
  | .hbm, ⟨19, _⟩ => ⟨S16x2048x1024, .f32⟩
  | .hbm, ⟨20, _⟩ => ⟨S1x1x1024, .f32⟩
  | .hbm, ⟨21, _⟩ => ⟨S16x2048x1024, .f32⟩
  | .hbm, ⟨22, _⟩ => ⟨S16x2048x1024, .f32⟩
  | .hbm, ⟨23, _⟩ => ⟨S16x2048x5632, .f32⟩
  | .hbm, ⟨24, _⟩ => ⟨S_, .i32⟩
  | .hbm, ⟨25, _⟩ => ⟨S_, .f32⟩
  | .hbm, ⟨26, _⟩ => ⟨S16x2050x5632, .f32⟩
  | .hbm, ⟨27, _⟩ => ⟨S16x2048x5632, .f32⟩
  | .hbm, ⟨28, _⟩ => ⟨S1x5632, .f32⟩
  | .hbm, ⟨29, _⟩ => ⟨S5632, .f32⟩
  | .hbm, ⟨30, _⟩ => ⟨S1x1x5632, .f32⟩
  | .hbm, ⟨31, _⟩ => ⟨S16x2048x5632, .f32⟩
  | .hbm, ⟨32, _⟩ => ⟨S16x2048x5632, .f32⟩
  | .hbm, ⟨33, _⟩ => ⟨S16x2048x5632, .f32⟩
  | .hbm, ⟨34, _⟩ => ⟨S1x5632, .f32⟩
  | .hbm, ⟨35, _⟩ => ⟨S5632, .f32⟩
  | .hbm, ⟨36, _⟩ => ⟨S1x1x5632, .f32⟩
  | .hbm, ⟨37, _⟩ => ⟨S16x2048x5632, .f32⟩
  | .hbm, ⟨38, _⟩ => ⟨S16x2048x5632, .f32⟩
  | .hbm, ⟨39, _⟩ => ⟨S16x2048x5632, .f32⟩
  | .hbm, ⟨40, _⟩ => ⟨S16x2048x5632, .f32⟩
  | .hbm, ⟨41, _⟩ => ⟨S1x5632, .f32⟩
  | .hbm, ⟨42, _⟩ => ⟨S5632, .f32⟩
  | .hbm, ⟨43, _⟩ => ⟨S1x1x5632, .f32⟩
  | .hbm, ⟨44, _⟩ => ⟨S16x2048x5632, .f32⟩
  | .hbm, ⟨45, _⟩ => ⟨S16x2048x5632, .f32⟩
  | .hbm, ⟨46, _⟩ => ⟨S16x2048x5632, .f32⟩
  | .hbm, ⟨47, _⟩ => ⟨S1x1x5632, .f32⟩
  | .hbm, ⟨48, _⟩ => ⟨S16x2048x5632, .f32⟩
  | .hbm, ⟨49, _⟩ => ⟨S16x2048x5632, .f32⟩
  | .hbm, ⟨50, _⟩ => ⟨S16x2048x2816, .f32⟩
  | .hbm, ⟨51, _⟩ => ⟨S16x2048x2816, .f32⟩
  | .hbm, ⟨52, _⟩ => ⟨S16x2048x2816, .f32⟩
  | .hbm, ⟨53, _⟩ => ⟨S16x2048x2816, .f32⟩
  | .hbm, ⟨54, _⟩ => ⟨S_, .f32⟩
  | .hbm, ⟨55, _⟩ => ⟨S16x2048x2816, .f32⟩
  | .hbm, ⟨56, _⟩ => ⟨S16x2048x2816, .f32⟩
  | .hbm, ⟨57, _⟩ => ⟨S_, .f32⟩
  | .hbm, ⟨58, _⟩ => ⟨S16x2048x2816, .f32⟩
  | .hbm, ⟨59, _⟩ => ⟨S16x2048x2816, .f32⟩
  | .hbm, ⟨60, _⟩ => ⟨S16x2048x2816, .f32⟩
  | .hbm, ⟨61, _⟩ => ⟨S16x2048x2816, .f32⟩
  | .hbm, ⟨62, _⟩ => ⟨S16x2048x1024, .f32⟩
  | .hbm, ⟨63, _⟩ => ⟨S16x2048x1024, .f32⟩
  | .hbm, ⟨64, _⟩ => ⟨S_, .f32⟩
  | .hbm, ⟨65, _⟩ => ⟨S16x2048, .f32⟩
  | .hbm, ⟨66, _⟩ => ⟨S16x2048x1, .f32⟩
  | .hbm, ⟨67, _⟩ => ⟨S_, .f32⟩
  | .hbm, ⟨68, _⟩ => ⟨S16x2048x1, .f32⟩
  | .hbm, ⟨69, _⟩ => ⟨S16x2048x1, .f32⟩
  | .hbm, ⟨70, _⟩ => ⟨S_, .f32⟩
  | .hbm, ⟨71, _⟩ => ⟨S16x2048x1, .f32⟩
  | .hbm, ⟨72, _⟩ => ⟨S16x2048x1, .f32⟩
  | .hbm, ⟨73, _⟩ => ⟨S16x2048x1, .f32⟩
  | .hbm, ⟨74, _⟩ => ⟨S16x2048x1024, .f32⟩
  | .hbm, ⟨75, _⟩ => ⟨S16x2048x1024, .f32⟩
  | .hbm, ⟨76, _⟩ => ⟨S1x1x1024, .f32⟩
  | .hbm, ⟨77, _⟩ => ⟨S16x2048x1024, .f32⟩
  | .hbm, ⟨78, _⟩ => ⟨S16x2048x1024, .f32⟩
  | .hbm, ⟨79, _⟩ => ⟨S16x2048x1024, .f32⟩
  | .hbm, ⟨80, _⟩ => ⟨S32768x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c : Ref sig .tc := ⟨.hbm, 24, rfl⟩
abbrev main_call0_v0 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_call1_v0 : Ref sig .tc := ⟨.hbm, 52, rfl⟩
abbrev main_call1_v1 : Ref sig .tc := ⟨.hbm, 53, rfl⟩
abbrev main_call1_cst : Ref sig .tc := ⟨.hbm, 54, rfl⟩
abbrev main_call1_v2 : Ref sig .tc := ⟨.hbm, 55, rfl⟩
abbrev main_call1_v3 : Ref sig .tc := ⟨.hbm, 56, rfl⟩
abbrev main_call1_cst_0 : Ref sig .tc := ⟨.hbm, 57, rfl⟩
abbrev main_call1_v4 : Ref sig .tc := ⟨.hbm, 58, rfl⟩
abbrev main_call1_v5 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_2 : Ref sig .tc := ⟨.hbm, 64, rfl⟩
abbrev main_v44 : Ref sig .tc := ⟨.hbm, 65, rfl⟩
abbrev main_v45 : Ref sig .tc := ⟨.hbm, 66, rfl⟩
abbrev main_cst_3 : Ref sig .tc := ⟨.hbm, 67, rfl⟩
abbrev main_v46 : Ref sig .tc := ⟨.hbm, 68, rfl⟩
abbrev main_v47 : Ref sig .tc := ⟨.hbm, 69, rfl⟩
abbrev main_cst_4 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩

abbrev nD : Nat := 1
abbrev τ : Topo := Topo.v7x

variable {F : FTy → Type} [FloatOps F]
-- ==== Kernel2.lean ====
abbrev S16x2048x3600 : Shape := ⟨3, ![16, 2048, 3600]⟩
abbrev S16 : Shape := ⟨1, ![16]⟩
abbrev S32768x3600 : Shape := ⟨2, ![32768, 3600]⟩
abbrev S32768x3072 : Shape := ⟨2, ![32768, 3072]⟩
abbrev S32768x512 : Shape := ⟨2, ![32768, 512]⟩
abbrev S32768x3584 : Shape := ⟨2, ![32768, 3584]⟩
abbrev S32768x16 : Shape := ⟨2, ![32768, 16]⟩
abbrev S_ : Shape := ⟨0, ![]⟩
abbrev S32768x120 : Shape := ⟨2, ![32768, 120]⟩
abbrev S32768x4 : Shape := ⟨2, ![32768, 4]⟩
abbrev S32768x256 : Shape := ⟨2, ![32768, 256]⟩
abbrev S120 : Shape := ⟨1, ![120]⟩
abbrev S4 : Shape := ⟨1, ![4]⟩
abbrev S256 : Shape := ⟨1, ![256]⟩
abbrev S1x256 : Shape := ⟨2, ![1, 256]⟩
abbrev S32768x1024 : Shape := ⟨2, ![32768, 1024]⟩
abbrev S512x512 : Shape := ⟨2, ![512, 512]⟩
abbrev S512x1024 : Shape := ⟨2, ![512, 1024]⟩
abbrev S512x256 : Shape := ⟨2, ![512, 256]⟩
abbrev S8x128x384 : Shape := ⟨3, ![8, 128, 384]⟩
abbrev S8x1x128 : Shape := ⟨3, ![8, 1, 128]⟩
abbrev S128x128 : Shape := ⟨2, ![128, 128]⟩
abbrev S1x128 : Shape := ⟨2, ![1, 128]⟩
abbrev S8x1 : Shape := ⟨2, ![8, 1]⟩
abbrev S8x128 : Shape := ⟨2, ![8, 128]⟩
abbrev S128x1 : Shape := ⟨2, ![128, 1]⟩
abbrev S128x256 : Shape := ⟨2, ![128, 256]⟩
abbrev S128x384 : Shape := ⟨2, ![128, 384]⟩
abbrev S1 : Shape := ⟨1, ![1]⟩
abbrev S1x1 : Shape := ⟨2, ![1, 1]⟩
abbrev S1x1x128 : Shape := ⟨3, ![1, 1, 128]⟩
abbrev S1x128x384 : Shape := ⟨3, ![1, 128, 384]⟩
abbrev S256x384 : Shape := ⟨2, ![256, 384]⟩
abbrev S128 : Shape := ⟨1, ![128]⟩
abbrev S1x384 : Shape := ⟨2, ![1, 384]⟩

abbrev nBuf : Space → Nat
  | .hbm => 25
  | .vmem => 23
  | .smem => 0
  | _ => 0

abbrev bufTy : (tb : Table) → Fin (tcTables nBuf tb) → BufTy
  | .hbm, ⟨0, _⟩ => ⟨S16x2048x3600, .f32⟩
  | .hbm, ⟨1, _⟩ => ⟨S16, .f32⟩
  | .hbm, ⟨2, _⟩ => ⟨S32768x3600, .f32⟩
  | .hbm, ⟨3, _⟩ => ⟨S32768x3072, .f32⟩
  | .hbm, ⟨4, _⟩ => ⟨S32768x512, .f32⟩
  | .hbm, ⟨5, _⟩ => ⟨S32768x3584, .f32⟩
  | .hbm, ⟨6, _⟩ => ⟨S32768x3584, .bf16⟩
  | .hbm, ⟨7, _⟩ => ⟨S32768x16, .f32⟩
  | .hbm, ⟨8, _⟩ => ⟨S_, .f32⟩
  | .hbm, ⟨9, _⟩ => ⟨S32768x120, .f32⟩
  | .hbm, ⟨10, _⟩ => ⟨S32768x4, .f32⟩
  | .hbm, ⟨11, _⟩ => ⟨S32768x4, .f32⟩
  | .hbm, ⟨12, _⟩ => ⟨S32768x4, .f32⟩
  | .hbm, ⟨13, _⟩ => ⟨S32768x4, .f32⟩
  | .hbm, ⟨14, _⟩ => ⟨S32768x256, .f32⟩
  | .hbm, ⟨15, _⟩ => ⟨S_, .f32⟩
  | .hbm, ⟨16, _⟩ => ⟨S120, .f32⟩
  | .hbm, ⟨17, _⟩ => ⟨S4, .f32⟩
  | .hbm, ⟨18, _⟩ => ⟨S4, .f32⟩
  | .hbm, ⟨19, _⟩ => ⟨S4, .f32⟩
  | .hbm, ⟨20, _⟩ => ⟨S4, .f32⟩
  | .hbm, ⟨21, _⟩ => ⟨S256, .f32⟩
  | .hbm, ⟨22, _⟩ => ⟨S1x256, .f32⟩
  | .hbm, ⟨23, _⟩ => ⟨S32768x1024, .bf16⟩
  | .hbm, ⟨24, _⟩ => ⟨S32768x1024, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x1024, .bf16⟩
  | .local _ .vmem, ⟨5, _⟩ => ⟨S512x1024, .bf16⟩
  | .local _ .vmem, ⟨6, _⟩ => ⟨S512x256, .f32⟩
  | .local _ .vmem, ⟨7, _⟩ => ⟨S512x256, .f32⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x1024, .bf16⟩
  | .local _ .vmem, ⟨13, _⟩ => ⟨S512x1024, .bf16⟩
  | .local _ .vmem, ⟨14, _⟩ => ⟨S512x256, .f32⟩
  | .local _ .vmem, ⟨15, _⟩ => ⟨S512x256, .f32⟩
  | .local _ .vmem, ⟨16, _⟩ => ⟨S1x256, .f32⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S8x128x384, .f32⟩
  | .local _ .vmem, ⟨22, _⟩ => ⟨S8x1x128, .f32⟩
  | _, _ => ⟨S16x2048x3600, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19_0 : Ref sig .tc := ⟨.hbm, 23, rfl⟩
abbrev main_v19_1 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_scratch0 : Ref sig .tc := ⟨.vmem, 21, rfl⟩
abbrev cc0_scratch1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c1_i32 : BitVec 32 := 1#32
  let c0_i32 : BitVec 32 := 0#32
  ![v1.toNat, c1_i32.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c1_i32 : BitVec 32 := 1#32
  let c0_i32 : BitVec 32 := 0#32
  ![v1.toNat, c1_i32.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c4_i32_0 : BitVec 32 := 4#32
  let v1 : BitVec 32 := Scalar.addi v0 c4_i32_0
  let c1_i32 : BitVec 32 := 1#32
  let v2 : BitVec 32 := Scalar.subi v1 c1_i32
  let v3 : BitVec 32 := Scalar.subi v2 arg1
  let c0_i32 : BitVec 32 := 0#32
  let c0_i32_1 : BitVec 32 := 0#32
  ![v3.toNat, c0_i32.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c4_i32_0 : BitVec 32 := 4#32
  let v1 : BitVec 32 := Scalar.addi v0 c4_i32_0
  let c1_i32 : BitVec 32 := 1#32
  let v2 : BitVec 32 := Scalar.subi v1 c1_i32
  let v3 : BitVec 32 := Scalar.subi v2 arg1
  let c1_i32_1 : BitVec 32 := 1#32
  let c0_i32 : BitVec 32 := 0#32
  ![v3.toNat, c1_i32_1.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c4_i32_0 : BitVec 32 := 4#32
  let v1 : BitVec 32 := Scalar.addi v0 c4_i32_0
  let c1_i32 : BitVec 32 := 1#32
  let v2 : BitVec 32 := Scalar.subi v1 c1_i32
  let v3 : BitVec 32 := Scalar.subi v2 arg1
  let c1_i32_1 : BitVec 32 := 1#32
  let c0_i32 : BitVec 32 := 0#32
  ![v3.toNat, c1_i32_1.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c4_i32_0 : BitVec 32 := 4#32
  let v1 : BitVec 32 := Scalar.addi v0 c4_i32_0
  let c1_i32 : BitVec 32 := 1#32
  let v2 : BitVec 32 := Scalar.subi v1 c1_i32
  let v3 : BitVec 32 := Scalar.subi v2 arg1
  let c0_i32 : BitVec 32 := 0#32
  let c0_i32_1 : BitVec 32 := 0#32
  ![v3.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c4_i32_0 : BitVec 32 := 4#32
  let v1 : BitVec 32 := Scalar.addi v0 c4_i32_0
  let c1_i32 : BitVec 32 := 1#32
  let v2 : BitVec 32 := Scalar.subi v1 c1_i32
  let v3 : BitVec 32 := Scalar.subi v2 arg1
  let c0_i32 : BitVec 32 := 0#32
  let c0_i32_1 : BitVec 32 := 0#32
  ![v3.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference2Ideal.lean ====
abbrev S16x2048x3600 : Shape := ⟨3, ![16, 2048, 3600]⟩
abbrev S16 : Shape := ⟨1, ![16]⟩
abbrev S16x2048x3088 : Shape := ⟨3, ![16, 2048, 3088]⟩
abbrev S16x2048x512 : Shape := ⟨3, ![16, 2048, 512]⟩
abbrev S16x2048x1024 : Shape := ⟨3, ![16, 2048, 1024]⟩
abbrev S16x2048x16 : Shape := ⟨3, ![16, 2048, 16]⟩
abbrev S16x2048x4x128 : Shape := ⟨4, ![16, 2048, 4, 128]⟩
abbrev S_ : Shape := ⟨0, ![]⟩
abbrev S16x2048x4x256 : Shape := ⟨4, ![16, 2048, 4, 256]⟩
abbrev S1x1x16 : Shape := ⟨3, ![1, 1, 16]⟩
abbrev S16x2048x4 : Shape := ⟨3, ![16, 2048, 4]⟩
abbrev S2048x2048 : Shape := ⟨2, ![2048, 2048]⟩
abbrev S16x4x2048 : Shape := ⟨3, ![16, 4, 2048]⟩
abbrev S16x4x2048x1 : Shape := ⟨4, ![16, 4, 2048, 1]⟩
abbrev S16x4x1x2048 : Shape := ⟨4, ![16, 4, 1, 2048]⟩
abbrev S16x4x2048x2048 : Shape := ⟨4, ![16, 4, 2048, 2048]⟩
abbrev S16x4x256x2048 : Shape := ⟨4, ![16, 4, 256, 2048]⟩
abbrev S16x2048x4x1 : Shape := ⟨4, ![16, 2048, 4, 1]⟩
abbrev S32768x1024 : Shape := ⟨2, ![32768, 1024]⟩

abbrev nBuf : Space → Nat
  | .hbm => 141
  | .vmem => 0
  | .smem => 0
  | _ => 0

abbrev hbmTy0_0 (i : Nat) : BufTy := match i % 128 with
  | 0 => ⟨S16x2048x3600, .f32⟩
  | 1 => ⟨S16, .f32⟩
  | 2 => ⟨S16x2048x3088, .f32⟩
  | 3 => ⟨S16x2048x512, .f32⟩
  | 4 => ⟨S16x2048x512, .f32⟩
  | 5 => ⟨S16x2048x1024, .f32⟩
  | 6 => ⟨S16x2048x1024, .f32⟩
  | 7 => ⟨S16x2048x16, .f32⟩
  | 8 => ⟨S16x2048x4x128, .f32⟩
  | 9 => ⟨S_, .f32⟩
  | 10 => ⟨S16x2048x4x128, .f32⟩
  | 11 => ⟨S16x2048x4x128, .f32⟩
  | 12 => ⟨S16x2048x4x128, .f32⟩
  | 13 => ⟨S16x2048x4x256, .f32⟩
  | 14 => ⟨S1x1x16, .f32⟩
  | 15 => ⟨S16x2048x16, .f32⟩
  | 16 => ⟨S16x2048x16, .f32⟩
  | 17 => ⟨S16x2048x4, .f32⟩
  | 18 => ⟨S16x2048x4, .f32⟩
  | 19 => ⟨S16x2048x4, .f32⟩
  | 20 => ⟨S16x2048x4, .f32⟩
  | 21 => ⟨S_, .i1⟩
  | 22 => ⟨S2048x2048, .i1⟩
  | 23 => ⟨S2048x2048, .i32⟩
  | 24 => ⟨S_, .i32⟩
  | 25 => ⟨S2048x2048, .i32⟩
  | 26 => ⟨S2048x2048, .i32⟩
  | 27 => ⟨S2048x2048, .i32⟩
  | 28 => ⟨S2048x2048, .i1⟩
  | 29 => ⟨S_, .i1⟩
  | 30 => ⟨S2048x2048, .i1⟩
  | 31 => ⟨S2048x2048, .i1⟩
  | 32 => ⟨S_, .i1⟩
  | 33 => ⟨S2048x2048, .i1⟩
  | 34 => ⟨S2048x2048, .i32⟩
  | 35 => ⟨S_, .i32⟩
  | 36 => ⟨S2048x2048, .i32⟩
  | 37 => ⟨S2048x2048, .i32⟩
  | 38 => ⟨S2048x2048, .i32⟩
  | 39 => ⟨S2048x2048, .i1⟩
  | 40 => ⟨S_, .i1⟩
  | 41 => ⟨S2048x2048, .i1⟩
  | 42 => ⟨S2048x2048, .i1⟩
  | 43 => ⟨S16x2048x4, .f32⟩
  | 44 => ⟨S_, .f32⟩
  | 45 => ⟨S16x2048x4, .f32⟩
  | 46 => ⟨S16x2048x4, .f32⟩
  | 47 => ⟨S16x2048x4, .f32⟩
  | 48 => ⟨S16x2048x4, .f32⟩
  | 49 => ⟨S16x2048x4, .i1⟩
  | 50 => ⟨S16x2048x4, .f32⟩
  | 51 => ⟨S16x2048x4, .f32⟩
  | 52 => ⟨S16x2048x4, .f32⟩
  | 53 => ⟨S16x2048x4, .f32⟩
  | 54 => ⟨S16x2048x4, .f32⟩
  | 55 => ⟨S16x2048x4, .f32⟩
  | 56 => ⟨S16x2048x4, .f32⟩
  | 57 => ⟨S16x2048x4, .f32⟩
  | 58 => ⟨S16x2048x4, .f32⟩
  | 59 => ⟨S2048x2048, .f32⟩
  | 60 => ⟨S16x4x2048, .f32⟩
  | 61 => ⟨S16x4x2048x1, .f32⟩
  | 62 => ⟨S16x4x1x2048, .f32⟩
  | 63 => ⟨S16x4x2048x2048, .f32⟩
  | 64 => ⟨S16x4x2048x2048, .f32⟩
  | 65 => ⟨S16x4x2048x2048, .f32⟩
  | 66 => ⟨S16x4x2048, .f32⟩
  | 67 => ⟨S16x4x1x2048, .f32⟩
  | 68 => ⟨S16x4x2048x2048, .f32⟩
  | 69 => ⟨S16x4x2048x2048, .f32⟩
  | 70 => ⟨S_, .f32⟩
  | 71 => ⟨S_, .f32⟩
  | 72 => ⟨S16x4x2048x2048, .i1⟩
  | 73 => ⟨S16x4x2048x2048, .f32⟩
  | 74 => ⟨S16x4x2048x2048, .f32⟩
  | 75 => ⟨S16x4x2048x2048, .f32⟩
  | 76 => ⟨S16x4x2048x2048, .f32⟩
  | 77 => ⟨S16x4x2048x2048, .f32⟩
  | 78 => ⟨S16x4x256x2048, .f32⟩
  | 79 => ⟨S16x2048x4x256, .f32⟩
  | 80 => ⟨S_, .f32⟩
  | 81 => ⟨S16x4x2048, .f32⟩
  | 82 => ⟨S16x2048x4, .f32⟩
  | 83 => ⟨S16x2048x4, .f32⟩
  | 84 => ⟨S_, .f32⟩
  | 85 => ⟨S16x2048x4, .f32⟩
  | 86 => ⟨S16x2048x4, .f32⟩
  | 87 => ⟨S16x2048x4x1, .f32⟩
  | 88 => ⟨S16x2048x4x256, .f32⟩
  | 89 => ⟨S16x2048x4x256, .f32⟩
  | 90 => ⟨S16x2048x4, .f32⟩
  | 91 => ⟨S_, .f32⟩
  | 92 => ⟨S16x2048x4, .f32⟩
  | 93 => ⟨S16x2048x4, .f32⟩
  | 94 => ⟨S16x2048x4, .f32⟩
  | 95 => ⟨S16x2048x4, .f32⟩
  | 96 => ⟨S16x2048x4, .i1⟩
  | 97 => ⟨S16x2048x4, .f32⟩
  | 98 => ⟨S16x2048x4, .f32⟩
  | 99 => ⟨S16x2048x4, .f32⟩
  | 100 => ⟨S16x2048x4, .f32⟩
  | 101 => ⟨S16x2048x4, .f32⟩
  | 102 => ⟨S16x2048x4, .f32⟩
  | 103 => ⟨S16x2048x4, .f32⟩
  | 104 => ⟨S16x2048x4, .f32⟩
  | 105 => ⟨S16x2048x4, .f32⟩
  | 106 => ⟨S2048x2048, .f32⟩
  | 107 => ⟨S16x4x2048, .f32⟩
  | 108 => ⟨S16x4x2048x1, .f32⟩
  | 109 => ⟨S16x4x1x2048, .f32⟩
  | 110 => ⟨S16x4x2048x2048, .f32⟩
  | 111 => ⟨S16x4x2048x2048, .f32⟩
  | 112 => ⟨S16x4x2048x2048, .f32⟩
  | 113 => ⟨S16x4x2048, .f32⟩
  | 114 => ⟨S16x4x1x2048, .f32⟩
  | 115 => ⟨S16x4x2048x2048, .f32⟩
  | 116 => ⟨S16x4x2048x2048, .f32⟩
  | 117 => ⟨S_, .f32⟩
  | 118 => ⟨S_, .f32⟩
  | 119 => ⟨S16x4x2048x2048, .i1⟩
  | 120 => ⟨S16x4x2048x2048, .f32⟩
  | 121 => ⟨S16x4x2048x2048, .f32⟩
  | 122 => ⟨S16x4x2048x2048, .f32⟩
  | 123 => ⟨S16x4x2048x2048, .f32⟩
  | 124 => ⟨S16x4x2048x2048, .f32⟩
  | 125 => ⟨S16x4x256x2048, .f32⟩
  | 126 => ⟨S16x2048x4x256, .f32⟩
  | 127 => ⟨S_, .f32⟩
  | _ => ⟨S16x2048x3600, .f32⟩

abbrev hbmTy0_1 (i : Nat) : BufTy := match i % 128 with
  | 0 => ⟨S16x4x2048, .f32⟩
  | 1 => ⟨S16x2048x4, .f32⟩
  | 2 => ⟨S16x2048x4, .f32⟩
  | 3 => ⟨S_, .f32⟩
  | 4 => ⟨S16x2048x4, .f32⟩
  | 5 => ⟨S16x2048x4, .f32⟩
  | 6 => ⟨S16x2048x4x1, .f32⟩
  | 7 => ⟨S16x2048x4x256, .f32⟩
  | 8 => ⟨S16x2048x4x256, .f32⟩
  | 9 => ⟨S32768x1024, .f32⟩
  | 10 => ⟨S32768x1024, .bf16⟩
  | 11 => ⟨S32768x1024, .f32⟩
  | 12 => ⟨S32768x1024, .bf16⟩
  | _ => ⟨S16x2048x3600, .f32⟩

abbrev hbmTy (i : Nat) : BufTy := match i / 128 with
  | 0 => hbmTy0_0 i
  | 1 => hbmTy0_1 i
  | _ => ⟨S16x2048x3600, .f32⟩

abbrev bufTy : (tb : Table) → Fin (tcTables nBuf tb) → BufTy
  | .hbm, ⟨i, _⟩ => hbmTy i
  | _, _ => ⟨S16x2048x3600, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_c : Ref sig .tc := ⟨.hbm, 21, rfl⟩
abbrev main_v18 : Ref sig .tc := ⟨.hbm, 22, rfl⟩
abbrev main_call0_v0 : Ref sig .tc := ⟨.hbm, 23, rfl⟩
abbrev main_call0_c : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_c_0 : Ref sig .tc := ⟨.hbm, 29, rfl⟩
abbrev main_call0_v5 : Ref sig .tc := ⟨.hbm, 30, rfl⟩
abbrev main_v19 : Ref sig .tc := ⟨.hbm, 31, rfl⟩
abbrev main_c_0 : Ref sig .tc := ⟨.hbm, 32, rfl⟩
abbrev main_v20 : Ref sig .tc := ⟨.hbm, 33, rfl⟩
abbrev main_call1_v0 : Ref sig .tc := ⟨.hbm, 34, rfl⟩
abbrev main_call1_c : Ref sig .tc := ⟨.hbm, 35, rfl⟩
abbrev main_call1_v1 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_c_0 : Ref sig .tc := ⟨.hbm, 40, rfl⟩
abbrev main_call1_v5 : Ref sig .tc := ⟨.hbm, 41, rfl⟩
abbrev main_v21 : Ref sig .tc := ⟨.hbm, 42, rfl⟩
abbrev main_call2_v0 : Ref sig .tc := ⟨.hbm, 43, rfl⟩
abbrev main_call2_call0_cst : Ref sig .tc := ⟨.hbm, 44, rfl⟩
abbrev main_call2_call0_v0 : Ref sig .tc := ⟨.hbm, 45, rfl⟩
abbrev main_call2_call0_v1 : Ref sig .tc := ⟨.hbm, 46, rfl⟩
abbrev main_call2_call0_v2 : Ref sig .tc := ⟨.hbm, 47, rfl⟩
abbrev main_call2_call0_v3 : Ref sig .tc := ⟨.hbm, 48, rfl⟩
abbrev main_call2_call0_v4 : Ref sig .tc := ⟨.hbm, 49, rfl⟩
abbrev main_call2_call0_v5 : Ref sig .tc := ⟨.hbm, 50, rfl⟩
abbrev main_call2_call0_v6 : Ref sig .tc := ⟨.hbm, 51, rfl⟩
abbrev main_call2_call0_v7 : Ref sig .tc := ⟨.hbm, 52, rfl⟩
abbrev main_call2_call0_v8 : Ref sig .tc := ⟨.hbm, 53, rfl⟩
abbrev main_call2_call0_v9 : Ref sig .tc := ⟨.hbm, 54, rfl⟩
abbrev main_call2_call0_v10 : Ref sig .tc := ⟨.hbm, 55, rfl⟩
abbrev main_call2_call0_v11 : Ref sig .tc := ⟨.hbm, 56, rfl⟩
abbrev main_call2_v1 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_cst_1 : Ref sig .tc := ⟨.hbm, 70, rfl⟩
abbrev main_call3_v0 : Ref sig .tc := ⟨.hbm, 71, rfl⟩
abbrev main_call3_v1 : Ref sig .tc := ⟨.hbm, 72, rfl⟩
abbrev main_call3_v2 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_cst_2 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_cst_3 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_call4_v0 : Ref sig .tc := ⟨.hbm, 90, rfl⟩
abbrev main_call4_call0_cst : Ref sig .tc := ⟨.hbm, 91, rfl⟩
abbrev main_call4_call0_v0 : Ref sig .tc := ⟨.hbm, 92, rfl⟩
abbrev main_call4_call0_v1 : Ref sig .tc := ⟨.hbm, 93, rfl⟩
abbrev main_call4_call0_v2 : Ref sig .tc := ⟨.hbm, 94, rfl⟩
abbrev main_call4_call0_v3 : Ref sig .tc := ⟨.hbm, 95, rfl⟩
abbrev main_call4_call0_v4 : Ref sig .tc := ⟨.hbm, 96, rfl⟩
abbrev main_call4_call0_v5 : Ref sig .tc := ⟨.hbm, 97, rfl⟩
abbrev main_call4_call0_v6 : Ref sig .tc := ⟨.hbm, 98, rfl⟩
abbrev main_call4_call0_v7 : Ref sig .tc := ⟨.hbm, 99, rfl⟩
abbrev main_call4_call0_v8 : Ref sig .tc := ⟨.hbm, 100, rfl⟩
abbrev main_call4_call0_v9 : Ref sig .tc := ⟨.hbm, 101, rfl⟩
abbrev main_call4_call0_v10 : Ref sig .tc := ⟨.hbm, 102, rfl⟩
abbrev main_call4_call0_v11 : Ref sig .tc := ⟨.hbm, 103, rfl⟩
abbrev main_call4_v1 : Ref sig .tc := ⟨.hbm, 104, rfl⟩
abbrev main_v48 : Ref sig .tc := ⟨.hbm, 105, rfl⟩
abbrev main_v49 : Ref sig .tc := ⟨.hbm, 106, rfl⟩
abbrev main_v50 : Ref sig .tc := ⟨.hbm, 107, rfl⟩
abbrev main_v51 : Ref sig .tc := ⟨.hbm, 108, rfl⟩
abbrev main_v52 : Ref sig .tc := ⟨.hbm, 109, rfl⟩
abbrev main_v53 : Ref sig .tc := ⟨.hbm, 110, rfl⟩
abbrev main_v54 : Ref sig .tc := ⟨.hbm, 111, rfl⟩
abbrev main_v55 : Ref sig .tc := ⟨.hbm, 112, rfl⟩
abbrev main_v56 : Ref sig .tc := ⟨.hbm, 113, rfl⟩
abbrev main_v57 : Ref sig .tc := ⟨.hbm, 114, rfl⟩
abbrev main_v58 : Ref sig .tc := ⟨.hbm, 115, rfl⟩
abbrev main_v59 : Ref sig .tc := ⟨.hbm, 116, rfl⟩
abbrev main_cst_4 : Ref sig .tc := ⟨.hbm, 117, rfl⟩
abbrev main_call5_v0 : Ref sig .tc := ⟨.hbm, 118, rfl⟩
abbrev main_call5_v1 : Ref sig .tc := ⟨.hbm, 119, rfl⟩
abbrev main_call5_v2 : Ref sig .tc := ⟨.hbm, 120, rfl⟩
abbrev main_v60 : Ref sig .tc := ⟨.hbm, 121, rfl⟩
abbrev main_v61 : Ref sig .tc := ⟨.hbm, 122, rfl⟩
abbrev main_v62 : Ref sig .tc := ⟨.hbm, 123, rfl⟩
abbrev main_v63 : Ref sig .tc := ⟨.hbm, 124, rfl⟩
abbrev main_v64 : Ref sig .tc := ⟨.hbm, 125, rfl⟩
abbrev main_v65 : Ref sig .tc := ⟨.hbm, 126, rfl⟩
abbrev main_cst_5 : Ref sig .tc := ⟨.hbm, 127, rfl⟩
abbrev main_v66 : Ref sig .tc := ⟨.hbm, 128, rfl⟩
abbrev main_v67 : Ref sig .tc := ⟨.hbm, 129, rfl⟩
abbrev main_v68 : Ref sig .tc := ⟨.hbm, 130, rfl⟩
abbrev main_cst_6 : Ref sig .tc := ⟨.hbm, 131, rfl⟩
abbrev main_v69 : Ref sig .tc := ⟨.hbm, 132, rfl⟩
abbrev main_v70 : Ref sig .tc := ⟨.hbm, 133, rfl⟩
abbrev main_v71 : Ref sig .tc := ⟨.hbm, 134, rfl⟩
abbrev main_v72 : Ref sig .tc := ⟨.hbm, 135, rfl⟩
abbrev main_v73 : Ref sig .tc := ⟨.hbm, 136, rfl⟩
abbrev main_v74 : Ref sig .tc := ⟨.hbm, 137, rfl⟩
abbrev main_v75 : Ref sig .tc := ⟨.hbm, 138, rfl⟩
abbrev main_v76 : Ref sig .tc := ⟨.hbm, 139, rfl⟩
abbrev main_v77 : Ref sig .tc := ⟨.hbm, 140, rfl⟩

abbrev nD : Nat := 1
abbrev τ : Topo := Topo.v7x

variable {F : FTy → Type} [FloatOps F]
-- ==== Kernel3.lean ====
abbrev S2x8192x1024 : Shape := ⟨3, ![2, 8192, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S16384x1024 : Shape := ⟨2, ![16384, 1024]⟩
abbrev S1x1024 : Shape := ⟨2, ![1, 1024]⟩
abbrev S1x5632 : Shape := ⟨2, ![1, 5632]⟩
abbrev S1024x1024 : Shape := ⟨2, ![1024, 1024]⟩
abbrev S16x1024 : Shape := ⟨2, ![16, 1024]⟩
abbrev S1056x1024 : Shape := ⟨2, ![1056, 1024]⟩
abbrev S1024x2816 : Shape := ⟨2, ![1024, 2816]⟩
abbrev S16 : Shape := ⟨1, ![16]⟩
abbrev S16x1 : Shape := ⟨2, ![16, 1]⟩
abbrev S1024x1 : Shape := ⟨2, ![1024, 1]⟩
abbrev S1024x256 : Shape := ⟨2, ![1024, 256]⟩
abbrev S1056x256 : Shape := ⟨2, ![1056, 256]⟩
abbrev S1x256 : Shape := ⟨2, ![1, 256]⟩

abbrev nBuf : Space → Nat
  | .hbm => 14
  | .vmem => 16
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x5632, .f32⟩
  | .hbm, ⟨3, _⟩ => ⟨S3x5632, .f32⟩
  | .hbm, ⟨4, _⟩ => ⟨S5632, .f32⟩
  | .hbm, ⟨5, _⟩ => ⟨S2816x1024, .f32⟩
  | .hbm, ⟨6, _⟩ => ⟨S1024, .f32⟩
  | .hbm, ⟨7, _⟩ => ⟨S16384x1024, .f32⟩
  | .hbm, ⟨8, _⟩ => ⟨S1024x5632, .bf16⟩
  | .hbm, ⟨9, _⟩ => ⟨S2816x1024, .bf16⟩
  | .hbm, ⟨10, _⟩ => ⟨S1x1024, .f32⟩
  | .hbm, ⟨11, _⟩ => ⟨S1x5632, .f32⟩
  | .hbm, ⟨12, _⟩ => ⟨S1x1024, .f32⟩
  | .hbm, ⟨13, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S16x1024, .f32⟩
  | .local _ .vmem, ⟨3, _⟩ => ⟨S16x1024, .f32⟩
  | .local _ .vmem, ⟨4, _⟩ => ⟨S16x1024, .f32⟩
  | .local _ .vmem, ⟨5, _⟩ => ⟨S16x1024, .f32⟩
  | .local _ .vmem, ⟨6, _⟩ => ⟨S1x1024, .f32⟩
  | .local _ .vmem, ⟨7, _⟩ => ⟨S1024x5632, .bf16⟩
  | .local _ .vmem, ⟨8, _⟩ => ⟨S3x5632, .f32⟩
  | .local _ .vmem, ⟨9, _⟩ => ⟨S1x5632, .f32⟩
  | .local _ .vmem, ⟨10, _⟩ => ⟨S2816x1024, .bf16⟩
  | .local _ .vmem, ⟨11, _⟩ => ⟨S1x1024, .f32⟩
  | .local _ .vmem, ⟨12, _⟩ => ⟨S1024x1024, .f32⟩
  | .local _ .vmem, ⟨13, _⟩ => ⟨S1024x1024, .f32⟩
  | .local _ .vmem, ⟨14, _⟩ => ⟨S1056x1024, .bf16⟩
  | .local _ .vmem, ⟨15, _⟩ => ⟨S1024x2816, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c64_i32 : BitVec 32 := 64#32
  let v2 : BitVec 32 := Scalar.muli v1 c64_i32
  let c1_i32 : BitVec 32 := 1#32
  let v3 : BitVec 32 := Scalar.subi v2 c1_i32
  let c0_i32 : BitVec 32 := 0#32
  let v4 : BitVec 32 := Scalar.maxsi v3 c0_i32
  let c0_i32_0 : BitVec 32 := 0#32
  let c0_i32_1 : BitVec 32 := 0#32
  ![v4.toNat, c0_i32_0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c1_i32 : BitVec 32 := 1#32
  let v2 : BitVec 32 := Scalar.addi v1 c1_i32
  let c64_i32 : BitVec 32 := 64#32
  let v3 : BitVec 32 := Scalar.muli v2 c64_i32
  let c1023_i32 : BitVec 32 := 1023#32
  let v4 : BitVec 32 := Scalar.minsi v3 c1023_i32
  let c0_i32 : BitVec 32 := 0#32
  let c0_i32_0 : BitVec 32 := 0#32
  ![v4.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S3x5632 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x5632 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference3Ideal.lean ====
abbrev S2x8192x1024 : Shape := ⟨3, ![2, 8192, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x5632 : Shape := ⟨3, ![2, 8192, 5632]⟩
abbrev S2x8194x5632 : Shape := ⟨3, ![2, 8194, 5632]⟩
abbrev S1x5632 : Shape := ⟨2, ![1, 5632]⟩
abbrev S1x1x5632 : Shape := ⟨3, ![1, 1, 5632]⟩
abbrev S2x8192x2816 : Shape := ⟨3, ![2, 8192, 2816]⟩
abbrev S16384x1024 : Shape := ⟨2, ![16384, 1024]⟩

abbrev nBuf : Space → Nat
  | .hbm => 81
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x5632, .f32⟩
  | .hbm, ⟨3, _⟩ => ⟨S3x5632, .f32⟩
  | .hbm, ⟨4, _⟩ => ⟨S5632, .f32⟩
  | .hbm, ⟨5, _⟩ => ⟨S2816x1024, .f32⟩
  | .hbm, ⟨6, _⟩ => ⟨S1024, .f32⟩
  | .hbm, ⟨7, _⟩ => ⟨S2x8192x1024, .f32⟩
  | .hbm, ⟨8, _⟩ => ⟨S_, .f32⟩
  | .hbm, ⟨9, _⟩ => ⟨S2x8192, .f32⟩
  | .hbm, ⟨10, _⟩ => ⟨S2x8192x1, .f32⟩
  | .hbm, ⟨11, _⟩ => ⟨S_, .f32⟩
  | .hbm, ⟨12, _⟩ => ⟨S2x8192x1, .f32⟩
  | .hbm, ⟨13, _⟩ => ⟨S2x8192x1, .f32⟩
  | .hbm, ⟨14, _⟩ => ⟨S_, .f32⟩
  | .hbm, ⟨15, _⟩ => ⟨S2x8192x1, .f32⟩
  | .hbm, ⟨16, _⟩ => ⟨S2x8192x1, .f32⟩
  | .hbm, ⟨17, _⟩ => ⟨S2x8192x1, .f32⟩
  | .hbm, ⟨18, _⟩ => ⟨S2x8192x1024, .f32⟩
  | .hbm, ⟨19, _⟩ => ⟨S2x8192x1024, .f32⟩
  | .hbm, ⟨20, _⟩ => ⟨S1x1x1024, .f32⟩
  | .hbm, ⟨21, _⟩ => ⟨S2x8192x1024, .f32⟩
  | .hbm, ⟨22, _⟩ => ⟨S2x8192x1024, .f32⟩
  | .hbm, ⟨23, _⟩ => ⟨S2x8192x5632, .f32⟩
  | .hbm, ⟨24, _⟩ => ⟨S_, .i32⟩
  | .hbm, ⟨25, _⟩ => ⟨S_, .f32⟩
  | .hbm, ⟨26, _⟩ => ⟨S2x8194x5632, .f32⟩
  | .hbm, ⟨27, _⟩ => ⟨S2x8192x5632, .f32⟩
  | .hbm, ⟨28, _⟩ => ⟨S1x5632, .f32⟩
  | .hbm, ⟨29, _⟩ => ⟨S5632, .f32⟩
  | .hbm, ⟨30, _⟩ => ⟨S1x1x5632, .f32⟩
  | .hbm, ⟨31, _⟩ => ⟨S2x8192x5632, .f32⟩
  | .hbm, ⟨32, _⟩ => ⟨S2x8192x5632, .f32⟩
  | .hbm, ⟨33, _⟩ => ⟨S2x8192x5632, .f32⟩
  | .hbm, ⟨34, _⟩ => ⟨S1x5632, .f32⟩
  | .hbm, ⟨35, _⟩ => ⟨S5632, .f32⟩
  | .hbm, ⟨36, _⟩ => ⟨S1x1x5632, .f32⟩
  | .hbm, ⟨37, _⟩ => ⟨S2x8192x5632, .f32⟩
  | .hbm, ⟨38, _⟩ => ⟨S2x8192x5632, .f32⟩
  | .hbm, ⟨39, _⟩ => ⟨S2x8192x5632, .f32⟩
  | .hbm, ⟨40, _⟩ => ⟨S2x8192x5632, .f32⟩
  | .hbm, ⟨41, _⟩ => ⟨S1x5632, .f32⟩
  | .hbm, ⟨42, _⟩ => ⟨S5632, .f32⟩
  | .hbm, ⟨43, _⟩ => ⟨S1x1x5632, .f32⟩
  | .hbm, ⟨44, _⟩ => ⟨S2x8192x5632, .f32⟩
  | .hbm, ⟨45, _⟩ => ⟨S2x8192x5632, .f32⟩
  | .hbm, ⟨46, _⟩ => ⟨S2x8192x5632, .f32⟩
  | .hbm, ⟨47, _⟩ => ⟨S1x1x5632, .f32⟩
  | .hbm, ⟨48, _⟩ => ⟨S2x8192x5632, .f32⟩
  | .hbm, ⟨49, _⟩ => ⟨S2x8192x5632, .f32⟩
  | .hbm, ⟨50, _⟩ => ⟨S2x8192x2816, .f32⟩
  | .hbm, ⟨51, _⟩ => ⟨S2x8192x2816, .f32⟩
  | .hbm, ⟨52, _⟩ => ⟨S2x8192x2816, .f32⟩
  | .hbm, ⟨53, _⟩ => ⟨S2x8192x2816, .f32⟩
  | .hbm, ⟨54, _⟩ => ⟨S_, .f32⟩
  | .hbm, ⟨55, _⟩ => ⟨S2x8192x2816, .f32⟩
  | .hbm, ⟨56, _⟩ => ⟨S2x8192x2816, .f32⟩
  | .hbm, ⟨57, _⟩ => ⟨S_, .f32⟩
  | .hbm, ⟨58, _⟩ => ⟨S2x8192x2816, .f32⟩
  | .hbm, ⟨59, _⟩ => ⟨S2x8192x2816, .f32⟩
  | .hbm, ⟨60, _⟩ => ⟨S2x8192x2816, .f32⟩
  | .hbm, ⟨61, _⟩ => ⟨S2x8192x2816, .f32⟩
  | .hbm, ⟨62, _⟩ => ⟨S2x8192x1024, .f32⟩
  | .hbm, ⟨63, _⟩ => ⟨S2x8192x1024, .f32⟩
  | .hbm, ⟨64, _⟩ => ⟨S_, .f32⟩
  | .hbm, ⟨65, _⟩ => ⟨S2x8192, .f32⟩
  | .hbm, ⟨66, _⟩ => ⟨S2x8192x1, .f32⟩
  | .hbm, ⟨67, _⟩ => ⟨S_, .f32⟩
  | .hbm, ⟨68, _⟩ => ⟨S2x8192x1, .f32⟩
  | .hbm, ⟨69, _⟩ => ⟨S2x8192x1, .f32⟩
  | .hbm, ⟨70, _⟩ => ⟨S_, .f32⟩
  | .hbm, ⟨71, _⟩ => ⟨S2x8192x1, .f32⟩
  | .hbm, ⟨72, _⟩ => ⟨S2x8192x1, .f32⟩
  | .hbm, ⟨73, _⟩ => ⟨S2x8192x1, .f32⟩
  | .hbm, ⟨74, _⟩ => ⟨S2x8192x1024, .f32⟩
  | .hbm, ⟨75, _⟩ => ⟨S2x8192x1024, .f32⟩
  | .hbm, ⟨76, _⟩ => ⟨S1x1x1024, .f32⟩
  | .hbm, ⟨77, _⟩ => ⟨S2x8192x1024, .f32⟩
  | .hbm, ⟨78, _⟩ => ⟨S2x8192x1024, .f32⟩
  | .hbm, ⟨79, _⟩ => ⟨S2x8192x1024, .f32⟩
  | .hbm, ⟨80, _⟩ => ⟨S16384x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c : Ref sig .tc := ⟨.hbm, 24, rfl⟩
abbrev main_call0_v0 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_call1_v0 : Ref sig .tc := ⟨.hbm, 52, rfl⟩
abbrev main_call1_v1 : Ref sig .tc := ⟨.hbm, 53, rfl⟩
abbrev main_call1_cst : Ref sig .tc := ⟨.hbm, 54, rfl⟩
abbrev main_call1_v2 : Ref sig .tc := ⟨.hbm, 55, rfl⟩
abbrev main_call1_v3 : Ref sig .tc := ⟨.hbm, 56, rfl⟩
abbrev main_call1_cst_0 : Ref sig .tc := ⟨.hbm, 57, rfl⟩
abbrev main_call1_v4 : Ref sig .tc := ⟨.hbm, 58, rfl⟩
abbrev main_call1_v5 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_2 : Ref sig .tc := ⟨.hbm, 64, rfl⟩
abbrev main_v44 : Ref sig .tc := ⟨.hbm, 65, rfl⟩
abbrev main_v45 : Ref sig .tc := ⟨.hbm, 66, rfl⟩
abbrev main_cst_3 : Ref sig .tc := ⟨.hbm, 67, rfl⟩
abbrev main_v46 : Ref sig .tc := ⟨.hbm, 68, rfl⟩
abbrev main_v47 : Ref sig .tc := ⟨.hbm, 69, rfl⟩
abbrev main_cst_4 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩

abbrev nD : Nat := 1
abbrev τ : Topo := Topo.v7x

variable {F : FTy → Type} [FloatOps F]
-- ==== Kernel4.lean ====
abbrev S16x2048x1024 : Shape := ⟨3, ![16, 2048, 1024]⟩
abbrev S1024 : Shape := ⟨1, ![1024]⟩
abbrev S1024x3600 : Shape := ⟨2, ![1024, 3600]⟩
abbrev S1024x3072 : Shape := ⟨2, ![1024, 3072]⟩
abbrev S1024x512 : Shape := ⟨2, ![1024, 512]⟩
abbrev S1024x3584 : Shape := ⟨2, ![1024, 3584]⟩
abbrev S1024x16 : Shape := ⟨2, ![1024, 16]⟩
abbrev S_ : Shape := ⟨0, ![]⟩
abbrev S1024x120 : Shape := ⟨2, ![1024, 120]⟩
abbrev S1024x4 : Shape := ⟨2, ![1024, 4]⟩
abbrev S1024x256 : Shape := ⟨2, ![1024, 256]⟩
abbrev S32768x1024 : Shape := ⟨2, ![32768, 1024]⟩
abbrev S1x1024 : Shape := ⟨2, ![1, 1024]⟩
abbrev S32768x3584 : Shape := ⟨2, ![32768, 3584]⟩
abbrev S32768x256 : Shape := ⟨2, ![32768, 256]⟩
abbrev S512x1024 : Shape := ⟨2, ![512, 1024]⟩
abbrev S512x3584 : Shape := ⟨2, ![512, 3584]⟩
abbrev S512x256 : Shape := ⟨2, ![512, 256]⟩
abbrev S512 : Shape := ⟨1, ![512]⟩
abbrev S512x1 : Shape := ⟨2, ![512, 1]⟩
abbrev S512x512 : Shape := ⟨2, ![512, 512]⟩

abbrev nBuf : Space → Nat
  | .hbm => 20
  | .vmem => 9
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x3600, .f32⟩
  | .hbm, ⟨3, _⟩ => ⟨S1024x3072, .f32⟩
  | .hbm, ⟨4, _⟩ => ⟨S1024x512, .f32⟩
  | .hbm, ⟨5, _⟩ => ⟨S1024x3584, .f32⟩
  | .hbm, ⟨6, _⟩ => ⟨S1024x3584, .bf16⟩
  | .hbm, ⟨7, _⟩ => ⟨S1024x16, .f32⟩
  | .hbm, ⟨8, _⟩ => ⟨S_, .f32⟩
  | .hbm, ⟨9, _⟩ => ⟨S1024x120, .f32⟩
  | .hbm, ⟨10, _⟩ => ⟨S1024x4, .f32⟩
  | .hbm, ⟨11, _⟩ => ⟨S1024x4, .f32⟩
  | .hbm, ⟨12, _⟩ => ⟨S1024x4, .f32⟩
  | .hbm, ⟨13, _⟩ => ⟨S1024x4, .f32⟩
  | .hbm, ⟨14, _⟩ => ⟨S1024x256, .f32⟩
  | .hbm, ⟨15, _⟩ => ⟨S1024x256, .bf16⟩
  | .hbm, ⟨16, _⟩ => ⟨S32768x1024, .f32⟩
  | .hbm, ⟨17, _⟩ => ⟨S1x1024, .f32⟩
  | .hbm, ⟨18, _⟩ => ⟨S32768x3584, .bf16⟩
  | .hbm, ⟨19, _⟩ => ⟨S32768x256, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3584, .bf16⟩
  | .local _ .vmem, ⟨4, _⟩ => ⟨S1024x256, .bf16⟩
  | .local _ .vmem, ⟨5, _⟩ => ⟨S512x3584, .bf16⟩
  | .local _ .vmem, ⟨6, _⟩ => ⟨S512x3584, .bf16⟩
  | .local _ .vmem, ⟨7, _⟩ => ⟨S512x256, .f32⟩
  | .local _ .vmem, ⟨8, _⟩ => ⟨S512x256, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14_0 : Ref sig .tc := ⟨.hbm, 18, rfl⟩
abbrev main_v14_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3584 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x3584 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference4Ideal.lean ====
abbrev S16x2048x1024 : Shape := ⟨3, ![16, 2048, 1024]⟩
abbrev S1024 : Shape := ⟨1, ![1024]⟩
abbrev S1024x3600 : Shape := ⟨2, ![1024, 3600]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x3600 : Shape := ⟨3, ![16, 2048, 3600]⟩
abbrev S32768x3600 : Shape := ⟨2, ![32768, 3600]⟩
abbrev S32768x3072 : Shape := ⟨2, ![32768, 3072]⟩
abbrev S32768x512 : Shape := ⟨2, ![32768, 512]⟩
abbrev S32768x3584 : Shape := ⟨2, ![32768, 3584]⟩
abbrev S32768x16 : Shape := ⟨2, ![32768, 16]⟩
abbrev S32768x120 : Shape := ⟨2, ![32768, 120]⟩
abbrev S32768x4 : Shape := ⟨2, ![32768, 4]⟩
abbrev S32768x256 : Shape := ⟨2, ![32768, 256]⟩

abbrev nBuf : Space → Nat
  | .hbm => 33
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x3600, .f32⟩
  | .hbm, ⟨3, _⟩ => ⟨S16x2048x1024, .f32⟩
  | .hbm, ⟨4, _⟩ => ⟨S_, .f32⟩
  | .hbm, ⟨5, _⟩ => ⟨S16x2048, .f32⟩
  | .hbm, ⟨6, _⟩ => ⟨S16x2048x1, .f32⟩
  | .hbm, ⟨7, _⟩ => ⟨S_, .f32⟩
  | .hbm, ⟨8, _⟩ => ⟨S16x2048x1, .f32⟩
  | .hbm, ⟨9, _⟩ => ⟨S16x2048x1, .f32⟩
  | .hbm, ⟨10, _⟩ => ⟨S_, .f32⟩
  | .hbm, ⟨11, _⟩ => ⟨S16x2048x1, .f32⟩
  | .hbm, ⟨12, _⟩ => ⟨S16x2048x1, .f32⟩
  | .hbm, ⟨13, _⟩ => ⟨S16x2048x1, .f32⟩
  | .hbm, ⟨14, _⟩ => ⟨S16x2048x1024, .f32⟩
  | .hbm, ⟨15, _⟩ => ⟨S16x2048x1024, .f32⟩
  | .hbm, ⟨16, _⟩ => ⟨S1x1x1024, .f32⟩
  | .hbm, ⟨17, _⟩ => ⟨S16x2048x1024, .f32⟩
  | .hbm, ⟨18, _⟩ => ⟨S16x2048x1024, .f32⟩
  | .hbm, ⟨19, _⟩ => ⟨S16x2048x3600, .f32⟩
  | .hbm, ⟨20, _⟩ => ⟨S32768x3600, .f32⟩
  | .hbm, ⟨21, _⟩ => ⟨S32768x3072, .f32⟩
  | .hbm, ⟨22, _⟩ => ⟨S32768x512, .f32⟩
  | .hbm, ⟨23, _⟩ => ⟨S32768x3584, .f32⟩
  | .hbm, ⟨24, _⟩ => ⟨S32768x3584, .bf16⟩
  | .hbm, ⟨25, _⟩ => ⟨S32768x16, .f32⟩
  | .hbm, ⟨26, _⟩ => ⟨S_, .f32⟩
  | .hbm, ⟨27, _⟩ => ⟨S32768x120, .f32⟩
  | .hbm, ⟨28, _⟩ => ⟨S32768x4, .f32⟩
  | .hbm, ⟨29, _⟩ => ⟨S32768x4, .f32⟩
  | .hbm, ⟨30, _⟩ => ⟨S32768x4, .f32⟩
  | .hbm, ⟨31, _⟩ => ⟨S32768x4, .f32⟩
  | .hbm, ⟨32, _⟩ => ⟨S32768x256, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩

abbrev nD : Nat := 1
abbrev τ : Topo := Topo.v7x

variable {F : FTy → Type} [FloatOps F]
-- ==== Kernel5.lean ====
abbrev S16x2048x1024 : Shape := ⟨3, ![16, 2048, 1024]⟩
abbrev S1024 : Shape := ⟨1, ![1024]⟩
abbrev S1024x5632 : Shape := ⟨2, ![1024, 5632]⟩
abbrev S1024x2048 : Shape := ⟨2, ![1024, 2048]⟩
abbrev S1024x1536 : Shape := ⟨2, ![1024, 1536]⟩
abbrev S1024x3584 : Shape := ⟨2, ![1024, 3584]⟩
abbrev S32768x1024 : Shape := ⟨2, ![32768, 1024]⟩
abbrev S1x1024 : Shape := ⟨2, ![1, 1024]⟩
abbrev S32768x3584 : Shape := ⟨2, ![32768, 3584]⟩
abbrev S32768x2048 : Shape := ⟨2, ![32768, 2048]⟩
abbrev S512x1024 : Shape := ⟨2, ![512, 1024]⟩
abbrev S512x3584 : Shape := ⟨2, ![512, 3584]⟩
abbrev S512x2048 : Shape := ⟨2, ![512, 2048]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩

abbrev nBuf : Space → Nat
  | .hbm => 13
  | .vmem => 9
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x5632, .f32⟩
  | .hbm, ⟨3, _⟩ => ⟨S1024x2048, .f32⟩
  | .hbm, ⟨4, _⟩ => ⟨S1024x1536, .f32⟩
  | .hbm, ⟨5, _⟩ => ⟨S1024x3584, .f32⟩
  | .hbm, ⟨6, _⟩ => ⟨S1024x3584, .bf16⟩
  | .hbm, ⟨7, _⟩ => ⟨S1024x2048, .f32⟩
  | .hbm, ⟨8, _⟩ => ⟨S1024x2048, .bf16⟩
  | .hbm, ⟨9, _⟩ => ⟨S32768x1024, .f32⟩
  | .hbm, ⟨10, _⟩ => ⟨S1x1024, .f32⟩
  | .hbm, ⟨11, _⟩ => ⟨S32768x3584, .bf16⟩
  | .hbm, ⟨12, _⟩ => ⟨S32768x2048, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3584, .bf16⟩
  | .local _ .vmem, ⟨4, _⟩ => ⟨S1024x2048, .bf16⟩
  | .local _ .vmem, ⟨5, _⟩ => ⟨S512x3584, .bf16⟩
  | .local _ .vmem, ⟨6, _⟩ => ⟨S512x3584, .bf16⟩
  | .local _ .vmem, ⟨7, _⟩ => ⟨S512x2048, .f32⟩
  | .local _ .vmem, ⟨8, _⟩ => ⟨S512x2048, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8_0 : Ref sig .tc := ⟨.hbm, 11, rfl⟩
abbrev main_v8_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3584 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x3584 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference5Ideal.lean ====
abbrev S16x2048x1024 : Shape := ⟨3, ![16, 2048, 1024]⟩
abbrev S1024 : Shape := ⟨1, ![1024]⟩
abbrev S1024x5632 : Shape := ⟨2, ![1024, 5632]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x5632 : Shape := ⟨3, ![16, 2048, 5632]⟩
abbrev S32768x5632 : Shape := ⟨2, ![32768, 5632]⟩
abbrev S32768x2048 : Shape := ⟨2, ![32768, 2048]⟩
abbrev S32768x1536 : Shape := ⟨2, ![32768, 1536]⟩
abbrev S32768x3584 : Shape := ⟨2, ![32768, 3584]⟩

abbrev nBuf : Space → Nat
  | .hbm => 26
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x5632, .f32⟩
  | .hbm, ⟨3, _⟩ => ⟨S16x2048x1024, .f32⟩
  | .hbm, ⟨4, _⟩ => ⟨S_, .f32⟩
  | .hbm, ⟨5, _⟩ => ⟨S16x2048, .f32⟩
  | .hbm, ⟨6, _⟩ => ⟨S16x2048x1, .f32⟩
  | .hbm, ⟨7, _⟩ => ⟨S_, .f32⟩
  | .hbm, ⟨8, _⟩ => ⟨S16x2048x1, .f32⟩
  | .hbm, ⟨9, _⟩ => ⟨S16x2048x1, .f32⟩
  | .hbm, ⟨10, _⟩ => ⟨S_, .f32⟩
  | .hbm, ⟨11, _⟩ => ⟨S16x2048x1, .f32⟩
  | .hbm, ⟨12, _⟩ => ⟨S16x2048x1, .f32⟩
  | .hbm, ⟨13, _⟩ => ⟨S16x2048x1, .f32⟩
  | .hbm, ⟨14, _⟩ => ⟨S16x2048x1024, .f32⟩
  | .hbm, ⟨15, _⟩ => ⟨S16x2048x1024, .f32⟩
  | .hbm, ⟨16, _⟩ => ⟨S1x1x1024, .f32⟩
  | .hbm, ⟨17, _⟩ => ⟨S16x2048x1024, .f32⟩
  | .hbm, ⟨18, _⟩ => ⟨S16x2048x1024, .f32⟩
  | .hbm, ⟨19, _⟩ => ⟨S16x2048x5632, .f32⟩
  | .hbm, ⟨20, _⟩ => ⟨S32768x5632, .f32⟩
  | .hbm, ⟨21, _⟩ => ⟨S32768x2048, .f32⟩
  | .hbm, ⟨22, _⟩ => ⟨S32768x1536, .f32⟩
  | .hbm, ⟨23, _⟩ => ⟨S32768x3584, .f32⟩
  | .hbm, ⟨24, _⟩ => ⟨S32768x3584, .bf16⟩
  | .hbm, ⟨25, _⟩ => ⟨S32768x2048, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]
-- ==== Proof.Rows.lean ====
module

public import Idealize.ShloMosaic.Lib.Pipeline.ValueKit
public import Idealize.ShloMosaic.Lib.MatmulPlain
public import Idealize.ShloMosaic.Lib.KernelVsHost
public import Idealize.ShloMosaic.Lib.ValueIdx
public import Idealize.ShloMosaic.Lib.IdealHost

/-! # Reading the operations of a block at a row and a column

The mathematics the feed-forward layer is written in (`rmsRow`, `taps`, `glu`), as functions of plain indices, and the
lemmas that read the operations of a two-dimensional block at one row and one column. -/

@[expose] public section

noncomputable section

namespace Cert.Rows

open Idealize.ShloMosaic hiding ix0 ix1 ix2 ix3 ix4 ix5 eq_ix1 eq_ix2 eq_ix3
open Idealize.ShloMosaic.ValueIdx
open scoped BigOperators

/-- The width 1024 as the float constant both programs divide by. -/
def width : EReal := Ideal.ofBits .f32 0x44800000#32
/-- The small constant under the root of the norm. -/
def eps : EReal := Ideal.ofBits .f32 0x358637BD#32

/-- The scale that the root-mean-square norm gives a row. -/
def rowScale (v : Fin 1024 → EReal) : EReal := Ideal.rsqrt (Ideal.div (∑ d, v d * v d) width + eps)

/-- A row after the root-mean-square norm with weights `g`. -/
def rmsRow (v g : Fin 1024 → EReal) (d : Fin 1024) : EReal := v d * rowScale v * g d

/-- Three taps of a width-3 convolution and its bias. -/
def taps (p u n c0 c1 c2 b : EReal) : EReal := p * c0 + u * c1 + n * c2 + b

/-- The gated unit: `g · σ(g) · a`. -/
def glu (a g : EReal) : EReal := g * Ideal.logistic g * a

section Read
variable {α : Type} {M N : ℕ}

/-- A one-row block spread over the rows, at a row and a column. -/
theorem spreadRow (v : (⟨2, ![1, N]⟩ : Shape).Idx → α) (h : (⟨2, ![1, N]⟩ : Shape).Broadcasts ⟨2, ![M, N]⟩) (r : Fin M) (c : Fin N) :
    broadcastTo ⟨2, ![M, N]⟩ v h (ix2 r c) = v (ix2 0 c) :=
  broadcastTo_apply v h _ _ fun a => by
    match a with
    | ⟨0, _⟩ => rfl
    | ⟨1, _⟩ =>
      show c.val = if N = 1 then 0 else c.val
      have := c.isLt
      split <;> omega

/-- A one-column block spread over the columns, at a row and a column. -/
theorem spreadCol (v : (⟨2, ![M, 1]⟩ : Shape).Idx → α) (h : (⟨2, ![M, 1]⟩ : Shape).Broadcasts ⟨2, ![M, N]⟩) (r : Fin M) (c : Fin N) :
    broadcastTo ⟨2, ![M, N]⟩ v h (ix2 r c) = v (ix2 r 0) :=
  broadcastTo_apply v h _ _ fun a => by
    match a with
    | ⟨0, _⟩ =>
      show r.val = if M = 1 then 0 else r.val
      have := r.isLt
      split <;> omega
    | ⟨1, _⟩ => rfl

/-- A vector read as a one-column block. -/
theorem asCol (v : (⟨1, ![M]⟩ : Shape).Idx → α) (h : (⟨1, ![M]⟩ : Shape).ShapeCasts ⟨2, ![M, 1]⟩) (r : Fin M) :
    shapeCast ⟨2, ![M, 1]⟩ v h (ix2 r 0) = v (ix1 r) :=
  shapeCast_apply v h _ _ (by
    rw [Shape.rowMajor_val_two, Shape.rowMajor_val_one]
    show r.val = r.val * 1 + 0
    omega)

/-- A slice of rows from row `o`, at a row and a column. -/
theorem sliceRows {K : ℕ} (o : ℕ) (x : (⟨2, ![K, N]⟩ : Shape).Idx → α) (h : (⟨2, ![K, N]⟩ : Shape).Slices ![o, 0] ⟨2, ![M, N]⟩)
    (r : Fin M) (c : Fin N) (k : Fin K) (hk : k.val = o + r.val) :
    extractStridedSlice ⟨2, ![M, N]⟩ ![o, 0] x h (ix2 r c) = x (ix2 k c) :=
  extractStridedSlice_apply _ x h _ _ fun a => by
    match a with
    | ⟨0, _⟩ => exact hk
    | ⟨1, _⟩ => exact (Nat.zero_add _).symm

/-- A rotation of the rows, at a row and a column. -/
theorem rotateRows (sb : BitVec 32) (x : (⟨2, ![M, N]⟩ : Shape).Idx → α) (h : (⟨2, ![M, N]⟩ : Shape).Rotates 0 none)
    (r k : Fin M) (c : Fin N) (hk : k.val = (r.val + M - sb.toNat % M) % M) :
    dynamicRotate 0 sb none x h (ix2 r c) = x (ix2 k c) :=
  dynamicRotate_apply 0 sb x h _ _ fun b => by
    match b with
    | ⟨0, _⟩ => exact hk.trans (if_pos rfl).symm
    | ⟨1, _⟩ => exact (if_neg (fun e => Nat.one_ne_zero (congrArg Fin.val e))).symm

end Read

/-- A sum of squares along the rows of a block of width 1024, made a column. -/
theorem sumSq {M : ℕ} (x : FVec Ideal ⟨2, ![M, 1024]⟩ .f32) (h : (⟨2, ![M, 1024]⟩ : Shape).Reduces [1] ⟨1, ![M]⟩) (hφ : FKind.Formats .f32)
    (hacc : (0x00000000#32 : BitVec 32) = FKind.add.neutral .f32 hφ) (r : Fin M) :
    multiReduction .add [1] ⟨1, ![M]⟩ (mulf x x) 0x00000000#32 h hφ hacc (ix1 r) = ∑ d, x (ix2 r d) * x (ix2 r d) := by
  rw [Ideal.multiReduction_add_single]
  refine Finset.sum_congr rfl fun k _ => ?_
  have e : h.lift (ix1 r) k = ix2 r k := by
    rw [eq_ix2 (h.lift (ix1 r) k)]
    congr 1
  rw [e]; rfl

/-- The norm of a block of rows as the programs compute it, at a row and a column. -/
theorem rms_apply {M : ℕ} (x : FVec Ideal ⟨2, ![M, 1024]⟩ .f32) (g : FVec Ideal ⟨2, ![1, 1024]⟩ .f32)
    (h : (⟨2, ![M, 1024]⟩ : Shape).Reduces [1] ⟨1, ![M]⟩) (hφ : FKind.Formats .f32)
    (hacc : (0x00000000#32 : BitVec 32) = FKind.add.neutral .f32 hφ) (hc : (⟨1, ![M]⟩ : Shape).ShapeCasts ⟨2, ![M, 1]⟩)
    (hb : (⟨2, ![M, 1]⟩ : Shape).Broadcasts ⟨2, ![M, 1024]⟩) (hg : (⟨2, ![1, 1024]⟩ : Shape).Broadcasts ⟨2, ![M, 1024]⟩)
    (r : Fin M) (d : Fin 1024) :
    mulf (mulf x (broadcastTo ⟨2, ![M, 1024]⟩
        (rsqrt (addf (divf (shapeCast ⟨2, ![M, 1]⟩ (multiReduction .add [1] ⟨1, ![M]⟩ (mulf x x) 0x00000000#32 h hφ hacc) hc)
          (broadcast ⟨2, ![M, 1]⟩ (Scalar.ofBits (F := Ideal) .f32 0x44800000#32))) (broadcast ⟨2, ![M, 1]⟩ (Scalar.ofBits (F := Ideal) .f32 0x358637BD#32)))) hb))
      (broadcastTo ⟨2, ![M, 1024]⟩ g hg) (ix2 r d)
      = rmsRow (fun d => x (ix2 r d)) (fun d => g (ix2 0 d)) d := by
  rw [mulf_apply, mulf_apply, spreadRow g hg r d, spreadCol _ hb r d]
  show _ * Ideal.rsqrt (Ideal.div (shapeCast ⟨2, ![M, 1]⟩ _ hc (ix2 r 0)) width + eps) * _ = _
  rw [asCol, sumSq]
  rfl

end Cert.Rows
-- ==== Proof.Conv.lean ====
module

public import proofs.«01_k».proof.Proof.Gen.KernelIdeal.Value
public import proofs.«01_k».proof.Proof.Rows

/-! # One chunk of 256 columns of the gated convolution

What the body computes for one chunk of the inner width, and its value at a row and a column. -/

@[expose] public section

noncomputable section

namespace Cert.KernelIdeal.Ffn

open Cert.KernelIdeal Cert.KernelIdeal.Gen Cert.Rows
open Idealize.ShloMosaic hiding ix0 ix1 ix2 ix3 ix4 ix5 eq_ix1 eq_ix2 eq_ix3
open Idealize.ShloMosaic.ValueIdx
open scoped BigOperators

/-- The up-projection of one extended row by one column of the weights. -/
def up {N : ℕ} (h : FVec Ideal S1056x1024 .bf16) (w : FVec Ideal ⟨2, ![1024, N]⟩ .bf16) (r : Fin 1056) (c : Fin N) : EReal :=
  ∑ d : Fin 1024, h (ix2 r d) * w (ix2 d c)

/-- The convolution of a chunk at a row and a column: three neighbouring extended rows, one column of each operand. -/
theorem conv_apply (h : FVec Ideal S1056x1024 .bf16) (w : FVec Ideal S1024x256 .bf16) (c0 c1 c2 cb : FVec Ideal S1x256 .f32)
    (r : Fin 1024) (c : Fin 256) :
    k0_pay15 (F := Ideal) h w c0 c1 c2 cb (ix2 r c)
      = taps (up h w ⟨r.val + 15, by omega⟩ c) (up h w ⟨r.val + 16, by omega⟩ c) (up h w ⟨r.val + 17, by omega⟩ c)
          (c0 (ix2 0 c)) (c1 (ix2 0 c)) (c2 (ix2 0 c)) (cb (ix2 0 c)) := by
  have hmat : ∀ k : Fin 1056, matmul dot_S1056x1024_S1024x256_S1056x256_1_0_0_1_n_n none h w (constant S1056x256 .f32 0x00000000#32) (ix2 k c)
      = up h w k c := fun k => by
    refine (Ideal.matmul_plain_apply none h w _ k c).trans ?_
    rw [constant_apply, Ideal.ofBits_zero_f32, zero_add]; rfl
  unfold k0_pay15
  simp only [shapeCast_self]
  simp only [addf_apply, mulf_apply, taps]
  rw [spreadRow c0, spreadRow c1, spreadRow c2, spreadRow cb,
    sliceRows 16 _ _ r c ⟨r.val + 16, by omega⟩ (by show r.val + 16 = 16 + r.val; omega),
    sliceRows 16 _ _ r c ⟨r.val + 16, by omega⟩ (by show r.val + 16 = 16 + r.val; omega),
    sliceRows 16 _ _ r c ⟨r.val + 16, by omega⟩ (by show r.val + 16 = 16 + r.val; omega),
    rotateRows _ _ _ _ ⟨r.val + 15, by omega⟩ c (by show r.val + 15 = (r.val + 16 + 1056 - 1) % 1056; omega),
    rotateRows _ _ _ _ ⟨r.val + 17, by omega⟩ c (by show r.val + 17 = (r.val + 16 + 1056 - 1055) % 1056; omega),
    hmat, hmat, hmat]

/-- A chunk of the gated activations, as the body computes it from the extended rows and the chunk's columns. -/
def chunk (h : FVec Ideal S1056x1024 .bf16) (wa wg : FVec Ideal S1024x256 .bf16)
    (a0 a1 a2 ab g0 g1 g2 gb : FVec Ideal S1x256 .f32) : FVec Ideal S1024x256 .bf16 :=
  k0_pay18 (k0_pay15 h wa a0 a1 a2 ab) (k0_pay15 h wg g0 g1 g2 gb) (k0_pay16 h wg g0 g1 g2 gb) k0_pay17

/-- A chunk at a row and a column. -/
theorem chunk_apply (h : FVec Ideal S1056x1024 .bf16) (wa wg : FVec Ideal S1024x256 .bf16)
    (a0 a1 a2 ab g0 g1 g2 gb : FVec Ideal S1x256 .f32) (r : Fin 1024) (c : Fin 256) :
    chunk h wa wg a0 a1 a2 ab g0 g1 g2 gb (ix2 r c)
      = glu (k0_pay15 (F := Ideal) h wa a0 a1 a2 ab (ix2 r c)) (k0_pay15 (F := Ideal) h wg g0 g1 g2 gb (ix2 r c)) := by
  unfold chunk k0_pay18 k0_pay17 k0_pay16
  simp only [shapeCast_self]
  show k0_pay15 (F := Ideal) h wg g0 g1 g2 gb (ix2 r c) * Ideal.div (Ideal.ofBits .f32 0x3F800000#32) (Ideal.ofBits .f32 0x3F800000#32 + Ideal.exp (Ideal.ofBits .f32 0x00000000#32 - k0_pay15 (F := Ideal) h wg g0 g1 g2 gb (ix2 r c))) * k0_pay15 (F := Ideal) h wa a0 a1 a2 ab (ix2 r c) = _
  rw [Ideal.ofBits_one_f32, Ideal.ofBits_zero_f32, zero_sub]
  rfl

end Cert.KernelIdeal.Ffn
-- ==== Proof.Block.lean ====
module

public import proofs.«01_k».proof.Proof.Conv

/-! # The block a grid point writes, opened

The buffers the body fills and reads back, as functions of the point's input blocks: the extended normalised rows, the
gated activations, and the block of the result. -/

@[expose] public section

noncomputable section

namespace Cert.KernelIdeal.Ffn

open Cert.KernelIdeal Cert.KernelIdeal.Gen Cert.Rows Idealize.SL.Sem
open Idealize.ShloMosaic hiding ix0 ix1 ix2 ix3 ix4 ix5 eq_ix1 eq_ix2 eq_ix3
open Idealize.ShloMosaic.TcCoe
open Idealize.ShloMosaic.ValueIdx
open Idealize.ShloMosaic.Pipeline (Dat)
open scoped BigOperators

variable (m : (ℓ : Loc nD τ sig) → Buf (Elt Ideal) ℓ)

/-- The flag of a tile that has a tile before it in its sequence. -/
def hasPrev (i : grid0.Coords) : EReal := FloatOps.sitofp (F := Ideal) .f32 (Scalar.extui (Scalar.cmpi .sgt (BitVec.ofNat 32 (i 1).val) 0#32))
/-- The flag of a tile that has a tile after it in its sequence. -/
def hasNext (i : grid0.Coords) : EReal := k0_pay4 (F := Ideal) i

/-- The three stores into the extended rows: the row block before, the tile, the row block after. -/
def extPieces (hp hn : EReal) (x0 : FVec Ideal S1024x1024 .f32) (x1 x2 : FVec Ideal S16x1024 .f32) (x3 : FVec Ideal S1x1024 .f32) :
    List (View.Piece (Elt Ideal) S1056x1024 .bf16) :=
  [⟨Rect.unit ![1040, 0] ![16, 1024] inb_S1056x1024_S16x1024_1040_0, k0_pay9 (F := Ideal) (k0_pay2 x3) hn x2⟩,
   ⟨Rect.unit ![16, 0] ![1024, 1024] inb_S1056x1024_S1024x1024_16_0, k0_pay8 (F := Ideal) (k0_pay6 x0) (k0_pay7 x3)⟩,
   ⟨Rect.unit ![0, 0] ![16, 1024] inb_S1056x1024_S16x1024_0_0, k0_pay9 (F := Ideal) (k0_pay2 x3) hp x1⟩]

/-- The extended normalised rows. -/
def ext (hp hn : EReal) (x0 : FVec Ideal S1024x1024 .f32) (x1 x2 : FVec Ideal S16x1024 .f32) (x3 : FVec Ideal S1x1024 .f32) :
    FVec Ideal S1056x1024 .bf16 := View.canon (extPieces hp hn x0 x1 x2 x3)

/-- Columns `o` to `o + 256` of a block of rows. -/
theorem colsInb {M N R : ℕ} (q o : ℕ) (hq : q + R ≤ M) (h : o + 256 ≤ N) :
    ∀ a : Fin 2, (![q, o] : Fin 2 → ℕ) a + (![R, 256] : Fin 2 → ℕ) a ≤ (![M, N] : Fin 2 → ℕ) a := fun a => by
  match a with
  | ⟨0, _⟩ => exact hq
  | ⟨1, _⟩ => exact h

/-- `R` rows from row `q`, and the 256 columns from column `o`, of a block. -/
def cut {M N : ℕ} {e : EltTy} (R : ℕ) (x : (⟨2, ![M, N]⟩ : Shape).Idx → Elt Ideal e) (q o : ℕ) (hq : q + R ≤ M) (h : o + 256 ≤ N) :
    (⟨2, ![R, 256]⟩ : Shape).Idx → Elt Ideal e :=
  View.ld (Val := Elt Ideal) (S := ⟨2, ![M, N]⟩) x (Rect.unit ![q, o] ![R, 256] (colsInb q o hq h))

/-- The store of the chunk of columns from `o` into the activations. -/
def piece (H : FVec Ideal S1056x1024 .bf16) (W : FVec Ideal S1024x5632 .bf16) (cw : FVec Ideal S3x5632 .f32) (cb : FVec Ideal S1x5632 .f32)
    (o : ℕ) (h : o + 256 ≤ 2816) : View.Piece (Elt Ideal) S1024x2816 .bf16 :=
  ⟨Rect.unit ![0, o] ![1024, 256] (colsInb (M := 1024) (N := 2816) 0 o (by omega) h),
    chunk H (cut (e := .bf16) 1024 W 0 o (by omega) (by omega)) (cut (e := .bf16) 1024 W 0 (2816 + o) (by omega) (by omega))
      (cut (e := .f32) 1 cw 0 o (by omega) (by omega)) (cut (e := .f32) 1 cw 1 o (by omega) (by omega)) (cut (e := .f32) 1 cw 2 o (by omega) (by omega))
      (cut (e := .f32) 1 cb 0 o (by omega) (by omega))
      (cut (e := .f32) 1 cw 0 (2816 + o) (by omega) (by omega)) (cut (e := .f32) 1 cw 1 (2816 + o) (by omega) (by omega)) (cut (e := .f32) 1 cw 2 (2816 + o) (by omega) (by omega))
      (cut (e := .f32) 1 cb 0 (2816 + o) (by omega) (by omega))⟩

/-- The eleven stores into the activations, the last first. -/
def actPieces (H : FVec Ideal S1056x1024 .bf16) (W : FVec Ideal S1024x5632 .bf16) (cw : FVec Ideal S3x5632 .f32) (cb : FVec Ideal S1x5632 .f32) :
    List (View.Piece (Elt Ideal) S1024x2816 .bf16) :=
  [piece H W cw cb 2560 (by omega),
   piece H W cw cb 2304 (by omega),
   piece H W cw cb 2048 (by omega),
   piece H W cw cb 1792 (by omega),
   piece H W cw cb 1536 (by omega),
   piece H W cw cb 1280 (by omega),
   piece H W cw cb 1024 (by omega),
   piece H W cw cb 768 (by omega),
   piece H W cw cb 512 (by omega),
   piece H W cw cb 256 (by omega),
   piece H W cw cb 0 (by omega)]

/-- The gated activations. -/
def act (H : FVec Ideal S1056x1024 .bf16) (W : FVec Ideal S1024x5632 .bf16) (cw : FVec Ideal S3x5632 .f32) (cb : FVec Ideal S1x5632 .f32) :
    FVec Ideal S1024x2816 .bf16 := View.canon (actPieces H W cw cb)

/-- The block of the result, from the activations, the down-projection, the weights of the last norm and the tile. -/
def fin (x : FVec Ideal S1024x1024 .f32) (A : FVec Ideal S1024x2816 .bf16) (wd : FVec Ideal S2816x1024 .bf16) (g : FVec Ideal S1x1024 .f32) :
    FVec Ideal S1024x1024 .f32 :=
  k0_pay1 (k0_pay3 x) (k0_pay69 A wd) (k0_pay70 g) (k0_pay71 A wd) (Scalar.ofBits .f32 0x44800000#32)

/-- The three stores cover the extended rows. -/
theorem ext_cover (hp hn : EReal) (x0 : FVec Ideal S1024x1024 .f32) (x1 x2 : FVec Ideal S16x1024 .f32) (x3 : FVec Ideal S1x1024 .f32)
    (y : S1056x1024.Idx) : ∃ p ∈ extPieces hp hn x0 x1 x2 x3, y ∈ p.1.set := by
  have h0 : (y 0).val < 1056 := (y 0).isLt
  have h1 : (y 1).val < 1024 := (y 1).isLt
  unfold extPieces
  rcases Nat.lt_or_ge (y 0).val 16 with h | h
  · refine ⟨_, List.mem_cons_of_mem _ (List.mem_cons_of_mem _ List.mem_cons_self), ?_⟩
    rw [Rect.mem_set_unit]; intro a
    match a with
    | ⟨0, _⟩ => exact ⟨Nat.zero_le _, h⟩
    | ⟨1, _⟩ => exact ⟨Nat.zero_le _, h1⟩
  rcases Nat.lt_or_ge (y 0).val 1040 with h' | h'
  · refine ⟨_, List.mem_cons_of_mem _ List.mem_cons_self, ?_⟩
    rw [Rect.mem_set_unit]; intro a
    match a with
    | ⟨0, _⟩ => exact ⟨h, h'⟩
    | ⟨1, _⟩ => exact ⟨Nat.zero_le _, h1⟩
  · refine ⟨_, List.mem_cons_self, ?_⟩
    rw [Rect.mem_set_unit]; intro a
    match a with
    | ⟨0, _⟩ => exact ⟨h', h0⟩
    | ⟨1, _⟩ => exact ⟨Nat.zero_le _, h1⟩

section
attribute [local irreducible] piece

/-- Each of the eleven chunks is stored. -/
theorem act_mem (H : FVec Ideal S1056x1024 .bf16) (W : FVec Ideal S1024x5632 .bf16) (cw : FVec Ideal S3x5632 .f32) (cb : FVec Ideal S1x5632 .f32)
    (q : ℕ) (hq : q < 11) : piece H W cw cb (256 * q) (by omega) ∈ actPieces H W cw cb := by
  unfold actPieces
  interval_cases q <;> repeat (first | exact List.mem_cons_self | apply List.mem_cons_of_mem)

end

/-- The eleven stores cover the activations. -/
theorem act_cover (H : FVec Ideal S1056x1024 .bf16) (W : FVec Ideal S1024x5632 .bf16) (cw : FVec Ideal S3x5632 .f32) (cb : FVec Ideal S1x5632 .f32)
    (y : S1024x2816.Idx) : ∃ p ∈ actPieces H W cw cb, y ∈ p.1.set := by
  have h0 : (y 0).val < 1024 := (y 0).isLt
  have h1 : (y 1).val < 2816 := (y 1).isLt
  refine ⟨_, act_mem H W cw cb ((y 1).val / 256) (by omega), ?_⟩
  unfold piece; rw [Rect.mem_set_unit]; intro a
  match a with
  | ⟨0, _⟩ => exact ⟨Nat.zero_le _, h0⟩
  | ⟨1, _⟩ =>
    show 256 * ((y 1).val / 256) ≤ (y 1).val ∧ (y 1).val < 256 * ((y 1).val / 256) + 256
    omega

set_option maxHeartbeats 4000000 in
/-- What a point leaves in the staging buffer of the result. -/
theorem out_open (c : Dev nD) (t : Fin cfg0.N) : outsAt0 m c t
    = fin (iblk m c 0 t) (act (ext (hasPrev (grid0.coords t)) (hasNext (grid0.coords t)) (iblk m c 0 t) (iblk m c 1 t) (iblk m c 2 t) (iblk m c 3 t)) (iblk m c 4 t) (iblk m c 5 t) (iblk m c 6 t))
        (iblk m c 7 t) (iblk m c 8 t) := by
  unfold outsAt0 out0_A_9
  rw [View.read_writes_eq_canon _ _ _ (cover0_A_9 c _ _ _ _ _ _ _ _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread]
  rw [View.canon_unit_zero (by funext a; fin_cases a <;> rfl)]
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  have z : (![0, 0] : Fin 2 → ℕ) = fun _ => 0 := by funext a; fin_cases a <;> rfl
  rw [View.ld_unit_zero (S := S1024x1024) z, View.ld_unit_zero (S := S1x1024) z, View.ld_unit_zero (S := S1x1024) z,
    View.ld_unit_zero (S := S16x1024) z, View.ld_unit_zero (S := S16x1024) z, View.ld_unit_zero (S := S2816x1024) z]
  have hH : (View.whole cc0_scratch0).readCov (extPieces (hasPrev (grid0.coords t)) (hasNext (grid0.coords t)) x0 x1 x2 x3)
      (Rect.unit ![0, 0] ![1056, 1024] inb_S1056x1024_S1056x1024_0_0).toLoadRect = ext (hasPrev (grid0.coords t)) (hasNext (grid0.coords t)) x0 x1 x2 x3 :=
    (View.readCov_eq_canon_ld _ _ _ (ext_cover _ _ x0 x1 x2 x3)).trans (View.ld_unit_zero (S := S1056x1024) z _ _)
  have hE : extPieces (hasPrev (grid0.coords t)) (hasNext (grid0.coords t)) x0 x1 x2 x3 =
      [⟨Rect.unit ![1040, 0] ![16, 1024] inb_S1056x1024_S16x1024_1040_0, k0_pay9 (F := Ideal) (k0_pay2 x3) (k0_pay4 (grid0.coords t)) x2⟩,
       ⟨Rect.unit ![16, 0] ![1024, 1024] inb_S1056x1024_S1024x1024_16_0, k0_pay8 (F := Ideal) (k0_pay6 x0) (k0_pay7 x3)⟩,
       ⟨Rect.unit ![0, 0] ![16, 1024] inb_S1056x1024_S16x1024_0_0, k0_pay5 (F := Ideal) (grid0.coords t) x3 x1⟩] := rfl
  rw [hE] at hH
  rw [hH]
  generalize ext (hasPrev (grid0.coords t)) (hasNext (grid0.coords t)) x0 x1 x2 x3 = H
  have hA : (View.whole cc0_scratch1).readCov (actPieces H x4 x5 x6)
      (Rect.unit ![0, 0] ![1024, 2816] inb_S1024x2816_S1024x2816_0_0).toLoadRect = act H x4 x5 x6 :=
    (View.readCov_eq_canon_ld _ _ _ (act_cover H x4 x5 x6)).trans (View.ld_unit_zero (S := S1024x2816) z _ _)
  rw [← hA]
  rfl

end Cert.KernelIdeal.Ffn
-- ==== Proof.Point.lean ====
module

public import proofs.«01_k».proof.Proof.Block

/-! # The buffers of a grid point at a row and a column

Values of the extended rows, of the gated activations and of the block of the result, as plain functions of the point's
input blocks. -/

@[expose] public section

noncomputable section

namespace Cert.KernelIdeal.Ffn

open Cert.KernelIdeal Cert.KernelIdeal.Gen Cert.Rows
open Idealize.ShloMosaic hiding ix0 ix1 ix2 ix3 ix4 ix5 eq_ix1 eq_ix2 eq_ix3
open Idealize.ShloMosaic.ValueIdx
open scoped BigOperators

section Ext
variable (hp hn : EReal) (x0 : FVec Ideal S1024x1024 .f32) (x1 x2 : FVec Ideal S16x1024 .f32) (x3 : FVec Ideal S1x1024 .f32)

/-- A row of the block before or after, normalised and flagged. -/
theorem beside_apply (r : Fin 16) (d : Fin 1024) :
    k0_pay9 (F := Ideal) (k0_pay2 x3) hn x2 (ix2 r d) = rmsRow (fun d => x2 (ix2 r d)) (fun d => x3 (ix2 0 d)) d * hn := by
  unfold k0_pay9 k0_pay2
  simp only [shapeCast_self]
  exact congrArg (· * hn) (rms_apply x2 x3 _ _ _ _ _ _ r d)

/-- A row of the tile, normalised. -/
theorem tile_apply (r : Fin 1024) (d : Fin 1024) :
    k0_pay8 (F := Ideal) (k0_pay6 x0) (k0_pay7 x3) (ix2 r d) = rmsRow (fun d => x0 (ix2 r d)) (fun d => x3 (ix2 0 d)) d := by
  unfold k0_pay8 k0_pay7 k0_pay6 k0_pay3 k0_pay2
  simp only [shapeCast_self]
  exact rms_apply x0 x3 _ _ _ _ _ _ r d

/-- The extended rows as plain functions of the input blocks. -/
def extVal (k : Fin 1056) (d : Fin 1024) : EReal :=
  if h : k.val < 16 then rmsRow (fun d => x1 (ix2 ⟨k.val, h⟩ d)) (fun d => x3 (ix2 0 d)) d * hp
  else if h' : k.val < 1040 then rmsRow (fun d => x0 (ix2 ⟨k.val - 16, by omega⟩ d)) (fun d => x3 (ix2 0 d)) d
  else rmsRow (fun d => x2 (ix2 ⟨k.val - 1040, by omega⟩ d)) (fun d => x3 (ix2 0 d)) d * hn

/-- The extended rows at a row and a column. -/
theorem ext_apply (k : Fin 1056) (d : Fin 1024) : ext hp hn x0 x1 x2 x3 (ix2 k d) = extVal hp hn x0 x1 x2 x3 k d := by
  refine View.canon_apply_of_pieces (fun y : S1056x1024.Idx => extVal hp hn x0 x1 x2 x3 (y 0) (y 1)) _ ?_ (ix2 k d) (ext_cover hp hn x0 x1 x2 x3 _)
  intro p hq x
  unfold extPieces at hq
  rcases List.mem_cons.1 hq with rfl | hq
  · obtain ⟨r, d, rfl⟩ : ∃ (r : Fin 16) (d : Fin 1024), x = ix2 r d := ⟨x 0, x 1, eq_ix2 x⟩
    refine (beside_apply hn x2 x3 r d).trans ?_
    have e : (Rect.unit ![1040, 0] ![16, 1024] inb_S1056x1024_S16x1024_1040_0).emb (ix2 r d) = ix2 (⟨r.val + 1040, by omega⟩ : Fin 1056) d := by
      funext a; apply Fin.ext
      match a with
      | ⟨0, _⟩ => show 1040 + 1 * r.val = r.val + 1040; omega
      | ⟨1, _⟩ => show 0 + 1 * d.val = d.val; omega
    rw [e]
    show _ = extVal hp hn x0 x1 x2 x3 ⟨r.val + 1040, by omega⟩ d
    unfold extVal
    rw [dif_neg (by simp), dif_neg (by simp)]
    simp only [Nat.add_sub_cancel]
  rcases List.mem_cons.1 hq with rfl | hq
  · obtain ⟨r, d, rfl⟩ : ∃ (r : Fin 1024) (d : Fin 1024), x = ix2 r d := ⟨x 0, x 1, eq_ix2 x⟩
    refine (tile_apply x0 x3 r d).trans ?_
    have e : (Rect.unit ![16, 0] ![1024, 1024] inb_S1056x1024_S1024x1024_16_0).emb (ix2 r d) = ix2 (⟨r.val + 16, by omega⟩ : Fin 1056) d := by
      funext a; apply Fin.ext
      match a with
      | ⟨0, _⟩ => show 16 + 1 * r.val = r.val + 16; omega
      | ⟨1, _⟩ => show 0 + 1 * d.val = d.val; omega
    rw [e]
    show _ = extVal hp hn x0 x1 x2 x3 ⟨r.val + 16, by omega⟩ d
    unfold extVal
    rw [dif_neg (by simp), dif_pos (by simp; omega)]
    simp only [Nat.add_sub_cancel]
  rcases List.mem_cons.1 hq with rfl | hq
  · obtain ⟨r, d, rfl⟩ : ∃ (r : Fin 16) (d : Fin 1024), x = ix2 r d := ⟨x 0, x 1, eq_ix2 x⟩
    refine (beside_apply hp x1 x3 r d).trans ?_
    have e : (Rect.unit ![0, 0] ![16, 1024] inb_S1056x1024_S16x1024_0_0).emb (ix2 r d) = ix2 (⟨r.val, by omega⟩ : Fin 1056) d := by
      funext a; apply Fin.ext
      match a with
      | ⟨0, _⟩ => show 0 + 1 * r.val = r.val; omega
      | ⟨1, _⟩ => show 0 + 1 * d.val = d.val; omega
    rw [e]
    show _ = extVal hp hn x0 x1 x2 x3 ⟨r.val, by omega⟩ d
    unfold extVal
    rw [dif_pos r.isLt]
  · exact absurd hq List.not_mem_nil

end Ext

/-- The block of rows and columns `cut` takes, at a row and a column. -/
theorem cut_apply {M N : ℕ} {e : EltTy} (R : ℕ) (x : (⟨2, ![M, N]⟩ : Shape).Idx → Elt Ideal e) (q o : ℕ) (hq : q + R ≤ M) (h : o + 256 ≤ N)
    (r : Fin R) (c : Fin 256) (r' : Fin M) (c' : Fin N) (hr : r'.val = q + r.val) (hc : c'.val = o + c.val) :
    cut R x q o hq h (ix2 r c) = x (ix2 r' c') :=
  View.ld_unit_apply_of x _ _ _ _ _ fun a => by
    match a with
    | ⟨0, _⟩ => exact hr
    | ⟨1, _⟩ => exact hc

section Act
variable (H : FVec Ideal S1056x1024 .bf16) (W : FVec Ideal S1024x5632 .bf16) (cw : FVec Ideal S3x5632 .f32) (cb : FVec Ideal S1x5632 .f32)

/-- The convolution of column `f` of the up-projection at row `r` of the tile. -/
def convVal (r : Fin 1024) (f : Fin 5632) : EReal :=
  taps (up H W ⟨r.val + 15, by omega⟩ f) (up H W ⟨r.val + 16, by omega⟩ f) (up H W ⟨r.val + 17, by omega⟩ f)
    (cw (ix2 0 f)) (cw (ix2 1 f)) (cw (ix2 2 f)) (cb (ix2 0 f))

/-- A chunk's convolution is the convolution at the chunk's columns. -/
theorem conv_cut (o : ℕ) (ho : o + 256 ≤ 5632) (r : Fin 1024) (c : Fin 256) (f : Fin 5632) (hf : f.val = o + c.val) :
    k0_pay15 (F := Ideal) H (cut (e := .bf16) 1024 W 0 o (by omega) ho) (cut (e := .f32) 1 cw 0 o (by omega) ho) (cut (e := .f32) 1 cw 1 o (by omega) ho)
      (cut (e := .f32) 1 cw 2 o (by omega) ho) (cut (e := .f32) 1 cb 0 o (by omega) ho) (ix2 r c) = convVal H W cw cb r f := by
  refine (conv_apply _ _ _ _ _ _ r c).trans ?_
  have hu : ∀ k, up H (cut (e := .bf16) 1024 W 0 o (by omega) ho) k c = up H W k f := fun k =>
    Finset.sum_congr rfl fun d _ => congrArg (H (ix2 k d) * ·) (cut_apply (e := .bf16) 1024 W 0 o _ _ d c d f (Nat.zero_add _).symm hf)
  rw [hu, hu, hu, cut_apply (e := .f32) 1 cw 0 o _ _ 0 c 0 f rfl hf, cut_apply (e := .f32) 1 cw 1 o _ _ 0 c 1 f rfl hf, cut_apply (e := .f32) 1 cw 2 o _ _ 0 c 2 f rfl hf,
    cut_apply (e := .f32) 1 cb 0 o _ _ 0 c 0 f rfl hf]
  rfl

/-- The gated activations as a plain function. -/
def actVal (r : Fin 1024) (k : Fin 2816) : EReal :=
  glu (convVal H W cw cb r ⟨k.val, by omega⟩) (convVal H W cw cb r ⟨2816 + k.val, by omega⟩)

/-- One chunk's store holds the gated activations at its columns. -/
theorem piece_apply (o : ℕ) (ho : o + 256 ≤ 2816) (x : (piece H W cw cb o ho).1.shape.Idx) :
    (piece H W cw cb o ho).2 x = actVal H W cw cb ((piece H W cw cb o ho).1.emb x 0) ((piece H W cw cb o ho).1.emb x 1) := by
  obtain ⟨r, c, rfl⟩ : ∃ (r : Fin 1024) (c : Fin 256), x = ix2 r c := ⟨x 0, x 1, eq_ix2 x⟩
  have e0 : (piece H W cw cb o ho).1.emb (ix2 r c) 0 = r := Fin.ext (by show 0 + 1 * r.val = r.val; omega)
  have e1 : (piece H W cw cb o ho).1.emb (ix2 r c) 1 = (⟨o + c.val, by omega⟩ : Fin 2816) := Fin.ext (by show o + 1 * c.val = o + c.val; omega)
  rw [e0, e1]
  refine (chunk_apply _ _ _ _ _ _ _ _ _ _ _ r c).trans ?_
  rw [conv_cut H W cw cb o (by omega) r c ⟨o + c.val, by omega⟩ rfl,
    conv_cut H W cw cb (2816 + o) (by omega) r c ⟨2816 + (o + c.val), by omega⟩ (by show 2816 + (o + c.val) = 2816 + o + c.val; omega)]
  rfl

/-- The gated activations at a row and a column. -/
theorem act_apply (r : Fin 1024) (k : Fin 2816) : act H W cw cb (ix2 r k) = actVal H W cw cb r k := by
  refine View.canon_apply_of_pieces (fun y : S1024x2816.Idx => actVal H W cw cb (y 0) (y 1)) _ ?_ (ix2 r k) (act_cover H W cw cb _)
  unfold actPieces
  simp only [List.forall_mem_cons]
  refine ⟨?_, ?_, ?_, ?_, ?_, ?_, ?_, ?_, ?_, ?_, ?_, fun p hp => absurd hp List.not_mem_nil⟩ <;> exact piece_apply H W cw cb _ _

end Act

/-- The block of the result at a row and a column. -/
theorem fin_apply (x : FVec Ideal S1024x1024 .f32) (A : FVec Ideal S1024x2816 .bf16) (wd : FVec Ideal S2816x1024 .bf16) (g : FVec Ideal S1x1024 .f32)
    (r d : Fin 1024) :
    fin x A wd g (ix2 r d) = x (ix2 r d) + rmsRow (fun d => ∑ k : Fin 2816, A (ix2 r k) * wd (ix2 k d)) (fun d => g (ix2 0 d)) d := by
  have hm : ∀ d : Fin 1024, k0_pay69 (F := Ideal) A wd (ix2 r d) = ∑ k : Fin 2816, A (ix2 r k) * wd (ix2 k d) := fun d => by
    unfold k0_pay69
    simp only [shapeCast_self]
    refine (Ideal.matmul_plain_apply none A wd _ r d).trans ?_
    rw [constant_apply, Ideal.ofBits_zero_f32, zero_add]
  unfold fin k0_pay1 k0_pay3 k0_pay70 k0_pay71
  simp only [shapeCast_self]
  refine (congrArg (x (ix2 r d) + ·) (rms_apply (k0_pay69 (F := Ideal) A wd) g _ _ _ _ _ _ r d)).trans ?_
  simp only [hm]

end Cert.KernelIdeal.Ffn
-- ==== Proof.Spec.lean ====
module

public import proofs.«01_k».proof.Proof.Rows

/-! # The feed-forward layer as plain functions

The mathematics both programs compute, over sequences of `S` positions laid out as `M` rows. -/

@[expose] public section

noncomputable section

namespace Cert.Spec

open Cert.Rows
open scoped BigOperators

variable {M : ℕ} (S : ℕ) (x : Fin M → Fin 1024 → EReal) (g : Fin 1024 → EReal) (w : Fin 1024 → Fin 5632 → EReal)
variable (cw : Fin 3 → Fin 5632 → EReal) (cb : Fin 5632 → EReal) (wd : Fin 2816 → Fin 1024 → EReal) (gp : Fin 1024 → EReal)

/-- The up-projection of a normalised row. -/
def up (R : Fin M) (f : Fin 5632) : EReal := ∑ d, rmsRow (x R) g d * w d f

/-- The up-projection at the position before, zero at the start of a sequence. -/
def upPrev (R : Fin M) (f : Fin 5632) : EReal := if R.val % S = 0 then 0 else up x g w ⟨R.val - 1, by omega⟩ f

/-- The up-projection at the position after, zero at the end of a sequence. -/
def upNext (R : Fin M) (f : Fin 5632) : EReal :=
  if R.val % S = S - 1 then 0 else if h : R.val + 1 < M then up x g w ⟨R.val + 1, h⟩ f else 0

/-- The depthwise convolution over three positions. -/
def conv (R : Fin M) (f : Fin 5632) : EReal :=
  taps (upPrev S x g w R f) (up x g w R f) (upNext S x g w R f) (cw 0 f) (cw 1 f) (cw 2 f) (cb f)

/-- The gated activations: the second half of the columns gates the first. -/
def gated (R : Fin M) (k : Fin 2816) : EReal :=
  glu (conv S x g w cw cb R ⟨k.val, by omega⟩) (conv S x g w cw cb R ⟨2816 + k.val, by omega⟩)

/-- The down-projection. -/
def down (R : Fin M) (d : Fin 1024) : EReal := ∑ k, gated S x g w cw cb R k * wd k d

/-- The layer: the row and its normalised feed-forward. -/
def out (R : Fin M) (d : Fin 1024) : EReal := x R d + rmsRow (down S x g w cw cb wd R) gp d

end Cert.Spec
-- ==== Proof.Tile.lean ====
module

public import proofs.«01_k».proof.Proof.Point
public import proofs.«01_k».proof.Proof.Spec

/-! # The block of the result of one tile

From the rows of a tile, the rows beside it and its two flags, the block of the result is the layer's rows of the tile,
whatever the length of the sequences. -/

@[expose] public section

noncomputable section

namespace Cert.KernelIdeal.Ffn

open Cert.KernelIdeal Cert.KernelIdeal.Gen Cert.Rows
open Idealize.ShloMosaic hiding ix0 ix1 ix2 ix3 ix4 ix5 eq_ix1 eq_ix2 eq_ix3
open Idealize.ShloMosaic.ValueIdx
open scoped BigOperators

/-- A tile of 1024 rows from row `R0` of `M` rows in sequences of `S`: its rows are `X`'s, and beside it there is the end of
    the sequence, flagged zero, or the row `X` has there, flagged one. -/
structure IsTile {M : ℕ} (S : ℕ) (X : Fin M → Fin 1024 → EReal) (G : Fin 1024 → EReal) (R0 : ℕ) (hp hn : EReal)
    (x0 : FVec Ideal S1024x1024 .f32) (x1 x2 : FVec Ideal S16x1024 .f32) (x3 : FVec Ideal S1x1024 .f32) : Prop where
  le : R0 + 1024 ≤ M
  rows : ∀ r d : Fin 1024, x0 (ix2 r d) = X ⟨R0 + r.val, by omega⟩ d
  norm : ∀ d, x3 (ix2 0 d) = G d
  inside : ∀ r : ℕ, 0 < r → r < 1024 → (R0 + r) % S ≠ 0
  inside' : ∀ r : ℕ, r < 1023 → (R0 + r) % S ≠ S - 1
  before : (R0 % S = 0 ∧ hp = 0) ∨ (R0 % S ≠ 0 ∧ hp = 1 ∧ ∀ d, x1 (ix2 15 d) = X ⟨R0 - 1, by omega⟩ d)
  after : ((R0 + 1023) % S = S - 1 ∧ hn = 0) ∨
    ((R0 + 1023) % S ≠ S - 1 ∧ hn = 1 ∧ ∃ h : R0 + 1024 < M, ∀ d, x2 (ix2 0 d) = X ⟨R0 + 1024, h⟩ d)

namespace IsTile

variable {M S : ℕ} {X : Fin M → Fin 1024 → EReal} {G : Fin 1024 → EReal} {R0 : ℕ} {hp hn : EReal}
  {x0 : FVec Ideal S1024x1024 .f32} {x1 x2 : FVec Ideal S16x1024 .f32} {x3 : FVec Ideal S1x1024 .f32}
  (T : IsTile S X G R0 hp hn x0 x1 x2 x3) (w : FVec Ideal S1024x5632 .bf16) (cw : FVec Ideal S3x5632 .f32) (cb : FVec Ideal S1x5632 .f32)

include T

/-- The row of the array that row `r` of the tile is. -/
def row (r : Fin 1024) : Fin M := ⟨R0 + r.val, by have := T.le; omega⟩

/-- A row of the tile among the extended rows. -/
theorem up_mid (k : Fin 1056) (r : Fin 1024) (hk : k.val = r.val + 16) (f : Fin 5632) :
    up (ext hp hn x0 x1 x2 x3) w k f = Spec.up X G (fun d f => w (ix2 d f)) (T.row r) f := by
  refine Finset.sum_congr rfl fun d _ => congrArg (· * w (ix2 d f)) ?_
  rw [ext_apply]; unfold extVal
  rw [dif_neg (by omega), dif_pos (by have := r.isLt; omega)]
  have e : (⟨k.val - 16, by omega⟩ : Fin 1024) = r := Fin.ext (by show k.val - 16 = r.val; omega)
  rw [e, show (fun d => x3 (ix2 0 d)) = G from funext T.norm]
  exact congrArg (fun v => rmsRow v G d) (funext fun d => T.rows r d)

/-- The row before the tile. -/
theorem up_before (f : Fin 5632) :
    up (ext hp hn x0 x1 x2 x3) w 15 f = Spec.upPrev S X G (fun d f => w (ix2 d f)) (T.row 0) f := by
  have hx : ∀ d, ext hp hn x0 x1 x2 x3 (ix2 15 d) = rmsRow (fun d => x1 (ix2 15 d)) G d * hp := fun d => by
    rw [ext_apply]; unfold extVal
    rw [dif_pos (by decide : ((15 : Fin 1056) : ℕ) < 16), show (fun d => x3 (ix2 0 d)) = G from funext T.norm]; rfl
  unfold up Spec.upPrev
  rcases T.before with ⟨h, h0⟩ | ⟨h, h1, hr⟩
  · rw [if_pos (show (T.row 0).val % S = 0 from h)]
    refine Finset.sum_eq_zero fun d _ => ?_
    rw [hx, h0, mul_zero, zero_mul]
  · rw [if_neg (show ¬ (T.row 0).val % S = 0 from h)]
    refine Finset.sum_congr rfl fun d _ => congrArg (· * w (ix2 d f)) ?_
    exact (hx d).trans ((congrArg (_ * ·) h1).trans ((mul_one _).trans (congrArg (fun v => rmsRow v G d) (funext hr))))

/-- The row after the tile. -/
theorem up_after (f : Fin 5632) :
    up (ext hp hn x0 x1 x2 x3) w 1040 f = Spec.upNext S X G (fun d f => w (ix2 d f)) (T.row 1023) f := by
  have hx : ∀ d, ext hp hn x0 x1 x2 x3 (ix2 1040 d) = rmsRow (fun d => x2 (ix2 0 d)) G d * hn := fun d => by
    rw [ext_apply]; unfold extVal
    rw [dif_neg (by decide : ¬ ((1040 : Fin 1056) : ℕ) < 16), dif_neg (by decide : ¬ ((1040 : Fin 1056) : ℕ) < 1040),
      show (fun d => x3 (ix2 0 d)) = G from funext T.norm]; rfl
  unfold up Spec.upNext
  rcases T.after with ⟨h, h0⟩ | ⟨h, h1, hM, hr⟩
  · rw [if_pos (show (T.row 1023).val % S = S - 1 from h)]
    refine Finset.sum_eq_zero fun d _ => ?_
    rw [hx, h0, mul_zero, zero_mul]
  · have e : (T.row 1023).val = R0 + 1023 := rfl
    have hM' : (T.row 1023).val + 1 < M := by omega
    rw [if_neg (show ¬ (T.row 1023).val % S = S - 1 from h), dif_pos hM']
    refine Finset.sum_congr rfl fun d _ => congrArg (· * w (ix2 d f)) ?_
    exact (hx d).trans ((congrArg (_ * ·) h1).trans ((mul_one _).trans (congrArg (fun v => rmsRow v G d) (funext hr))))

/-- The convolution at a row of the tile. -/
theorem conv_eq (r : Fin 1024) (f : Fin 5632) :
    convVal (ext hp hn x0 x1 x2 x3) w cw cb r f
      = Spec.conv S X G (fun d f => w (ix2 d f)) (fun j f => cw (ix2 j f)) (fun f => cb (ix2 0 f)) (T.row r) f := by
  have h1 : up (ext hp hn x0 x1 x2 x3) w ⟨r.val + 15, by omega⟩ f = Spec.upPrev S X G (fun d f => w (ix2 d f)) (T.row r) f := by
    by_cases h : r.val = 0
    · obtain rfl : r = 0 := Fin.ext h
      exact T.up_before w f
    · rw [T.up_mid w _ ⟨r.val - 1, by omega⟩ (by show r.val + 15 = r.val - 1 + 16; omega)]
      unfold Spec.upPrev
      rw [if_neg (show ¬ (T.row r).val % S = 0 from T.inside r.val (by omega) r.isLt)]
      exact congrArg (fun R => Spec.up X G (fun d f => w (ix2 d f)) R f) (Fin.ext (by show R0 + (r.val - 1) = R0 + r.val - 1; omega))
  have h3 : up (ext hp hn x0 x1 x2 x3) w ⟨r.val + 17, by omega⟩ f = Spec.upNext S X G (fun d f => w (ix2 d f)) (T.row r) f := by
    by_cases h : r.val = 1023
    · obtain rfl : r = 1023 := Fin.ext h
      exact T.up_after w f
    · rw [T.up_mid w _ ⟨r.val + 1, by omega⟩ (by show r.val + 17 = r.val + 1 + 16; omega)]
      unfold Spec.upNext
      have e : (T.row r).val = R0 + r.val := rfl
      have hM : (T.row r).val + 1 < M := by have := T.le; omega
      rw [if_neg (show ¬ (T.row r).val % S = S - 1 from T.inside' r.val (by omega)), dif_pos hM]
      rfl
  unfold convVal
  rw [h1, T.up_mid w _ r rfl, h3]
  rfl

/-- The block of the result. -/
theorem fin_eq (wd : FVec Ideal S2816x1024 .bf16) (g : FVec Ideal S1x1024 .f32) (r d : Fin 1024) :
    fin x0 (act (ext hp hn x0 x1 x2 x3) w cw cb) wd g (ix2 r d)
      = Spec.out S X G (fun d f => w (ix2 d f)) (fun j f => cw (ix2 j f)) (fun f => cb (ix2 0 f)) (fun k d => wd (ix2 k d))
          (fun d => g (ix2 0 d)) (T.row r) d := by
  refine (fin_apply _ _ _ _ r d).trans ?_
  show _ + _ = X (T.row r) d + _
  rw [T.rows]
  refine congrArg (X (T.row r) d + rmsRow · (fun d => g (ix2 0 d)) d) (funext fun d => Finset.sum_congr rfl fun k _ => congrArg (· * wd (ix2 k d)) ?_)
  refine (act_apply _ _ _ _ r k).trans ?_
  unfold actVal Spec.gated
  exact congrArg₂ glu (T.conv_eq w cw cb r _) (T.conv_eq w cw cb r _)

end IsTile

end Cert.KernelIdeal.Ffn
-- ==== Proof.Blocks.lean ====
module

public import proofs.«01_k».proof.Proof.Tile

/-! # The result array of the kernel

Each grid point's block is the layer's rows of its tile; the 32 blocks tile the result. -/

@[expose] public section

noncomputable section

namespace Cert.KernelIdeal.Ffn

open Cert.KernelIdeal Cert.KernelIdeal.Gen Cert.KernelIdeal.Value Cert.Rows Idealize.SL.Sem
open Idealize.ShloMosaic hiding ix0 ix1 ix2 ix3 ix4 ix5 eq_ix1 eq_ix2 eq_ix3
open Idealize.ShloMosaic.TcCoe
open Idealize.ShloMosaic.ValueIdx
open scoped BigOperators

variable (m : (ℓ : Loc nD τ sig) → Buf (Elt Ideal) ℓ)

/-! ## Where the windows' blocks lie -/

/-- Of a window whose block is its whole array, the block index is zero. -/
theorem index3 : ∀ t : Fin cfg0.N, win0_3.index t = fun _ => 0 := (by decide +kernel : ∀ t : Fin grid0.N, win0_3.index t = fun _ => 0)
theorem index4 : ∀ t : Fin cfg0.N, win0_4.index t = fun _ => 0 := (by decide +kernel : ∀ t : Fin grid0.N, win0_4.index t = fun _ => 0)
theorem index5 : ∀ t : Fin cfg0.N, win0_5.index t = fun _ => 0 := (by decide +kernel : ∀ t : Fin grid0.N, win0_5.index t = fun _ => 0)
theorem index6 : ∀ t : Fin cfg0.N, win0_6.index t = fun _ => 0 := (by decide +kernel : ∀ t : Fin grid0.N, win0_6.index t = fun _ => 0)
theorem index7 : ∀ t : Fin cfg0.N, win0_7.index t = fun _ => 0 := (by decide +kernel : ∀ t : Fin grid0.N, win0_7.index t = fun _ => 0)
theorem index8 : ∀ t : Fin cfg0.N, win0_8.index t = fun _ => 0 := (by decide +kernel : ∀ t : Fin grid0.N, win0_8.index t = fun _ => 0)
/-- The tile of a point is block `t`, -/
theorem index0 : ∀ t : Fin cfg0.N, win0_0.index t = ![t.val, 0] := (by decide +kernel : ∀ t : Fin grid0.N, win0_0.index t = ![t.val, 0])
/-- and so is its block of the result; -/
theorem index9 : ∀ t : Fin cfg0.N, win0_9.index t = ![t.val, 0] := (by decide +kernel : ∀ t : Fin grid0.N, win0_9.index t = ![t.val, 0])
/-- the 16 rows before, -/
theorem index1 : ∀ t : Fin cfg0.N, win0_1.index t = ![t.val * 64 - 1, 0] := (by decide +kernel : ∀ t : Fin grid0.N, win0_1.index t = ![t.val * 64 - 1, 0])
/-- and the 16 rows after. -/
theorem index2 : ∀ t : Fin cfg0.N, win0_2.index t = ![min ((t.val + 1) * 64) 2047, 0] :=
  (by decide +kernel : ∀ t : Fin grid0.N, win0_2.index t = ![min ((t.val + 1) * 64) 2047, 0])

/-- A point's place among the two tiles of its sequence. -/
theorem coord1 : ∀ t : Fin cfg0.N, (grid0.coords t 1).val = t.val % 2 := (by decide +kernel : ∀ t : Fin grid0.N, (grid0.coords t 1).val = t.val % 2)

/-- There is a tile before the second. -/
theorem hasPrev_eq (t : Fin cfg0.N) : hasPrev (grid0.coords t) = if t.val % 2 = 0 then 0 else 1 := by
  unfold hasPrev
  rw [coord1]
  have h : t.val % 2 < 2 := Nat.mod_lt _ (by omega)
  interval_cases h' : t.val % 2
  · exact (congrArg (FloatOps.sitofp (F := Ideal) .f32) (by decide : Scalar.extui (Scalar.cmpi .sgt (BitVec.ofNat 32 0) 0#32) = 0#32)).trans (by
      show ((BitVec.toInt 0#32 : ℝ) : EReal) = 0; simp)
  · exact (congrArg (FloatOps.sitofp (F := Ideal) .f32) (by decide : Scalar.extui (Scalar.cmpi .sgt (BitVec.ofNat 32 1) 0#32) = 1#32)).trans (by
      show ((BitVec.toInt 1#32 : ℝ) : EReal) = 1; simp)

/-- There is a tile after the first. -/
theorem hasNext_eq (t : Fin cfg0.N) : hasNext (grid0.coords t) = if t.val % 2 = 0 then 1 else 0 := by
  unfold hasNext k0_pay4
  dsimp only
  rw [coord1]
  have h : t.val % 2 < 2 := Nat.mod_lt _ (by omega)
  interval_cases h' : t.val % 2
  · exact (congrArg (FloatOps.sitofp (F := Ideal) .f32) (by decide : Scalar.extui (Scalar.cmpi .slt (BitVec.ofNat 32 0) 1#32) = 1#32)).trans (by
      show ((BitVec.toInt 1#32 : ℝ) : EReal) = 1; simp)
  · exact (congrArg (FloatOps.sitofp (F := Ideal) .f32) (by decide : Scalar.extui (Scalar.cmpi .slt (BitVec.ofNat 32 1) 1#32) = 0#32)).trans (by
      show ((BitVec.toInt 0#32 : ℝ) : EReal) = 0; simp)

/-- The row of the result (and of the input) that row `r` of tile `t` is. -/
def row (t : Fin cfg0.N) (r : Fin 1024) : Fin 32768 := ⟨t.val * 1024 + r.val, by have := t.isLt; have : cfg0.N = 32 := N_0; omega⟩

/-! ## The input blocks -/

theorem iblk0 (c : Dev nD) (t : Fin cfg0.N) (r d : Fin 1024) : iblk m c 0 t (ix2 r d) = V m c main_v0 (ix2 (row t r) d) :=
  congrArg (V m c main_v0) (by
    have e := index0 t
    funext a; apply Fin.ext
    match a with
    | ⟨0, _⟩ => show win0_0.index t 0 * 1024 + 1 * r.val = t.val * 1024 + r.val; rw [e]; show t.val * 1024 + _ = _; omega
    | ⟨1, _⟩ => show win0_0.index t 1 * 1024 + 1 * d.val = d.val; rw [e]; show 0 * 1024 + _ = _; omega)

theorem iblk1 (c : Dev nD) (t : Fin cfg0.N) (d : Fin 1024) (ht : t.val % 2 ≠ 0) :
    iblk m c 1 t (ix2 15 d) = V m c main_v0 (ix2 ⟨(row t 0).val - 1, by omega⟩ d) :=
  congrArg (V m c main_v0) (by
    have e := index1 t
    funext a; apply Fin.ext
    match a with
    | ⟨0, _⟩ => show win0_1.index t 0 * 16 + 1 * 15 = t.val * 1024 + 0 - 1; rw [e]; show (t.val * 64 - 1) * 16 + _ = _; omega
    | ⟨1, _⟩ => show win0_1.index t 1 * 1024 + 1 * d.val = d.val; rw [e]; show 0 * 1024 + _ = _; omega)

theorem iblk2 (c : Dev nD) (t : Fin cfg0.N) (d : Fin 1024) (ht : t.val % 2 = 0) (R : Fin 32768) (hR : R.val = t.val * 1024 + 1024) :
    iblk m c 2 t (ix2 0 d) = V m c main_v0 (ix2 R d) :=
  congrArg (V m c main_v0) (by
    have e := index2 t
    have hN : cfg0.N = 32 := N_0
    have := t.isLt
    funext a; apply Fin.ext
    match a with
    | ⟨0, _⟩ => show win0_2.index t 0 * 16 + 1 * 0 = R.val; rw [e]; show (min ((t.val + 1) * 64) 2047) * 16 + _ = _; omega
    | ⟨1, _⟩ => show win0_2.index t 1 * 1024 + 1 * d.val = d.val; rw [e]; show 0 * 1024 + _ = _; omega)

/-- An index moved by a zero block index. -/
theorem emb_zero {k : ℕ} {i j : ℕ} (h : i = 0) : i * k + 1 * j = j := by subst h; omega

theorem iblk3 (c : Dev nD) (t : Fin cfg0.N) : iblk m c 3 t = V m c main_v3 := by
  funext j
  refine congrArg (V m c main_v3) (funext fun a => Fin.ext ?_)
  match a with
  | ⟨0, _⟩ => exact emb_zero (congrFun (index3 t) 0)
  | ⟨1, _⟩ => exact emb_zero (congrFun (index3 t) 1)
theorem iblk4 (c : Dev nD) (t : Fin cfg0.N) : iblk m c 4 t = V m c main_v1 := by
  funext j
  refine congrArg (V m c main_v1) (funext fun a => Fin.ext ?_)
  match a with
  | ⟨0, _⟩ => exact emb_zero (congrFun (index4 t) 0)
  | ⟨1, _⟩ => exact emb_zero (congrFun (index4 t) 1)
theorem iblk5 (c : Dev nD) (t : Fin cfg0.N) : iblk m c 5 t = V m c main_arg3 := by
  funext j
  refine congrArg (V m c main_arg3) (funext fun a => Fin.ext ?_)
  match a with
  | ⟨0, _⟩ => exact emb_zero (congrFun (index5 t) 0)
  | ⟨1, _⟩ => exact emb_zero (congrFun (index5 t) 1)
theorem iblk6 (c : Dev nD) (t : Fin cfg0.N) : iblk m c 6 t = V m c main_v4 := by
  funext j
  refine congrArg (V m c main_v4) (funext fun a => Fin.ext ?_)
  match a with
  | ⟨0, _⟩ => exact emb_zero (congrFun (index6 t) 0)
  | ⟨1, _⟩ => exact emb_zero (congrFun (index6 t) 1)
theorem iblk7 (c : Dev nD) (t : Fin cfg0.N) : iblk m c 7 t = V m c main_v2 := by
  funext j
  refine congrArg (V m c main_v2) (funext fun a => Fin.ext ?_)
  match a with
  | ⟨0, _⟩ => exact emb_zero (congrFun (index7 t) 0)
  | ⟨1, _⟩ => exact emb_zero (congrFun (index7 t) 1)
theorem iblk8 (c : Dev nD) (t : Fin cfg0.N) : iblk m c 8 t = V m c main_v5 := by
  funext j
  refine congrArg (V m c main_v5) (funext fun a => Fin.ext ?_)
  match a with
  | ⟨0, _⟩ => exact emb_zero (congrFun (index8 t) 0)
  | ⟨1, _⟩ => exact emb_zero (congrFun (index8 t) 1)

/-! ## The layer on the arrays the launch finds -/

/-- The input rows. -/
def X (c : Dev nD) (R : Fin 32768) (d : Fin 1024) : EReal := V m c main_v0 (ix2 R d)
/-- The weights of the first norm. -/
def G (c : Dev nD) (d : Fin 1024) : EReal := V m c main_v3 (ix2 0 d)
/-- The up-projection. -/
def Wu (c : Dev nD) (d : Fin 1024) (f : Fin 5632) : EReal := V m c main_v1 (ix2 d f)
/-- The taps of the convolution. -/
def Cw (c : Dev nD) (j : Fin 3) (f : Fin 5632) : EReal := V m c main_arg3 (ix2 j f)
/-- The bias of the convolution. -/
def Cb (c : Dev nD) (f : Fin 5632) : EReal := V m c main_v4 (ix2 0 f)
/-- The down-projection. -/
def Wd (c : Dev nD) (k : Fin 2816) (d : Fin 1024) : EReal := V m c main_v2 (ix2 k d)
/-- The weights of the last norm. -/
def Gp (c : Dev nD) (d : Fin 1024) : EReal := V m c main_v5 (ix2 0 d)

/-- A point's input blocks are a tile of the rows. -/
theorem tile (c : Dev nD) (t : Fin cfg0.N) : IsTile 2048 (X m c) (G m c) (t.val * 1024) (hasPrev (grid0.coords t)) (hasNext (grid0.coords t))
    (iblk m c 0 t) (iblk m c 1 t) (iblk m c 2 t) (iblk m c 3 t) where
  le := by have := t.isLt; have : cfg0.N = 32 := N_0; omega
  rows r d := iblk0 m c t r d
  norm d := by rw [iblk3]; rfl
  inside r h h' := by omega
  inside' r h := by omega
  before := by
    by_cases h : t.val % 2 = 0
    · exact .inl ⟨by omega, by rw [hasPrev_eq, if_pos h]⟩
    · exact .inr ⟨by omega, by rw [hasPrev_eq, if_neg h], fun d => iblk1 m c t d h⟩
  after := by
    have hN : cfg0.N = 32 := N_0
    have := t.isLt
    by_cases h : t.val % 2 = 0
    · exact .inr ⟨by omega, by rw [hasNext_eq, if_pos h], by omega, fun d => iblk2 m c t d h _ rfl⟩
    · exact .inl ⟨by omega, by rw [hasNext_eq, if_neg h]⟩

/-- The layer as an array. -/
def layer (c : Dev nD) : FVec Ideal S32768x1024 .f32 := fun i =>
  Spec.out 2048 (X m c) (G m c) (Wu m c) (Cw m c) (Cb m c) (Wd m c) (Gp m c) (i 0) (i 1)

/-- What a point leaves is the layer at the rows of its tile. -/
theorem out_apply (c : Dev nD) (t : Fin cfg0.N) (r d : Fin 1024) : outsAt0 m c t (ix2 r d) = layer m c (ix2 (row t r) d) := by
  rw [out_open]
  rw [iblk4, iblk5, iblk6, iblk7, iblk8]
  exact (tile m c t).fin_eq _ _ _ _ _ r d

/-- Where an index of a point's block of the result lies. -/
theorem emb9 (t : Fin cfg0.N) (r d : Fin 1024) : ((cfg0.win 9).blk t).view.emb (ix2 r d) = ix2 (row t r) d := by
  have e := index9 t
  funext a; apply Fin.ext
  match a with
  | ⟨0, _⟩ => show win0_9.index t 0 * 1024 + 1 * r.val = t.val * 1024 + r.val; rw [e]; show t.val * 1024 + _ = _; omega
  | ⟨1, _⟩ => show win0_9.index t 1 * 1024 + 1 * d.val = d.val; rw [e]; show 0 * 1024 + _ = _; omega

/-- What a point writes back is its block of the layer. -/
theorem flushed_eq (c : Dev nD) (t : Fin cfg0.N) :
    (dats m 0 c).flushed 9 t = ((cfg0.win 9).blk t).view.read (Elt Ideal) (layer m c) := by
  rw [flushed9]
  funext j
  obtain ⟨r, d, rfl⟩ : ∃ (r d : Fin 1024), j = ix2 r d := ⟨j 0, j 1, eq_ix2 j⟩
  show outsAt0 m c t (ix2 r d) = layer m c (((cfg0.win 9).blk t).view.emb (ix2 r d))
  rw [emb9, out_apply]

/-- The points' blocks cover the result. -/
theorem covered (i : S32768x1024.Idx) : ∃ t : Fin cfg0.N, (cfg0.win 9).flush t = true ∧ i ∈ ((cfg0.win 9).blk t).view.set := by
  have hN : cfg0.N = 32 := N_0
  obtain ⟨R, d, rfl⟩ : ∃ (R : Fin 32768) (d : Fin 1024), i = ix2 R d := ⟨i 0, i 1, eq_ix2 i⟩
  obtain ⟨t, ht⟩ : ∃ t : Fin cfg0.N, t.val = R.val / 1024 := ⟨⟨R.val / 1024, by rw [hN]; omega⟩, rfl⟩
  have h := ((cfg0.win 9).blk t).view.emb_mem_set (ix2 (⟨R.val % 1024, Nat.mod_lt _ (by omega)⟩ : Fin 1024) d)
  have e : row t ⟨R.val % 1024, Nat.mod_lt _ (by omega)⟩ = R := Fin.ext (by show t.val * 1024 + R.val % 1024 = R.val; omega)
  rw [emb9, e] at h
  exact ⟨t, flush0_9 _, h⟩

/-- The result array after the run is the layer. -/
theorem final (c : Dev nD) : (dats m 0 c).arrAt 9 cfg0.N = layer m c :=
  (dats m 0 c).arrAt_eq_of_cover 9 (layer m c) (fun t _ => flushed_eq m c t) covered

end Cert.KernelIdeal.Ffn
-- ==== Proof.HostArgs.lean ====
module

public import proofs.«01_k».proof.Proof.Blocks

/-! # The arrays the launch finds

What the host code before the call leaves in the arrays the call reads, in terms of the arguments. -/

@[expose] public section

noncomputable section

namespace Cert.KernelIdeal.Ffn

open Cert.KernelIdeal Cert.KernelIdeal.Gen Cert.Rows Idealize.SL.Sem
open Idealize.ShloMosaic hiding ix0 ix1 ix2 ix3 ix4 ix5 eq_ix1 eq_ix2 eq_ix3
open Idealize.ShloMosaic.TcCoe
open Idealize.ShloMosaic.ValueIdx
open Idealize.ShloMosaic.StableHlo

variable (m : (ℓ : Loc nD τ sig) → Buf (Elt Ideal) ℓ)

theorem V0 (c : Dev nD) : V m c main_v0 = shapeCast S32768x1024 (m ((c : Thread nD τ).loc main_arg0)) shapeCasts_S16x2048x1024_S32768x1024 := by
  simp only [V, hostOps0]; after_results_simp <;> rfl
theorem V1 (c : Dev nD) : V m c main_v1 = m ((c : Thread nD τ).loc main_arg2) := by
  simp only [V, hostOps0]; after_results_simp <;> rfl
theorem V2 (c : Dev nD) : V m c main_v2 = m ((c : Thread nD τ).loc main_arg5) := by
  simp only [V, hostOps0]; after_results_simp <;> rfl
theorem V3 (c : Dev nD) : V m c main_v3 = shapeCast S1x1024 (m ((c : Thread nD τ).loc main_arg1)) shapeCasts_S1024_S1x1024 := by
  simp only [V, hostOps0]; after_results_simp <;> rfl
theorem V4 (c : Dev nD) : V m c main_v4 = shapeCast S1x5632 (m ((c : Thread nD τ).loc main_arg4)) shapeCasts_S5632_S1x5632 := by
  simp only [V, hostOps0]; after_results_simp <;> rfl
theorem V5 (c : Dev nD) : V m c main_v5 = shapeCast S1x1024 (m ((c : Thread nD τ).loc main_arg6)) shapeCasts_S1024_S1x1024 := by
  simp only [V, hostOps0]; after_results_simp <;> rfl

/-- A vector read as a one-row block. -/
theorem asRow {N : ℕ} {α : Type} (v : (⟨1, ![N]⟩ : Shape).Idx → α) (h : (⟨1, ![N]⟩ : Shape).ShapeCasts ⟨2, ![1, N]⟩) (d : Fin N) :
    shapeCast ⟨2, ![1, N]⟩ v h (ix2 0 d) = v (ix1 d) :=
  shapeCast_apply v h _ _ (by
    rw [Shape.rowMajor_val_two, Shape.rowMajor_val_one]
    show d.val = 0 * N + d.val
    omega)

theorem X_eq (c : Dev nD) (R : Fin 32768) (d : Fin 1024) :
    X m c R d = m ((c : Thread nD τ).loc main_arg0) (ix3 (⟨R.val / 2048, by omega⟩ : Fin 16) (⟨R.val % 2048, Nat.mod_lt _ (by omega)⟩ : Fin 2048) d) := by
  unfold X
  rw [V0]
  refine shapeCast_apply (s := S16x2048x1024) (t := S32768x1024) _ _ _ _ ?_
  rw [Shape.rowMajor_val_three, Shape.rowMajor_val_two]
  show (R.val / 2048 * 2048 + R.val % 2048) * 1024 + d.val = R.val * 1024 + d.val
  omega
theorem G_eq (c : Dev nD) (d : Fin 1024) : G m c d = m ((c : Thread nD τ).loc main_arg1) (ix1 d) := by
  unfold G; rw [V3]; exact asRow _ _ d
theorem Cb_eq (c : Dev nD) (f : Fin 5632) : Cb m c f = m ((c : Thread nD τ).loc main_arg4) (ix1 f) := by
  unfold Cb; rw [V4]; exact asRow _ _ f
theorem Gp_eq (c : Dev nD) (d : Fin 1024) : Gp m c d = m ((c : Thread nD τ).loc main_arg6) (ix1 d) := by
  unfold Gp; rw [V5]; exact asRow _ _ d
theorem Wu_eq (c : Dev nD) (d : Fin 1024) (f : Fin 5632) : Wu m c d f = m ((c : Thread nD τ).loc main_arg2) (ix2 d f) := by
  unfold Wu; rw [V1]
theorem Wd_eq (c : Dev nD) (k : Fin 2816) (d : Fin 1024) : Wd m c k d = m ((c : Thread nD τ).loc main_arg5) (ix2 k d) := by
  unfold Wd; rw [V2]
theorem Cw_eq (c : Dev nD) (j : Fin 3) (f : Fin 5632) : Cw m c j f = m ((c : Thread nD τ).loc main_arg3) (ix2 j f) := by
  unfold Cw; rw [V_main_arg3]

end Cert.KernelIdeal.Ffn
-- ==== Proof.RefRows.lean ====
module

public import proofs.«01_k».proof.Proof.Gen.ReferenceIdeal.Run
public import proofs.«01_k».proof.Proof.Gen.ReferenceIdeal.Read
public import proofs.«01_k».proof.Proof.Spec

/-! # The reference at a row and a column

Each stage of the reference program, read at a position, is the same stage of the layer written as plain functions. -/

@[expose] public section

noncomputable section

namespace Cert.ReferenceIdeal.Ffn

open Cert.ReferenceIdeal Cert.ReferenceIdeal.Gen Cert.ReferenceIdeal.Read Cert.Rows
open Idealize.ShloMosaic hiding ix0 ix1 ix2 ix3 ix4 ix5 eq_ix1 eq_ix2 eq_ix3
open Idealize.ShloMosaic.ValueIdx
open scoped BigOperators

variable (x0 : (⟨S16x2048x1024, .f32⟩ : BufTy).Contents (Elt Ideal)) (x1 : (⟨S1024, .f32⟩ : BufTy).Contents (Elt Ideal))
  (x2 : (⟨S1024x5632, .f32⟩ : BufTy).Contents (Elt Ideal)) (x3 : (⟨S3x5632, .f32⟩ : BufTy).Contents (Elt Ideal))
  (x4 : (⟨S5632, .f32⟩ : BufTy).Contents (Elt Ideal)) (x5 : (⟨S2816x1024, .f32⟩ : BufTy).Contents (Elt Ideal))
  (x6 : (⟨S1024, .f32⟩ : BufTy).Contents (Elt Ideal))

/-- The sequence of a row. -/
def bq (R : Fin 32768) : Fin 16 := ⟨R.val / 2048, by omega⟩
/-- The position of a row in its sequence. -/
def sq (R : Fin 32768) : Fin 2048 := ⟨R.val % 2048, Nat.mod_lt _ (by omega)⟩

/-- The input rows. -/
def X (R : Fin 32768) (d : Fin 1024) : EReal := x0 (ix3 (bq R) (sq R) d)
/-- The weights of the first norm. -/
def G (d : Fin 1024) : EReal := x1 (ix1 d)
/-- The up-projection. -/
def Wu (d : Fin 1024) (f : Fin 5632) : EReal := x2 (ix2 d f)
/-- The taps of the convolution. -/
def Cw (j : Fin 3) (f : Fin 5632) : EReal := x3 (ix2 j f)
/-- The bias of the convolution. -/
def Cb (f : Fin 5632) : EReal := x4 (ix1 f)
/-- The down-projection. -/
def Wd (k : Fin 2816) (d : Fin 1024) : EReal := x5 (ix2 k d)
/-- The weights of the last norm. -/
def Gp (d : Fin 1024) : EReal := x6 (ix1 d)

/-- The first norm. -/
theorem norm_apply (R : Fin 32768) (d : Fin 1024) :
    val_main_v12 (F := Ideal) x0 x1 (ix3 (bq R) (sq R) d) = rmsRow (X x0 R) (G x1) d := by
  rw [val_main_v12_apply, val_main_v9_apply, val_main_v8_apply, val_main_v11_apply, val_main_v10_apply, val_main_v7_apply,
    val_main_v6_apply, val_main_v5_apply, val_main_v4_apply, val_main_v3_apply, val_main_v2_apply, val_main_v1_apply,
    val_main_cst_apply, val_main_cst_0_apply, val_main_cst_1_apply]
  have hs : ∀ k : Fin 1024, val_main_v0 (F := Ideal) x0 (idx_main_v1 (idx_main_v2 (idx_main_v8 (ix3 (bq R) (sq R) d))) k) = X x0 R k * X x0 R k := fun k => by
    rw [show idx_main_v1 (idx_main_v2 (idx_main_v8 (ix3 (bq R) (sq R) d))) k = ix3 (bq R) (sq R) k from eq_ix3 _]; rfl
  rw [show idx_main_v10 (idx_main_v11 (ix3 (bq R) (sq R) d)) = ix1 d from eq_ix1 _, Finset.sum_congr rfl fun k _ => hs k]
  show X x0 R d * Ideal.rsqrt (Ideal.div (Ideal.ofBits .f32 0x00000000#32 + _) width + eps) * G x1 d = _
  rw [Ideal.ofBits_zero_f32, zero_add]; rfl

/-- The up-projection. -/
theorem up_apply (R : Fin 32768) (f : Fin 5632) :
    val_main_v13 (F := Ideal) x0 x1 x2 (ix3 (bq R) (sq R) f) = Spec.up (X x0) (G x1) (Wu x2) R f := by
  rw [val_main_v13_apply]
  refine Finset.sum_congr rfl fun k _ => ?_
  rw [show lidx_main_v13 (ix3 (bq R) (sq R) f) k = ix3 (bq R) (sq R) k from eq_ix3 _, norm_apply,
    show ridx_main_v13 (ix3 (bq R) (sq R) f) k = ix2 k f from eq_ix2 _]; rfl

/-- The padded up-projection inside. -/
theorem pad_in (R : Fin 32768) (s : Fin 2050) (hs : s.val = R.val % 2048 + 1) (f : Fin 5632) :
    val_main_v14 (F := Ideal) x0 x1 x2 (ix3 (bq R) s f) = Spec.up (X x0) (G x1) (Wu x2) R f := by
  unfold val_main_v14
  refine (pad_apply_of_inside _ _ _ _ _ _ _ (ix3 (bq R) s f) (ix3 (bq R) (sq R) f) fun a => ?_).trans (up_apply x0 x1 x2 R f)
  match a with
  | ⟨0, _⟩ => show (bq R).val = 0 + (bq R).val * (0 + 1); omega
  | ⟨1, _⟩ => show s.val = 1 + R.val % 2048 * (0 + 1); omega
  | ⟨2, _⟩ => show f.val = 0 + f.val * (0 + 1); omega

/-- The padded up-projection outside is zero. -/
theorem pad_out (b : Fin 16) (s : Fin 2050) (hs : s.val = 0 ∨ s.val = 2049) (f : Fin 5632) :
    val_main_v14 (F := Ideal) x0 x1 x2 (ix3 b s f) = 0 := by
  unfold val_main_v14
  refine (pad_apply_of_not_inside _ _ _ _ _ _ _ (ix3 b s f) 1 ?_).trans ?_
  · show ¬ (1 ≤ s.val ∧ (s.val - 1) % (0 + 1) = 0 ∧ (s.val - 1) / (0 + 1) < 2048)
    omega
  · show ((BitVec.toInt 0#32 : ℝ) : EReal) = 0; simp

/-- The convolution and its bias. -/
theorem conv_apply (R : Fin 32768) (f : Fin 5632) :
    val_main_v37 (F := Ideal) x0 x1 x2 x3 x4 (ix3 (bq R) (sq R) f)
      = Spec.conv 2048 (X x0) (G x1) (Wu x2) (Cw x3) (Cb x4) R f := by
  have hR : (sq R).val = R.val % 2048 := rfl
  rw [val_main_v37_apply, val_main_v34_apply, val_main_v27_apply, val_main_v20_apply, val_main_v26_apply, val_main_v33_apply,
    val_main_v15_apply, val_main_v21_apply, val_main_v28_apply, val_main_v19_apply, val_main_v18_apply, val_main_v17_apply, val_main_v16_apply,
    val_main_v25_apply, val_main_v24_apply, val_main_v23_apply, val_main_v22_apply, val_main_v32_apply, val_main_v31_apply, val_main_v30_apply, val_main_v29_apply,
    val_main_v36_apply, val_main_v35_apply]
  have p0 : val_main_v14 (F := Ideal) x0 x1 x2 (idx_main_v15 (ix3 (bq R) (sq R) f)) = Spec.upPrev 2048 (X x0) (G x1) (Wu x2) R f := by
    rw [show idx_main_v15 (ix3 (bq R) (sq R) f) = ix3 (bq R) (⟨R.val % 2048, by omega⟩ : Fin 2050) f from eq_ix3 _]
    unfold Spec.upPrev
    by_cases h : R.val % 2048 = 0
    · rw [if_pos h]; exact pad_out x0 x1 x2 _ _ (Or.inl h) f
    · rw [if_neg h]
      have e : bq R = bq ⟨R.val - 1, by omega⟩ := Fin.ext (by show R.val / 2048 = (R.val - 1) / 2048; omega)
      rw [e]
      exact pad_in x0 x1 x2 ⟨R.val - 1, by omega⟩ _ (by show R.val % 2048 = (R.val - 1) % 2048 + 1; omega) f
  have p1 : val_main_v14 (F := Ideal) x0 x1 x2 (idx_main_v21 (ix3 (bq R) (sq R) f)) = Spec.up (X x0) (G x1) (Wu x2) R f := by
    rw [show idx_main_v21 (ix3 (bq R) (sq R) f) = ix3 (bq R) (⟨1 + R.val % 2048, by omega⟩ : Fin 2050) f from eq_ix3 _]
    exact pad_in x0 x1 x2 R _ (by show 1 + R.val % 2048 = R.val % 2048 + 1; omega) f
  have p2 : val_main_v14 (F := Ideal) x0 x1 x2 (idx_main_v28 (ix3 (bq R) (sq R) f)) = Spec.upNext 2048 (X x0) (G x1) (Wu x2) R f := by
    rw [show idx_main_v28 (ix3 (bq R) (sq R) f) = ix3 (bq R) (⟨2 + R.val % 2048, by omega⟩ : Fin 2050) f from eq_ix3 _]
    unfold Spec.upNext
    by_cases h : R.val % 2048 = 2047
    · rw [if_pos h]; exact pad_out x0 x1 x2 _ _ (Or.inr (by show 2 + R.val % 2048 = 2049; omega)) f
    · have hM := R.isLt
      rw [if_neg h, dif_pos (by omega)]
      have e : bq R = bq ⟨R.val + 1, by omega⟩ := Fin.ext (by show R.val / 2048 = (R.val + 1) / 2048; omega)
      rw [e]
      exact pad_in x0 x1 x2 ⟨R.val + 1, by omega⟩ _ (by show 2 + R.val % 2048 = (R.val + 1) % 2048 + 1; omega) f
  have hf : f.val % 5632 = f.val := Nat.mod_eq_of_lt f.isLt
  have c0 : idx_main_v16 (idx_main_v17 (idx_main_v18 (idx_main_v19 (ix3 (bq R) (sq R) f)))) = ix2 0 f := by
    funext a; apply Fin.ext
    match a with
    | ⟨0, _⟩ => rfl
    | ⟨1, _⟩ => exact hf
  have c1 : idx_main_v22 (idx_main_v23 (idx_main_v24 (idx_main_v25 (ix3 (bq R) (sq R) f)))) = ix2 1 f := by
    funext a; apply Fin.ext
    match a with
    | ⟨0, _⟩ => rfl
    | ⟨1, _⟩ => exact hf
  have c2 : idx_main_v29 (idx_main_v30 (idx_main_v31 (idx_main_v32 (ix3 (bq R) (sq R) f)))) = ix2 2 f := by
    funext a; apply Fin.ext
    match a with
    | ⟨0, _⟩ => rfl
    | ⟨1, _⟩ => exact hf
  rw [p0, p1, p2, c0, c1, c2, show idx_main_v35 (idx_main_v36 (ix3 (bq R) (sq R) f)) = ix1 f from eq_ix1 _]
  rfl

/-- The gated activations. -/
theorem gated_apply (R : Fin 32768) (k : Fin 2816) :
    val_main_v41 (F := Ideal) x0 x1 x2 x3 x4 (ix3 (bq R) (sq R) k)
      = Spec.gated 2048 (X x0) (G x1) (Wu x2) (Cw x3) (Cb x4) R k := by
  rw [val_main_v41_apply, val_main_v40_apply, val_main_call1_v5_apply, val_main_call1_v4_apply, val_main_call1_v3_apply, val_main_call1_v2_apply,
    val_main_call1_v1_apply, val_main_call1_v0_apply, val_main_v39_apply, val_main_v38_apply, val_main_call1_cst_apply, val_main_call1_cst_0_apply,
    show idx_main_v39 (ix3 (bq R) (sq R) k) = ix3 (bq R) (sq R) (⟨2816 + k.val, by omega⟩ : Fin 5632) from eq_ix3 _,
    show idx_main_v38 (ix3 (bq R) (sq R) k) = ix3 (bq R) (sq R) (⟨k.val, by omega⟩ : Fin 5632) from eq_ix3 _,
    conv_apply, conv_apply]
  generalize hg : Spec.conv 2048 (X x0) (G x1) (Wu x2) (Cw x3) (Cb x4) R ⟨2816 + k.val, by omega⟩ = g
  generalize ha : Spec.conv 2048 (X x0) (G x1) (Wu x2) (Cw x3) (Cb x4) R ⟨k.val, by omega⟩ = a
  unfold Spec.gated
  rw [hg, ha]
  show g * Ideal.div (Ideal.ofBits .f32 0x3F800000#32) (Ideal.ofBits .f32 0x3F800000#32 + Ideal.exp (-g)) * a = glu a g
  rw [Ideal.ofBits_one_f32]
  rfl

/-- The down-projection. -/
theorem down_apply (R : Fin 32768) (d : Fin 1024) :
    val_main_v42 (F := Ideal) x0 x1 x2 x3 x4 x5 (ix3 (bq R) (sq R) d)
      = Spec.down 2048 (X x0) (G x1) (Wu x2) (Cw x3) (Cb x4) (Wd x5) R d := by
  rw [val_main_v42_apply]
  refine Finset.sum_congr rfl fun k _ => ?_
  rw [show lidx_main_v42 (ix3 (bq R) (sq R) d) k = ix3 (bq R) (sq R) k from eq_ix3 _, gated_apply,
    show ridx_main_v42 (ix3 (bq R) (sq R) d) k = ix2 k d from eq_ix2 _]; rfl

/-- The layer, before the last reshape. -/
theorem out_apply (R : Fin 32768) (d : Fin 1024) :
    val_main_v56 (F := Ideal) x0 x1 x2 x3 x4 x5 x6 (ix3 (bq R) (sq R) d)
      = Spec.out 2048 (X x0) (G x1) (Wu x2) (Cw x3) (Cb x4) (Wd x5) (Gp x6) R d := by
  rw [val_main_v56_apply, val_main_v55_apply, val_main_v54_apply, val_main_v53_apply, val_main_v52_apply, val_main_v51_apply, val_main_v50_apply,
    val_main_v49_apply, val_main_v48_apply, val_main_v47_apply, val_main_v46_apply, val_main_v45_apply, val_main_v44_apply,
    val_main_cst_2_apply, val_main_cst_3_apply, val_main_cst_4_apply]
  have hs : ∀ k : Fin 1024, val_main_v43 (F := Ideal) x0 x1 x2 x3 x4 x5 (idx_main_v44 (idx_main_v45 (idx_main_v51 (ix3 (bq R) (sq R) d))) k)
      = Spec.down 2048 (X x0) (G x1) (Wu x2) (Cw x3) (Cb x4) (Wd x5) R k * Spec.down 2048 (X x0) (G x1) (Wu x2) (Cw x3) (Cb x4) (Wd x5) R k := fun k => by
    rw [show idx_main_v44 (idx_main_v45 (idx_main_v51 (ix3 (bq R) (sq R) d))) k = ix3 (bq R) (sq R) k from eq_ix3 _, val_main_v43_apply, down_apply]; rfl
  rw [show idx_main_v53 (idx_main_v54 (ix3 (bq R) (sq R) d)) = ix1 d from eq_ix1 _, Finset.sum_congr rfl fun k _ => hs k, down_apply]
  show X x0 R d + Spec.down 2048 (X x0) (G x1) (Wu x2) (Cw x3) (Cb x4) (Wd x5) R d * Ideal.rsqrt (Ideal.div (Ideal.ofBits .f32 0x00000000#32 + _) width + eps) * Gp x6 d = _
  rw [Ideal.ofBits_zero_f32, zero_add]; rfl

/-- The result of the reference is the layer. -/
theorem result_apply (R : Fin 32768) (d : Fin 1024) :
    val_main_v57 (F := Ideal) x0 x1 x2 x3 x4 x5 x6 (ix2 R d)
      = Spec.out 2048 (X x0) (G x1) (Wu x2) (Cw x3) (Cb x4) (Wd x5) (Gp x6) R d := by
  unfold val_main_v57
  refine (shapeCast_apply _ _ _ (ix3 (bq R) (sq R) d) ?_).trans (out_apply x0 x1 x2 x3 x4 x5 x6 R d)
  rw [Shape.rowMajor_val_three, Shape.rowMajor_val_two]
  show (R.val / 2048 * 2048 + R.val % 2048) * 1024 + d.val = R.val * 1024 + d.val
  omega

end Cert.ReferenceIdeal.Ffn
-- ==== Proof.Algebraic.lean ====
module

public import proofs.«01_k».proof.Defs
public import proofs.«01_k».proof.Proof.HostArgs
public import proofs.«01_k».proof.Proof.RefRows

/-! # The feed-forward call and its reference compute the same array -/

@[expose] public section

noncomputable section

namespace Cert.Proof

open Idealize.ShloMosaic hiding ix0 ix1 ix2 ix3 ix4 ix5 eq_ix1 eq_ix2 eq_ix3
open Idealize.ShloMosaic.ValueIdx
open Idealize.SL.Sem

/-- On equal arguments the reference's result is the layer the kernel's blocks make up. -/
theorem ffn_eq (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ) (c : Dev KernelIdeal.nD)
    (h0 : m' ((c.tc : Thread ReferenceIdeal.nD ReferenceIdeal.τ).loc ReferenceIdeal.main_arg0) = m ((c.tc : Thread KernelIdeal.nD KernelIdeal.τ).loc KernelIdeal.main_arg0))
    (h1 : m' ((c.tc : Thread ReferenceIdeal.nD ReferenceIdeal.τ).loc ReferenceIdeal.main_arg1) = m ((c.tc : Thread KernelIdeal.nD KernelIdeal.τ).loc KernelIdeal.main_arg1))
    (h2 : m' ((c.tc : Thread ReferenceIdeal.nD ReferenceIdeal.τ).loc ReferenceIdeal.main_arg2) = m ((c.tc : Thread KernelIdeal.nD KernelIdeal.τ).loc KernelIdeal.main_arg2))
    (h3 : m' ((c.tc : Thread ReferenceIdeal.nD ReferenceIdeal.τ).loc ReferenceIdeal.main_arg3) = m ((c.tc : Thread KernelIdeal.nD KernelIdeal.τ).loc KernelIdeal.main_arg3))
    (h4 : m' ((c.tc : Thread ReferenceIdeal.nD ReferenceIdeal.τ).loc ReferenceIdeal.main_arg4) = m ((c.tc : Thread KernelIdeal.nD KernelIdeal.τ).loc KernelIdeal.main_arg4))
    (h5 : m' ((c.tc : Thread ReferenceIdeal.nD ReferenceIdeal.τ).loc ReferenceIdeal.main_arg5) = m ((c.tc : Thread KernelIdeal.nD KernelIdeal.τ).loc KernelIdeal.main_arg5))
    (h6 : m' ((c.tc : Thread ReferenceIdeal.nD ReferenceIdeal.τ).loc ReferenceIdeal.main_arg6) = m ((c.tc : Thread KernelIdeal.nD KernelIdeal.τ).loc KernelIdeal.main_arg6)) :
    ReferenceIdeal.Value.res_main_v57 m' c = KernelIdeal.Ffn.layer m c := by
  rw [ReferenceIdeal.Read.val_main_v57_eq, h0, h1, h2, h3, h4, h5, h6]
  funext i
  obtain ⟨R, d, rfl⟩ : ∃ (R : Fin 32768) (d : Fin 1024), i = ix2 R d := ⟨i 0, i 1, eq_ix2 i⟩
  refine (ReferenceIdeal.Ffn.result_apply _ _ _ _ _ _ _ R d).trans ?_
  show _ = Spec.out 2048 (KernelIdeal.Ffn.X m c) (KernelIdeal.Ffn.G m c) (KernelIdeal.Ffn.Wu m c) (KernelIdeal.Ffn.Cw m c) (KernelIdeal.Ffn.Cb m c)
    (KernelIdeal.Ffn.Wd m c) (KernelIdeal.Ffn.Gp m c) R d
  rw [show KernelIdeal.Ffn.X m c = _ from funext fun R => funext fun d => KernelIdeal.Ffn.X_eq m c R d,
    show KernelIdeal.Ffn.G m c = _ from funext fun d => KernelIdeal.Ffn.G_eq m c d,
    show KernelIdeal.Ffn.Wu m c = _ from funext fun d => funext fun f => KernelIdeal.Ffn.Wu_eq m c d f,
    show KernelIdeal.Ffn.Cw m c = _ from funext fun j => funext fun f => KernelIdeal.Ffn.Cw_eq m c j f,
    show KernelIdeal.Ffn.Cb m c = _ from funext fun f => KernelIdeal.Ffn.Cb_eq m c f,
    show KernelIdeal.Ffn.Wd m c = _ from funext fun k => funext fun d => KernelIdeal.Ffn.Wd_eq m c k d,
    show KernelIdeal.Ffn.Gp m c = _ from funext fun d => KernelIdeal.Ffn.Gp_eq m c d]
  rfl

/-- The kernel's result array is the reference's. -/
theorem algebraic : algebraic_KernelIdeal_ReferenceIdeal (hKernelIdeal := KernelIdeal.Gen.facts) (hReferenceIdeal := ReferenceIdeal.Gen.facts) :=
  fun m g m' g' _ h =>
    ⟨fun c => KernelIdeal.Ffn.layer m c,
      (θ_run KernelIdeal.defs _ _).mono (fun r hr c => ⟨(hr c).1.trans (KernelIdeal.Ffn.final m c), (hr c).2⟩) (KernelIdeal.Value.run_blocks m g),
      (θ_run ReferenceIdeal.defs _ _).mono (fun r hr c => ⟨(hr c).1.trans
        (ffn_eq m m' c (h c).1 (h c).2.1 (h c).2.2.1 (h c).2.2.2.1 (h c).2.2.2.2.1 (h c).2.2.2.2.2.1 (h c).2.2.2.2.2.2), (hr c).2⟩) (ReferenceIdeal.Value.run m' g')⟩

end Cert.Proof
-- ==== Proof.Step.lean ====
module

public import proofs.«01_k».proof.Defs
public import proofs.«01_k».proof.Proof.Gen.Kernel2Ideal.Value
public import Idealize.ShloMosaic.Lib.Pipeline.ValueKit
public import Idealize.ShloMosaic.Lib.MatmulPlain
public import Idealize.ShloMosaic.Lib.KernelVsHost
public import Idealize.ShloMosaic.Lib.ValueIdx
public import Idealize.ShloMosaic.Lib.IdealHost

/-! # The mLSTM kernel's body as a fold of steps

The body of a grid point runs 32 steps, one for each quarter of the point's rows and each of the eight chains (a direction
and a head). The definitions here give one step as a function of what it loads, and the fold of the steps. -/

@[expose] public section

noncomputable section

namespace Cert.Mix

open Cert.Kernel2Ideal Cert.Kernel2Ideal.Gen Idealize.ShloMosaic

/-- The positions a row sums over: those up to it forward, those from it on backward. -/
def mask (back : Bool) : IVec S128x128 1 :=
  match back with
  | false => cmpi .sle (iota .tc S128x128 32 [1] iota_S128x128_d1_w32) (iota .tc S128x128 32 [0] iota_S128x128_d0_w32)
  | true => cmpi .sge (iota .tc S128x128 32 [1] iota_S128x128_d1_w32) (iota .tc S128x128 32 [0] iota_S128x128_d0_w32)

/-- The mask as zeros and ones. -/
def tri (back : Bool) : FVec Ideal S128x128 .bf16 :=
  truncf .bf16 (sitofp .f32 (extui 32 (mask back) natLt_1_32)) bitsLt_bf16_f32

/-- A gate with its bias. -/
def gate (g : FVec Ideal S128x128 .f32) (b : FVec Ideal S1x128 .f32) : FVec Ideal S128x128 .f32 :=
  addf (shapeCast S128x128 g shapeCasts_S128x128_S128x128)
    (broadcastTo S128x128 (shapeCast S1x128 b shapeCasts_S1x128_S1x128) broadcasts_S1x128_S128x128)

/-- The logarithm of the logistic function. -/
def logSigmoid (x : FVec Ideal S128x128 .f32) : FVec Ideal S128x128 .f32 :=
  subf (minimumf x (broadcast S128x128 (Scalar.ofBits (F := Ideal) .f32 0x00000000#32)))
    (log (addf (broadcast S128x128 (Scalar.ofBits (F := Ideal) .f32 0x3F800000#32))
      (exp (subf (broadcast S128x128 (Scalar.ofBits (F := Ideal) .f32 0x00000000#32)) (absf x)))))

/-- Sums along the rows by three products with the mask. -/
def cumRows (back : Bool) (x : FVec Ideal S128x128 .f32) : FVec Ideal S128x128 .f32 :=
  have hi : FVec Ideal S128x128 .bf16 := truncf .bf16 x bitsLt_bf16_f32
  have r1 : FVec Ideal S128x128 .f32 := subf x (extf .f32 hi bitsLt_bf16_f32)
  have mid : FVec Ideal S128x128 .bf16 := truncf .bf16 r1 bitsLt_bf16_f32
  have lo : FVec Ideal S128x128 .bf16 := truncf .bf16 (subf r1 (extf .f32 mid bitsLt_bf16_f32)) bitsLt_bf16_f32
  have z : FVec Ideal S128x128 .f32 := constant S128x128 .f32 0x00000000#32
  addf (addf (matmul dot_S128x128_S128x128_S128x128_1_0_0_1_n_n none (tri back) hi z)
    (matmul dot_S128x128_S128x128_S128x128_1_0_0_1_n_n none (tri back) mid z))
    (matmul dot_S128x128_S128x128_S128x128_1_0_0_1_n_n none (tri back) lo z)

/-- One level of the running maximum inside eight rows. -/
def level (back : Bool) (n : BitVec 32) (x : FVec Ideal S8x128 .f32) : FVec Ideal S8x128 .f32 :=
  maximumf x (select (broadcastTo S8x128 (shapeCast S8x1
    (cmpi (match back with | false => .sge | true => .slt) (iota .tc S8x1 32 [0] iota_S8x1_d0_w32) (broadcast S8x1 n))
      shapeCasts_S8x1_S8x1) broadcasts_S8x1_S8x128)
    (dynamicRotate 0 n none x rotates_S8x128_d0) (broadcast S8x128 (Scalar.ofBits (F := Ideal) .f32 0xFF800000#32)))

/-- The running maximum inside eight rows. -/
def levels (back : Bool) (x : FVec Ideal S8x128 .f32) : FVec Ideal S8x128 .f32 :=
  match back with
  | false => level false 4#32 (level false 2#32 (level false 1#32 x))
  | true => level true 4#32 (level true 6#32 (level true 7#32 x))

/-- Eight rows of a chunk. -/
def eight (x : FVec Ideal S128x128 .f32) (k : Fin 16) : FVec Ideal S8x128 .f32 :=
  extractStridedSlice S8x128 ![8 * k.val, 0] x
    ((by decide : ∀ k : Fin 16, S128x128.Slices ![8 * k.val, 0] S8x128) k)

/-- What the rows before carry into eight rows. -/
def carry (back : Bool) (y : FVec Ideal S8x128 .f32) : FVec Ideal S8x128 .f32 :=
  broadcastTo S8x128 (shapeCast S1x128 (match back with
    | false => extractStridedSlice S1x128 ![7, 0] y slices_S8x128_o7_0_S1x128
    | true => extractStridedSlice S1x128 ![0, 0] y slices_S8x128_o0_0_S1x128) shapeCasts_S1x128_S1x128)
    broadcasts_S1x128_S8x128

/-- The running maximum of the `n`-th eight rows in the order of the direction. -/
def scanned (back : Bool) (x : FVec Ideal S128x128 .f32) : ℕ → FVec Ideal S8x128 .f32
  | 0 => levels back (eight x (match back with | false => 0 | true => 15))
  | n + 1 => maximumf (levels back (eight x (match back with | false => Fin.ofNat 16 (n + 1) | true => Fin.ofNat 16 (14 - n))))
      (carry back (scanned back x n))

/-- The running maximum of a chunk's rows. -/
def scan (back : Bool) (x : FVec Ideal S128x128 .f32) : FVec Ideal S128x128 .f32 :=
  match back with
  | false => concatenate S128x128 0 [⟨S8x128, scanned false x 0⟩, ⟨S8x128, scanned false x 1⟩, ⟨S8x128, scanned false x 2⟩,
      ⟨S8x128, scanned false x 3⟩, ⟨S8x128, scanned false x 4⟩, ⟨S8x128, scanned false x 5⟩, ⟨S8x128, scanned false x 6⟩,
      ⟨S8x128, scanned false x 7⟩, ⟨S8x128, scanned false x 8⟩, ⟨S8x128, scanned false x 9⟩, ⟨S8x128, scanned false x 10⟩,
      ⟨S8x128, scanned false x 11⟩, ⟨S8x128, scanned false x 12⟩, ⟨S8x128, scanned false x 13⟩, ⟨S8x128, scanned false x 14⟩,
      ⟨S8x128, scanned false x 15⟩]
      concatenates_S8x128_S8x128_S8x128_S8x128_S8x128_S8x128_S8x128_S8x128_S8x128_S8x128_S8x128_S8x128_S8x128_S8x128_S8x128_S8x128_S128x128_d0
  | true => concatenate S128x128 0 [⟨S8x128, scanned true x 15⟩, ⟨S8x128, scanned true x 14⟩, ⟨S8x128, scanned true x 13⟩,
      ⟨S8x128, scanned true x 12⟩, ⟨S8x128, scanned true x 11⟩, ⟨S8x128, scanned true x 10⟩, ⟨S8x128, scanned true x 9⟩,
      ⟨S8x128, scanned true x 8⟩, ⟨S8x128, scanned true x 7⟩, ⟨S8x128, scanned true x 6⟩, ⟨S8x128, scanned true x 5⟩,
      ⟨S8x128, scanned true x 4⟩, ⟨S8x128, scanned true x 3⟩, ⟨S8x128, scanned true x 2⟩, ⟨S8x128, scanned true x 1⟩,
      ⟨S8x128, scanned true x 0⟩]
      concatenates_S8x128_S8x128_S8x128_S8x128_S8x128_S8x128_S8x128_S8x128_S8x128_S8x128_S8x128_S8x128_S8x128_S8x128_S8x128_S8x128_S128x128_d0

/-- One lane of a chunk on all lanes. -/
def lane (x : FVec Ideal S128x128 .f32) (ch : Fin 8) : FVec Ideal S128x128 .f32 :=
  broadcastTo S128x128 (shapeCast S128x1 (extractStridedSlice S128x1 ![0, ch.val] x
    ((by decide : ∀ ch : Fin 8, S128x128.Slices ![0, ch.val] S128x1) ch)) shapeCasts_S128x1_S128x1)
    broadcasts_S128x1_S128x128

/-- A lane as a row. -/
def laneRow (x : FVec Ideal S128x128 .f32) (ch : Fin 8) : FVec Ideal S1x128 .f32 :=
  extractStridedSlice S1x128 ![ch.val, 0] (transpose S128x128 [1, 0] x transposes_S128x128_p1_0_S128x128)
    ((by decide : ∀ ch : Fin 8, S128x128.Slices ![ch.val, 0] S1x128) ch)

/-- The last row in the order of the direction. -/
def lastRow (back : Bool) (x : FVec Ideal S128x128 .f32) : FVec Ideal S1x128 .f32 :=
  match back with
  | false => extractStridedSlice S1x128 ![127, 0] x slices_S128x128_o127_0_S1x128
  | true => extractStridedSlice S1x128 ![0, 0] x slices_S128x128_o0_0_S1x128

/-- What one step is computed from: the masks' direction, the chain's queries, keys and values, its running sums of forget
    gates and running maxima on all lanes, its gates as a row, and the state. -/
structure Ins where
  back : Bool
  q : FVec Ideal S128x128 .bf16
  k : FVec Ideal S128x128 .bf16
  v : FVec Ideal S128x256 .bf16
  b : FVec Ideal S128x128 .f32
  cm : FVec Ideal S128x128 .f32
  u : FVec Ideal S1x128 .f32
  m : FVec Ideal S1x128 .f32
  c : FVec Ideal S128x384 .f32

namespace Ins

variable (s : Ins)

/-- The products of queries and keys, weighted. -/
def scores : FVec Ideal S128x128 .f32 :=
  mulf (matmul dot_S128x128_S128x128_S128x128_1_1_0_0_n_n none s.q s.k (constant S128x128 .f32 0x00000000#32))
    (select (mask s.back) (exp (subf (broadcastTo S128x128 s.u broadcasts_S1x128_S128x128) s.cm))
      (broadcast S128x128 (Scalar.ofBits (F := Ideal) .f32 0x00000000#32)))

/-- The whole chunk's sum of forget gates. -/
def total : FVec Ideal S1x128 .f32 := lastRow s.back s.b

/-- The gates of the state's update. -/
def gRow : FVec Ideal S1x128 .f32 := addf s.u s.total

/-- Their maximum. -/
def gMax : FVec Ideal S1x1 .f32 :=
  shapeCast S1x1 (multiReduction .maximumf [1] S1 s.gRow 0xFF800000#32 reduces_S1x128_S1 (.inl rfl) rfl) shapeCasts_S1_S1x1

/-- The chunk's contribution to the state. -/
def dca : FVec Ideal S128x384 .f32 :=
  matmul dot_S128x128_S128x384_S128x384_1_0_0_1_n_n none
    (truncf .bf16 (mulf (extf .f32 (transpose S128x128 [1, 0] s.k transposes_S128x128_p1_0_S128x128) bitsLt_bf16_f32)
      (broadcastTo S128x128 (exp (subf s.gRow (broadcastTo S1x128 s.gMax broadcasts_S1x1_S1x128)))
        broadcasts_S1x128_S128x128)) bitsLt_bf16_f32)
    (concatenate S128x384 1 [⟨S128x256, s.v⟩, ⟨S128x128, broadcast S128x128 (Scalar.ofBits (F := Ideal) .bf16 0x3F80#16)⟩]
      concatenates_S128x256_S128x128_S128x384_d1) (constant S128x384 .f32 0x00000000#32)

/-- The rows' scale. -/
def mx : FVec Ideal S128x128 .f32 := maximumf (broadcastTo S128x128 s.m broadcasts_S1x128_S128x128) s.cm

/-- The weight of the chunk's own part. -/
def aLoc : FVec Ideal S128x128 .f32 :=
  mulf (broadcast S128x128 (Scalar.ofBits (F := Ideal) .f32 0x3DB504F3#32)) (exp (subf s.cm s.mx))

/-- The weight of the state's part. -/
def aInt : FVec Ideal S128x128 .f32 :=
  mulf (broadcast S128x128 (Scalar.ofBits (F := Ideal) .f32 0x3DB504F3#32))
    (exp (subf (broadcastTo S128x128 s.m broadcasts_S1x128_S128x128) s.mx))

/-- The numerators, and the state's part of the denominators. -/
def nd : FVec Ideal S128x384 .f32 :=
  matmul dot_S128x256_S256x384_S128x384_1_0_0_1_n_n none
    (concatenate S128x256 1 [⟨S128x128, truncf .bf16 (mulf s.aLoc s.scores) bitsLt_bf16_f32⟩,
      ⟨S128x128, truncf .bf16 (mulf s.aInt (extf .f32 s.q bitsLt_bf16_f32)) bitsLt_bf16_f32⟩]
      concatenates_S128x128_S128x128_S128x256_d1)
    (concatenate S256x384 0 [⟨S128x384, concatenate S128x384 1 [⟨S128x256, s.v⟩,
        ⟨S128x128, broadcast S128x128 (Scalar.ofBits (F := Ideal) .bf16 0x0000#16)⟩]
        concatenates_S128x256_S128x128_S128x384_d1⟩,
      ⟨S128x384, truncf .bf16 s.c bitsLt_bf16_f32⟩] concatenates_S128x384_S128x384_S256x384_d0)
    (constant S128x384 .f32 0x00000000#32)

/-- The denominators. -/
def den : FVec Ideal S128x128 .f32 :=
  addf (mulf s.aLoc (broadcastTo S128x128 (shapeCast S128x1
      (multiReduction .add [1] S128 s.scores 0x00000000#32 reduces_S128x128_S128 (.inl rfl) rfl) shapeCasts_S128_S128x1)
      broadcasts_S128x1_S128x128))
    (extractStridedSlice S128x128 ![0, 256] s.nd slices_S128x384_o0_256_S128x128)

/-- One over the bounded denominators. -/
def rden : FVec Ideal S128x128 .f32 :=
  divf (broadcast S128x128 (Scalar.ofBits (F := Ideal) .f32 0x3F800000#32))
    (maximumf (absf s.den) (exp (subf (broadcast S128x128 (Scalar.ofBits (F := Ideal) .f32 0x00000000#32)) (addf s.b s.mx))))

/-- The first half of the result's columns. -/
def h0 : FVec Ideal S128x128 .bf16 :=
  truncf .bf16 (mulf (extractStridedSlice S128x128 ![0, 0] s.nd slices_S128x384_o0_0_S128x128) s.rden) bitsLt_bf16_f32

/-- The second half of the result's columns. -/
def h1 : FVec Ideal S128x128 .bf16 :=
  truncf .bf16 (mulf (extractStridedSlice S128x128 ![0, 128] s.nd slices_S128x384_o0_128_S128x128) s.rden) bitsLt_bf16_f32

/-- The maximum on all lanes. -/
def gMaxRow : FVec Ideal S1x128 .f32 :=
  broadcastTo S1x128 (shapeCast S1x1 s.gMax shapeCasts_S1x1_S1x1) broadcasts_S1x1_S1x128

/-- The state's new scale. -/
def mNew : FVec Ideal S1x128 .f32 := maximumf (addf s.total s.m) s.gMaxRow

/-- A row three times, on all rows. -/
def thrice (x : FVec Ideal S1x128 .f32) : FVec Ideal S128x384 .f32 :=
  broadcastTo S128x384 (concatenate S1x384 1 [⟨S1x128, x⟩, ⟨S1x128, x⟩, ⟨S1x128, x⟩]
    concatenates_S1x128_S1x128_S1x128_S1x384_d1) broadcasts_S1x384_S128x384

/-- The new state. -/
def cNew : FVec Ideal S128x384 .f32 :=
  addf (mulf (thrice (exp (subf (addf s.total s.m) s.mNew))) s.c)
    (mulf (thrice (exp (subf s.gMaxRow s.mNew))) s.dca)

end Ins

/-- What a grid point loads: for each direction, quarter and head its queries, keys and values, for each direction and
    quarter its gates, and the biases; with the running maxima computed from them. -/
structure Loads where
  q : Bool → Fin 4 → Fin 4 → FVec Ideal S128x128 .bf16
  k : Bool → Fin 4 → Fin 4 → FVec Ideal S128x128 .bf16
  v : Bool → Fin 4 → Fin 4 → FVec Ideal S128x256 .bf16
  gi : Bool → Fin 4 → FVec Ideal S128x128 .f32
  gf : Bool → Fin 4 → FVec Ideal S128x128 .f32
  bi : FVec Ideal S1x128 .f32
  bf : FVec Ideal S1x128 .f32
  cm : Bool → Fin 4 → FVec Ideal S128x128 .f32

namespace Loads

variable (l : Loads)

/-- The running sums of the forget gates. -/
def cum (d : Bool) (i : Fin 4) : FVec Ideal S128x128 .f32 := cumRows d (logSigmoid (gate (l.gf d i) l.bf))

/-- The input gates less them. -/
def u (d : Bool) (i : Fin 4) : FVec Ideal S128x128 .f32 := subf (gate (l.gi d i) l.bi) (l.cum d i)

/-- A step's inputs, at a state. -/
def ins (d : Bool) (i : Fin 4) (h : Fin 4) (ch : Fin 8) (m : FVec Ideal S1x1x128 .f32) (c : FVec Ideal S1x128x384 .f32) : Ins where
  back := d
  q := shapeCast S128x128 (l.q d i h) shapeCasts_S128x128_S128x128
  k := shapeCast S128x128 (l.k d i h) shapeCasts_S128x128_S128x128
  v := shapeCast S128x256 (l.v d i h) shapeCasts_S128x256_S128x256
  b := lane (l.cum d i) ch
  cm := lane (l.cm d i) ch
  u := laneRow (l.u d i) ch
  m := shapeCast S1x128 m shapeCasts_S1x1x128_S1x128
  c := shapeCast S128x384 c shapeCasts_S1x128x384_S128x384

end Loads

/-- A chain's place among the scales. -/
def rectM (ch : Fin 8) : Rect S8x1x128 :=
  Rect.unit ![ch.val, 0, 0] S1x1x128.size
    ((by decide : ∀ ch : Fin 8, ∀ a, (![ch.val, 0, 0] : Fin 3 → ℕ) a + S1x1x128.size a ≤ S8x1x128.size a) ch)

/-- A chain's place among the states. -/
def rectC (ch : Fin 8) : Rect S8x128x384 :=
  Rect.unit ![ch.val, 0, 0] S1x128x384.size
    ((by decide : ∀ ch : Fin 8, ∀ a, (![ch.val, 0, 0] : Fin 3 → ℕ) a + S1x128x384.size a ≤ S8x128x384.size a) ch)

/-- The first row of a direction's `i`-th quarter. -/
def quarter (d : Bool) (i : Fin 4) : Fin 4 :=
  match d with
  | false => i
  | true => ⟨3 - i.val, by omega⟩

/-- The place of a quarter's rows and of 128 columns in the result. -/
def rectH (i : Fin 4) (n : Fin 8) : Rect S512x1024 :=
  Rect.unit ![128 * i.val, 128 * n.val] S128x128.size
    ((by decide : ∀ (i : Fin 4) (n : Fin 8), ∀ a, (![128 * i.val, 128 * n.val] : Fin 2 → ℕ) a + S128x128.size a ≤ S512x1024.size a) i n)

/-- The place of a quarter's rows and of 128 columns among the queries or the keys. -/
def rectQ (i : Fin 4) (n : Fin 4) : Rect S512x512 :=
  Rect.unit ![128 * i.val, 128 * n.val] S128x128.size
    ((by decide : ∀ (i : Fin 4) (n : Fin 4), ∀ a, (![128 * i.val, 128 * n.val] : Fin 2 → ℕ) a + S128x128.size a ≤ S512x512.size a) i n)

/-- The place of a quarter's rows and of 256 columns among the values. -/
def rectV (i : Fin 4) (n : Fin 4) : Rect S512x1024 :=
  Rect.unit ![128 * i.val, 256 * n.val] S128x256.size
    ((by decide : ∀ (i : Fin 4) (n : Fin 4), ∀ a, (![128 * i.val, 256 * n.val] : Fin 2 → ℕ) a + S128x256.size a ≤ S512x1024.size a) i n)

/-- The place of a quarter's rows and of 128 lanes among the gates. -/
def rectG (i : Fin 4) (n : Fin 2) : Rect S512x256 :=
  Rect.unit ![128 * i.val, 128 * n.val] S128x128.size
    ((by decide : ∀ (i : Fin 4) (n : Fin 2), ∀ a, (![128 * i.val, 128 * n.val] : Fin 2 → ℕ) a + S128x128.size a ≤ S512x256.size a) i n)

/-- The place of 128 lanes of the biases. -/
def rectB (n : Fin 2) : Rect S1x256 :=
  Rect.unit ![0, 128 * n.val] S1x128.size
    ((by decide : ∀ (n : Fin 2), ∀ a, (![0, 128 * n.val] : Fin 2 → ℕ) a + S1x128.size a ≤ S1x256.size a) n)

/-- A step: its direction, the quarter of the rows it computes, its head, its chain, and what it reads of the state. -/
structure Done where
  back : Bool
  qu : Fin 4
  hd : Fin 4
  ch : Fin 8
  m : FVec Ideal S1x1x128 .f32
  c : FVec Ideal S1x128x384 .f32

namespace Done

variable (r : Done)

/-- What the step is computed from. -/
def ins (l : Loads) : Ins := l.ins r.back r.qu r.hd r.ch r.m r.c

end Done

variable (l : Loads)

/-- The scales the steps stored, last first. -/
def piecesM (base : List (View.Piece (Elt Ideal) S8x1x128 .f32)) : List Done → List (View.Piece (Elt Ideal) S8x1x128 .f32)
  | [] => base
  | r :: L => ⟨rectM r.ch, shapeCast S1x1x128 (r.ins l).mNew shapeCasts_S1x128_S1x1x128⟩ :: piecesM base L

/-- The states the steps stored, last first. -/
def piecesC (base : List (View.Piece (Elt Ideal) S8x128x384 .f32)) : List Done → List (View.Piece (Elt Ideal) S8x128x384 .f32)
  | [] => base
  | r :: L => ⟨rectC r.ch, shapeCast S1x128x384 (r.ins l).cNew shapeCasts_S128x384_S1x128x384⟩ :: piecesC base L

/-- The results one direction's steps stored, last first. -/
def piecesH : List Done → List (View.Piece (Elt Ideal) S512x1024 .bf16)
  | [] => []
  | r :: L => ⟨rectH r.qu (Fin.ofNat 8 (2 * r.hd.val + 1)), (r.ins l).h1⟩ ::
      ⟨rectH r.qu (Fin.ofNat 8 (2 * r.hd.val)), (r.ins l).h0⟩ :: piecesH L

/-- The four heads of one direction on one quarter, last first. -/
def heads (m : Fin 8 → FVec Ideal S1x1x128 .f32) (c : Fin 8 → FVec Ideal S1x128x384 .f32) : Bool → Fin 4 → List Done
  | false, i => [⟨false, i, 3, 3, m 3, c 3⟩, ⟨false, i, 2, 2, m 2, c 2⟩, ⟨false, i, 1, 1, m 1, c 1⟩, ⟨false, i, 0, 0, m 0, c 0⟩]
  | true, i => [⟨true, i, 3, 7, m 7, c 7⟩, ⟨true, i, 2, 6, m 6, c 6⟩, ⟨true, i, 1, 5, m 5, c 5⟩, ⟨true, i, 0, 4, m 4, c 4⟩]

/-- All the steps of a point, last first. -/
def steps (m : Fin 4 → Fin 8 → FVec Ideal S1x1x128 .f32) (c : Fin 4 → Fin 8 → FVec Ideal S1x128x384 .f32) : List Done :=
  heads (m 3) (c 3) true 0 ++ (heads (m 3) (c 3) false 3 ++ (heads (m 2) (c 2) true 1 ++ (heads (m 2) (c 2) false 2 ++
    (heads (m 1) (c 1) true 2 ++ (heads (m 1) (c 1) false 1 ++ (heads (m 0) (c 0) true 3 ++ heads (m 0) (c 0) false 0))))))

/-- One direction's steps of a point, last first. -/
def stepsOf (d : Bool) (m : Fin 4 → Fin 8 → FVec Ideal S1x1x128 .f32) (c : Fin 4 → Fin 8 → FVec Ideal S1x128x384 .f32) : List Done :=
  match d with
  | false => heads (m 3) (c 3) false 3 ++ (heads (m 2) (c 2) false 2 ++ (heads (m 1) (c 1) false 1 ++ heads (m 0) (c 0) false 0))
  | true => heads (m 3) (c 3) true 0 ++ (heads (m 2) (c 2) true 1 ++ (heads (m 1) (c 1) true 2 ++ heads (m 0) (c 0) true 3))

end Cert.Mix
-- ==== Proof.StepRun.lean ====
module

public import proofs.«01_k».proof.Proof.Step

/-! # The run's pieces are the fold's

What the two cases of the kernel's body store is the fold of the steps. -/

@[expose] public section

noncomputable section

namespace Cert.Mix

open Cert.Kernel2Ideal Cert.Kernel2Ideal.Gen Idealize.ShloMosaic Idealize.ShloMosaic.TcCoe

variable (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512x1024 .bf16) (harg4 : arg4.IsWhole) (arg5 : Memref sig .tc .vmem S512x256 .f32) (harg5 : arg5.IsWhole) (arg6 : Memref sig .tc .vmem S512x512 .bf16) (harg6 : arg6.IsWhole) (arg7 : Memref sig .tc .vmem S512x512 .bf16) (harg7 : arg7.IsWhole) (arg8 : Memref sig .tc .vmem S512x1024 .bf16) (harg8 : arg8.IsWhole) (arg9 : Memref sig .tc .vmem S512x256 .f32) (harg9 : arg9.IsWhole) (arg10 : Memref sig .tc .vmem S1x256 .f32) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S8x128x384 .f32) (harg13 : arg13.IsWhole) (arg14 : Memref sig .tc .vmem S8x1x128 .f32) (harg14 : arg14.IsWhole)
    (x0 : Vec Ideal S512x512 .bf16) (x1 : Vec Ideal S512x512 .bf16) (x2 : Vec Ideal S512x1024 .bf16) (x3 : Vec Ideal S512x256 .f32) (x4 : Vec Ideal S512x512 .bf16) (x5 : Vec Ideal S512x512 .bf16) (x6 : Vec Ideal S512x1024 .bf16) (x7 : Vec Ideal S512x256 .f32) (x8 : Vec Ideal S1x256 .f32) (xs0 : Vec Ideal S8x128x384 .f32) (xs1 : Vec Ideal S8x1x128 .f32)

/-- What the point loads, through its memrefs. -/
def read (cm : Bool → Fin 4 → FVec Ideal S128x128 .f32) : Loads where
  q d i h := match d with
    | false => View.readAt (Elt Ideal) arg2.view (rectQ i h).toLoadRect (harg2.unread x0)
    | true => View.readAt (Elt Ideal) arg6.view (rectQ i h).toLoadRect (harg6.unread x4)
  k d i h := match d with
    | false => View.readAt (Elt Ideal) arg3.view (rectQ i h).toLoadRect (harg3.unread x1)
    | true => View.readAt (Elt Ideal) arg7.view (rectQ i h).toLoadRect (harg7.unread x5)
  v d i h := match d with
    | false => View.readAt (Elt Ideal) arg4.view (rectV i h).toLoadRect (harg4.unread x2)
    | true => View.readAt (Elt Ideal) arg8.view (rectV i h).toLoadRect (harg8.unread x6)
  gi d i := match d with
    | false => View.readAt (Elt Ideal) arg5.view (rectG i 0).toLoadRect (harg5.unread x3)
    | true => View.readAt (Elt Ideal) arg9.view (rectG i 0).toLoadRect (harg9.unread x7)
  gf d i := match d with
    | false => View.readAt (Elt Ideal) arg5.view (rectG i 1).toLoadRect (harg5.unread x3)
    | true => View.readAt (Elt Ideal) arg9.view (rectG i 1).toLoadRect (harg9.unread x7)
  bi := View.readAt (Elt Ideal) arg10.view (rectB 0).toLoadRect (harg10.unread x8)
  bf := View.readAt (Elt Ideal) arg10.view (rectB 1).toLoadRect (harg10.unread x8)
  cm := cm

/-- The running maxima, as the run of case A names them. -/
def cmA (d : Bool) (q : Fin 4) : FVec Ideal S128x128 .f32 :=
  match d, q with
  | false, 0 => kernelRun0_A.sl.r_87 c arg5 harg5 arg10 harg10 x3 x8
  | false, 1 => kernelRun0_A.sl.r_371 c arg5 harg5 arg10 harg10 x3 x8
  | false, 2 => kernelRun0_A.sl.r_658 c arg5 harg5 arg10 harg10 x3 x8
  | false, 3 => kernelRun0_A.sl.r_936 c arg5 harg5 arg10 harg10 x3 x8
  | true, 0 => kernelRun0_A.sl.r_1070 c arg9 harg9 arg10 harg10 x7 x8
  | true, 1 => kernelRun0_A.sl.r_796 c arg9 harg9 arg10 harg10 x7 x8
  | true, 2 => kernelRun0_A.sl.r_515 c arg9 harg9 arg10 harg10 x7 x8
  | true, 3 => kernelRun0_A.sl.r_226 c arg9 harg9 arg10 harg10 x7 x8

/-- The running maxima, as the run of case B names them. -/
def cmB (d : Bool) (q : Fin 4) : FVec Ideal S128x128 .f32 :=
  match d, q with
  | false, 0 => kernelRun0_B.sl.r_87 c arg5 harg5 arg10 harg10 x3 x8
  | false, 1 => kernelRun0_B.sl.r_371 c arg5 harg5 arg10 harg10 x3 x8
  | false, 2 => kernelRun0_B.sl.r_658 c arg5 harg5 arg10 harg10 x3 x8
  | false, 3 => kernelRun0_B.sl.r_936 c arg5 harg5 arg10 harg10 x3 x8
  | true, 0 => kernelRun0_B.sl.r_1070 c arg9 harg9 arg10 harg10 x7 x8
  | true, 1 => kernelRun0_B.sl.r_796 c arg9 harg9 arg10 harg10 x7 x8
  | true, 2 => kernelRun0_B.sl.r_515 c arg9 harg9 arg10 harg10 x7 x8
  | true, 3 => kernelRun0_B.sl.r_226 c arg9 harg9 arg10 harg10 x7 x8

/-- What the steps read of the scales: the first round what stood there, a later one what was stored last. -/
def readM (first : Fin 8 → FVec Ideal S1x1x128 .f32) (L : List (View.Piece (Elt Ideal) S8x1x128 .f32)) :
    Fin 4 → Fin 8 → FVec Ideal S1x1x128 .f32
  | 0, ch => first ch
  | 1, ch => arg14.view.readCov (L.drop (24 - ch.val)) (rectM ch).toLoadRect
  | 2, ch => arg14.view.readCov (L.drop (16 - ch.val)) (rectM ch).toLoadRect
  | 3, ch => arg14.view.readCov (L.drop (8 - ch.val)) (rectM ch).toLoadRect

/-- What the steps read of the states. -/
def readC (first : Fin 8 → FVec Ideal S1x128x384 .f32) (L : List (View.Piece (Elt Ideal) S8x128x384 .f32)) :
    Fin 4 → Fin 8 → FVec Ideal S1x128x384 .f32
  | 0, ch => first ch
  | 1, ch => arg13.view.readCov (L.drop (24 - ch.val)) (rectC ch).toLoadRect
  | 2, ch => arg13.view.readCov (L.drop (16 - ch.val)) (rectC ch).toLoadRect
  | 3, ch => arg13.view.readCov (L.drop (8 - ch.val)) (rectC ch).toLoadRect

/-- What the first round reads of the scales where they were kept. -/
def keptM (ch : Fin 8) : FVec Ideal S1x1x128 .f32 := View.readAt (Elt Ideal) arg14.view (rectM ch).toLoadRect (harg14.unread xs1)

/-- What the first round reads of the states where they were kept. -/
def keptC (ch : Fin 8) : FVec Ideal S1x128x384 .f32 := View.readAt (Elt Ideal) arg13.view (rectC ch).toLoadRect (harg13.unread xs0)

/-- The scales a point starting a sequence begins with. -/
def zeroM : List (View.Piece (Elt Ideal) S8x1x128 .f32) :=
  [⟨Rect.unit ![0, 0, 0] S8x1x128.size inb_S8x1x128_S8x1x128_0_0_0, k0_pay3 (F := Ideal)⟩]

/-- The states a point starting a sequence begins with. -/
def zeroC : List (View.Piece (Elt Ideal) S8x128x384 .f32) :=
  [⟨Rect.unit ![0, 0, 0] S8x128x384.size inb_S8x128x384_S8x128x384_0_0_0, k0_pay2 (F := Ideal)⟩]

/-- What a point starting a sequence reads of the scales. -/
def readAM (L1 : List (View.Piece (Elt Ideal) S8x1x128 .f32)) : Fin 4 → Fin 8 → FVec Ideal S1x1x128 .f32 :=
  readM arg14 (fun ch => arg14.view.readCov (L1.drop (32 - ch.val)) (rectM ch).toLoadRect) L1

/-- What a point starting a sequence reads of the states. -/
def readAC (L0 : List (View.Piece (Elt Ideal) S8x128x384 .f32)) : Fin 4 → Fin 8 → FVec Ideal S1x128x384 .f32 :=
  readC arg13 (fun ch => arg13.view.readCov (L0.drop (32 - ch.val)) (rectC ch).toLoadRect) L0

/-- What a point continuing one reads of the scales. -/
def readBM (L1 : List (View.Piece (Elt Ideal) S8x1x128 .f32)) : Fin 4 → Fin 8 → FVec Ideal S1x1x128 .f32 :=
  readM arg14 (keptM arg14 harg14 xs1) L1

/-- What a point continuing one reads of the states. -/
def readBC (L0 : List (View.Piece (Elt Ideal) S8x128x384 .f32)) : Fin 4 → Fin 8 → FVec Ideal S1x128x384 .f32 :=
  readC arg13 (keptC arg13 harg13 xs0) L0

set_option maxRecDepth 100000
attribute [local irreducible] View.readAt View.readCov

/-- The scales stored in case A. -/
theorem scales_A (hc : cond0_0 i) : (kernelRun0_A (F := Ideal) c i arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 x8).2.2.2.1 =
    piecesM ((read arg2 harg2 arg3 harg3 arg4 harg4 arg5 harg5 arg6 harg6 arg7 harg7 arg8 harg8 arg9 harg9 arg10 harg10 x0 x1 x2 x3 x4 x5 x6 x7 x8) (cmA c arg5 harg5 arg9 harg9 arg10 harg10 x3 x7 x8)) zeroM (steps (readAM arg14
      (kernelRun0_A (F := Ideal) c i arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 x8).2.2.2.1)
    (readAC arg13
      (kernelRun0_A (F := Ideal) c i arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 x8).2.2.1)) := by exact Eq.refl _

/-- The states stored in case A. -/
theorem states_A (hc : cond0_0 i) : (kernelRun0_A (F := Ideal) c i arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 x8).2.2.1 =
    piecesC ((read arg2 harg2 arg3 harg3 arg4 harg4 arg5 harg5 arg6 harg6 arg7 harg7 arg8 harg8 arg9 harg9 arg10 harg10 x0 x1 x2 x3 x4 x5 x6 x7 x8) (cmA c arg5 harg5 arg9 harg9 arg10 harg10 x3 x7 x8)) zeroC (steps (readAM arg14
      (kernelRun0_A (F := Ideal) c i arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 x8).2.2.2.1)
    (readAC arg13
      (kernelRun0_A (F := Ideal) c i arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 x8).2.2.1)) := by exact Eq.refl _

set_option maxHeartbeats 4000000 in
/-- The forward results stored in case A. -/
theorem fwd_A (hc : cond0_0 i) : (kernelRun0_A (F := Ideal) c i arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 x8).1 =
    piecesH ((read arg2 harg2 arg3 harg3 arg4 harg4 arg5 harg5 arg6 harg6 arg7 harg7 arg8 harg8 arg9 harg9 arg10 harg10 x0 x1 x2 x3 x4 x5 x6 x7 x8) (cmA c arg5 harg5 arg9 harg9 arg10 harg10 x3 x7 x8)) (stepsOf false (readAM arg14
      (kernelRun0_A (F := Ideal) c i arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 x8).2.2.2.1)
    (readAC arg13
      (kernelRun0_A (F := Ideal) c i arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 x8).2.2.1)) := by exact Eq.refl _

set_option maxHeartbeats 4000000 in
/-- The backward results stored in case A. -/
theorem bwd_A (hc : cond0_0 i) : (kernelRun0_A (F := Ideal) c i arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 x8).2.1 =
    piecesH ((read arg2 harg2 arg3 harg3 arg4 harg4 arg5 harg5 arg6 harg6 arg7 harg7 arg8 harg8 arg9 harg9 arg10 harg10 x0 x1 x2 x3 x4 x5 x6 x7 x8) (cmA c arg5 harg5 arg9 harg9 arg10 harg10 x3 x7 x8)) (stepsOf true (readAM arg14
      (kernelRun0_A (F := Ideal) c i arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 x8).2.2.2.1)
    (readAC arg13
      (kernelRun0_A (F := Ideal) c i arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 x8).2.2.1)) := by exact Eq.refl _

/-- The running maxima of case A are the scan's. -/
theorem cmA_eq (cm : Bool → Fin 4 → FVec Ideal S128x128 .f32) (d : Bool) (q : Fin 4) : cmA c arg5 harg5 arg9 harg9 arg10 harg10 x3 x7 x8 d q =
    scan d (((read arg2 harg2 arg3 harg3 arg4 harg4 arg5 harg5 arg6 harg6 arg7 harg7 arg8 harg8 arg9 harg9 arg10 harg10 x0 x1 x2 x3 x4 x5 x6 x7 x8) cm).u d q) := by
  match d, q with
  | false, 0 => exact Eq.refl _
  | false, 1 => exact Eq.refl _
  | false, 2 => exact Eq.refl _
  | false, 3 => exact Eq.refl _
  | true, 0 => exact Eq.refl _
  | true, 1 => exact Eq.refl _
  | true, 2 => exact Eq.refl _
  | true, 3 => exact Eq.refl _

/-- The scales stored in case B. -/
theorem scales_B (hc : ¬cond0_0 i) : (kernelRun0_B (F := Ideal) c i arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 x8 xs0 xs1).2.2.2.1 =
    piecesM ((read arg2 harg2 arg3 harg3 arg4 harg4 arg5 harg5 arg6 harg6 arg7 harg7 arg8 harg8 arg9 harg9 arg10 harg10 x0 x1 x2 x3 x4 x5 x6 x7 x8) (cmB c arg5 harg5 arg9 harg9 arg10 harg10 x3 x7 x8)) [] (steps (readBM arg14 harg14 xs1
      (kernelRun0_B (F := Ideal) c i arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 x8 xs0 xs1).2.2.2.1)
    (readBC arg13 harg13 xs0
      (kernelRun0_B (F := Ideal) c i arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 x8 xs0 xs1).2.2.1)) := by exact Eq.refl _

/-- The states stored in case B. -/
theorem states_B (hc : ¬cond0_0 i) : (kernelRun0_B (F := Ideal) c i arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 x8 xs0 xs1).2.2.1 =
    piecesC ((read arg2 harg2 arg3 harg3 arg4 harg4 arg5 harg5 arg6 harg6 arg7 harg7 arg8 harg8 arg9 harg9 arg10 harg10 x0 x1 x2 x3 x4 x5 x6 x7 x8) (cmB c arg5 harg5 arg9 harg9 arg10 harg10 x3 x7 x8)) [] (steps (readBM arg14 harg14 xs1
      (kernelRun0_B (F := Ideal) c i arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 x8 xs0 xs1).2.2.2.1)
    (readBC arg13 harg13 xs0
      (kernelRun0_B (F := Ideal) c i arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 x8 xs0 xs1).2.2.1)) := by exact Eq.refl _

set_option maxHeartbeats 4000000 in
/-- The forward results stored in case B. -/
theorem fwd_B (hc : ¬cond0_0 i) : (kernelRun0_B (F := Ideal) c i arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 x8 xs0 xs1).1 =
    piecesH ((read arg2 harg2 arg3 harg3 arg4 harg4 arg5 harg5 arg6 harg6 arg7 harg7 arg8 harg8 arg9 harg9 arg10 harg10 x0 x1 x2 x3 x4 x5 x6 x7 x8) (cmB c arg5 harg5 arg9 harg9 arg10 harg10 x3 x7 x8)) (stepsOf false (readBM arg14 harg14 xs1
      (kernelRun0_B (F := Ideal) c i arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 x8 xs0 xs1).2.2.2.1)
    (readBC arg13 harg13 xs0
      (kernelRun0_B (F := Ideal) c i arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 x8 xs0 xs1).2.2.1)) := by exact Eq.refl _

set_option maxHeartbeats 4000000 in
/-- The backward results stored in case B. -/
theorem bwd_B (hc : ¬cond0_0 i) : (kernelRun0_B (F := Ideal) c i arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 x8 xs0 xs1).2.1 =
    piecesH ((read arg2 harg2 arg3 harg3 arg4 harg4 arg5 harg5 arg6 harg6 arg7 harg7 arg8 harg8 arg9 harg9 arg10 harg10 x0 x1 x2 x3 x4 x5 x6 x7 x8) (cmB c arg5 harg5 arg9 harg9 arg10 harg10 x3 x7 x8)) (stepsOf true (readBM arg14 harg14 xs1
      (kernelRun0_B (F := Ideal) c i arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 x8 xs0 xs1).2.2.2.1)
    (readBC arg13 harg13 xs0
      (kernelRun0_B (F := Ideal) c i arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 x8 xs0 xs1).2.2.1)) := by exact Eq.refl _

/-- The running maxima of case B are the scan's. -/
theorem cmB_eq (cm : Bool → Fin 4 → FVec Ideal S128x128 .f32) (d : Bool) (q : Fin 4) : cmB c arg5 harg5 arg9 harg9 arg10 harg10 x3 x7 x8 d q =
    scan d (((read arg2 harg2 arg3 harg3 arg4 harg4 arg5 harg5 arg6 harg6 arg7 harg7 arg8 harg8 arg9 harg9 arg10 harg10 x0 x1 x2 x3 x4 x5 x6 x7 x8) cm).u d q) := by
  match d, q with
  | false, 0 => exact Eq.refl _
  | false, 1 => exact Eq.refl _
  | false, 2 => exact Eq.refl _
  | false, 3 => exact Eq.refl _
  | true, 0 => exact Eq.refl _
  | true, 1 => exact Eq.refl _
  | true, 2 => exact Eq.refl _
  | true, 3 => exact Eq.refl _

end Cert.Mix
-- ==== Proof.Lookup.lean ====
module

public import proofs.«01_k».proof.Proof.Step

/-! # What a step reads of the state

A step reads what the step before it on the same chain stored: every store between them is of another chain. -/

@[expose] public section

noncomputable section

namespace Cert.Mix

open Cert.Kernel2Ideal Cert.Kernel2Ideal.Gen Idealize.ShloMosaic Idealize.ShloMosaic.TcCoe

theorem disjM : ∀ a b : Fin 8, a ≠ b → LoadRect.disj (rectM a) (rectM b).toLoadRect = true := by decide +kernel

theorem disjC : ∀ a b : Fin 8, a ≠ b → LoadRect.disj (rectC a) (rectC b).toLoadRect = true := by decide +kernel

theorem disjH : ∀ (a b : Fin 4 × Fin 8), a ≠ b → LoadRect.disj (rectH a.1 a.2) (rectH b.1 b.2).toLoadRect = true := by decide +kernel

variable (l : Loads)

/-- A chain's scale, where the first of the stores on it is the one at a position. -/
theorem canonM (base : List (View.Piece (Elt Ideal) S8x1x128 .f32)) : ∀ (L : List Done) (n p : ℕ) (r : Done) (_ : L[p]? = some r) (_ : n ≤ p)
    (_ : r.ch ∉ ((L.map Done.ch).take p).drop n) (x : S1x1x128.Idx),
    View.canon ((piecesM l base L).drop n) ((rectM r.ch).emb x) = shapeCast S1x1x128 (r.ins l).mNew shapeCasts_S1x128_S1x1x128 x
  | [], n, p, r, h, _, _, x => by simp at h
  | a :: L, 0, 0, r, h, _, _, x => by
    obtain rfl : a = r := by simpa using h
    exact View.canon_cons_emb _ _ _ _
  | a :: L, 0, p + 1, r, h, _, hc, x => by
    have hne : a.ch ≠ r.ch := fun e => hc (by simp [e])
    refine (View.canon_cons_of_not_mem _ _ (LoadRect.idx_not_mem_of_disj (disjM _ _ hne) x)).trans ?_
    exact canonM base L 0 p r (by simpa using h) (Nat.zero_le _) (fun hm => hc (by simp at hm ⊢; exact .inr hm)) x
  | a :: L, n + 1, 0, r, h, hn, _, x => by omega
  | a :: L, n + 1, p + 1, r, h, hn, hc, x =>
    canonM base L n p r (by simpa using h) (by omega) (by simpa using hc) x

/-- A chain's scale, where no store on it has been made. -/
theorem canonM_base (base : List (View.Piece (Elt Ideal) S8x1x128 .f32)) : ∀ (L : List Done) (n : ℕ) (ch : Fin 8) (_ : n ≤ L.length)
    (_ : ch ∉ (L.map Done.ch).drop n) (x : S1x1x128.Idx),
    View.canon ((piecesM l base L).drop n) ((rectM ch).emb x) = View.canon base ((rectM ch).emb x)
  | [], n, ch, h, _, x => by obtain rfl : n = 0 := by simpa using h
                             rfl
  | a :: L, 0, ch, h, hc, x => by
    have hne : a.ch ≠ ch := fun e => hc (by simp [e])
    refine (View.canon_cons_of_not_mem _ _ (LoadRect.idx_not_mem_of_disj (disjM _ _ hne) x)).trans ?_
    exact canonM_base base L 0 ch (Nat.zero_le _) (fun hm => hc (by simp at hm ⊢; exact .inr hm)) x
  | a :: L, n + 1, ch, h, hc, x => canonM_base base L n ch (by simpa using h) (by simpa using hc) x

/-- A chain's state, where the first of the stores on it is the one at a position. -/
theorem canonC (base : List (View.Piece (Elt Ideal) S8x128x384 .f32)) : ∀ (L : List Done) (n p : ℕ) (r : Done) (_ : L[p]? = some r) (_ : n ≤ p)
    (_ : r.ch ∉ ((L.map Done.ch).take p).drop n) (x : S1x128x384.Idx),
    View.canon ((piecesC l base L).drop n) ((rectC r.ch).emb x) = shapeCast S1x128x384 (r.ins l).cNew shapeCasts_S128x384_S1x128x384 x
  | [], n, p, r, h, _, _, x => by simp at h
  | a :: L, 0, 0, r, h, _, _, x => by
    obtain rfl : a = r := by simpa using h
    exact View.canon_cons_emb _ _ _ _
  | a :: L, 0, p + 1, r, h, _, hc, x => by
    have hne : a.ch ≠ r.ch := fun e => hc (by simp [e])
    refine (View.canon_cons_of_not_mem _ _ (LoadRect.idx_not_mem_of_disj (disjC _ _ hne) x)).trans ?_
    exact canonC base L 0 p r (by simpa using h) (Nat.zero_le _) (fun hm => hc (by simp at hm ⊢; exact .inr hm)) x
  | a :: L, n + 1, 0, r, h, hn, _, x => by omega
  | a :: L, n + 1, p + 1, r, h, hn, hc, x =>
    canonC base L n p r (by simpa using h) (by omega) (by simpa using hc) x

/-- A chain's state, where no store on it has been made. -/
theorem canonC_base (base : List (View.Piece (Elt Ideal) S8x128x384 .f32)) : ∀ (L : List Done) (n : ℕ) (ch : Fin 8) (_ : n ≤ L.length)
    (_ : ch ∉ (L.map Done.ch).drop n) (x : S1x128x384.Idx),
    View.canon ((piecesC l base L).drop n) ((rectC ch).emb x) = View.canon base ((rectC ch).emb x)
  | [], n, ch, h, _, x => by obtain rfl : n = 0 := by simpa using h
                             rfl
  | a :: L, 0, ch, h, hc, x => by
    have hne : a.ch ≠ ch := fun e => hc (by simp [e])
    refine (View.canon_cons_of_not_mem _ _ (LoadRect.idx_not_mem_of_disj (disjC _ _ hne) x)).trans ?_
    exact canonC_base base L 0 ch (Nat.zero_le _) (fun hm => hc (by simp at hm ⊢; exact .inr hm)) x
  | a :: L, n + 1, ch, h, hc, x => canonC_base base L n ch (by simpa using h) (by simpa using hc) x

/-- The first and the second 128 columns of a head. -/
def col (hd : Fin 4) (second : Bool) : Fin 8 := Fin.ofNat 8 (2 * hd.val + second.toNat)

theorem col_ne : ∀ (a b : Fin 4) (s t : Bool), (s ≠ t ∨ a ≠ b) → col a s ≠ col b t := by decide

theorem piecesH_cons (a : Done) (L : List Done) : piecesH l (a :: L) =
    (⟨rectH a.qu (col a.hd true), (a.ins l).h1⟩ :: ⟨rectH a.qu (col a.hd false), (a.ins l).h0⟩ :: piecesH l L : List (View.Piece (Elt Ideal) S512x1024 .bf16)) := rfl

theorem hit_h1 (q : Fin 4) (n n' : Fin 8) (w w' : S128x128.Idx → EReal) (L : List (View.Piece (Elt Ideal) S512x1024 .bf16)) (x : S128x128.Idx) :
    View.canon (⟨rectH q n, w⟩ :: ⟨rectH q n', w'⟩ :: L : List (View.Piece (Elt Ideal) S512x1024 .bf16)) ((rectH q n).emb x) = w x :=
  View.canon_cons_emb (Val := Elt Ideal) (e := .bf16) (rectH q n) w _ x

theorem skip_h (a b : Fin 4 × Fin 8) (h : a ≠ b) (w : S128x128.Idx → EReal) (L : List (View.Piece (Elt Ideal) S512x1024 .bf16)) (x : S128x128.Idx) :
    View.canon (⟨rectH a.1 a.2, w⟩ :: L : List (View.Piece (Elt Ideal) S512x1024 .bf16)) ((rectH b.1 b.2).emb x) = View.canon L ((rectH b.1 b.2).emb x) :=
  View.canon_cons_of_not_mem (Val := Elt Ideal) (e := .bf16) ⟨rectH a.1 a.2, w⟩ L (LoadRect.idx_not_mem_of_disj (disjH a b h) x)

theorem hit_h0 (q : Fin 4) (n : Fin 8) (w : S128x128.Idx → EReal) (L : List (View.Piece (Elt Ideal) S512x1024 .bf16)) (x : S128x128.Idx) :
    View.canon (⟨rectH q n, w⟩ :: L : List (View.Piece (Elt Ideal) S512x1024 .bf16)) ((rectH q n).emb x) = w x :=
  View.canon_cons_emb (Val := Elt Ideal) (e := .bf16) (rectH q n) w _ x

/-- A result's columns, where the first of the stores on its quarter and head is the one at a position. -/
theorem canonH (L : List Done) : ∀ (p : ℕ) (r : Done) (_ : L[p]? = some r)
    (_ : (r.qu, r.hd) ∉ (L.map fun a => (a.qu, a.hd)).take p) (s : Bool) (x : S128x128.Idx),
    View.canon (piecesH l L) ((rectH r.qu (col r.hd s)).emb x) = (bif s then (r.ins l).h1 else (r.ins l).h0) x := by
  induction L with
  | nil => intro p r h; simp at h
  | cons a L ih =>
    intro p r h hc s x
    rw [piecesH_cons]
    cases p with
    | zero =>
      obtain rfl : a = r := by simpa using h
      cases s with
      | true => exact hit_h1 _ _ _ _ _ _ x
      | false =>
        refine (skip_h (a.qu, col a.hd true) (a.qu, col a.hd false)
          (fun e => col_ne a.hd a.hd true false (.inl (by decide)) (congrArg Prod.snd e)) _ _ x).trans ?_
        exact hit_h0 _ _ _ _ x
    | succ p =>
      have hne : (a.qu, a.hd) ≠ (r.qu, r.hd) := fun e => hc (by simp [← e])
      have hd : ∀ t, ((a.qu, col a.hd t) : Fin 4 × Fin 8) ≠ (r.qu, col r.hd s) := fun t e =>
        col_ne a.hd r.hd t s (.inr fun h => hne (Prod.ext (Prod.mk.inj e).1 h)) (Prod.mk.inj e).2
      refine (skip_h (a.qu, col a.hd true) (r.qu, col r.hd s) (hd true) _ _ x).trans ?_
      refine (skip_h (a.qu, col a.hd false) (r.qu, col r.hd s) (hd false) _ _ x).trans ?_
      exact ih p r (by simpa using h) (fun hm => hc (by rw [List.map_cons, List.take_succ_cons]; exact List.mem_cons_of_mem _ hm)) s x

/-- A chain's direction. -/
def dirOf (ch : Fin 8) : Bool := decide (4 ≤ ch.val)
/-- A chain's head. -/
def hdOf (ch : Fin 8) : Fin 4 := Fin.ofNat 4 ch.val

variable (mm : Fin 4 → Fin 8 → FVec Ideal S1x1x128 .f32) (cc : Fin 4 → Fin 8 → FVec Ideal S1x128x384 .f32)

/-- A round's step on a chain. -/
def stp (k : Fin 4) (ch : Fin 8) : Done := ⟨dirOf ch, quarter (dirOf ch) k, hdOf ch, ch, mm k ch, cc k ch⟩

/-- The chains of the steps, last first. -/
def chains : List (Fin 8) := [7, 6, 5, 4, 3, 2, 1, 0, 7, 6, 5, 4, 3, 2, 1, 0, 7, 6, 5, 4, 3, 2, 1, 0, 7, 6, 5, 4, 3, 2, 1, 0]

theorem steps_ch : (steps mm cc).map Done.ch = chains := rfl

theorem steps_at (k : Fin 4) (ch : Fin 8) : (steps mm cc)[8 * (3 - k.val) + (7 - ch.val)]? = some (stp mm cc k ch) := by
  fin_cases k <;> fin_cases ch <;> rfl

theorem chains_free : ∀ (k : Fin 4) (ch : Fin 8), ch ∉ ((chains.take (8 * (3 - k.val) + (7 - ch.val))).drop (8 * (3 - k.val) - ch.val)) := by decide

theorem chains_first : ∀ ch : Fin 8, ch ∉ chains.drop (32 - ch.val) := by decide

/-- What is kept of a chain's scale after a round. -/
theorem after_M (base : List (View.Piece (Elt Ideal) S8x1x128 .f32)) (k : Fin 4) (ch : Fin 8) (x : S1x1x128.Idx) :
    View.canon ((piecesM l base (steps mm cc)).drop (8 * (3 - k.val) - ch.val)) ((rectM ch).emb x) =
      shapeCast S1x1x128 ((stp mm cc k ch).ins l).mNew shapeCasts_S1x128_S1x1x128 x :=
  canonM l base (steps mm cc) _ _ (stp mm cc k ch) (steps_at mm cc k ch) (by omega) (by rw [steps_ch]; exact chains_free k ch) x

/-- What is kept of a chain's state after a round. -/
theorem after_C (base : List (View.Piece (Elt Ideal) S8x128x384 .f32)) (k : Fin 4) (ch : Fin 8) (x : S1x128x384.Idx) :
    View.canon ((piecesC l base (steps mm cc)).drop (8 * (3 - k.val) - ch.val)) ((rectC ch).emb x) =
      shapeCast S1x128x384 ((stp mm cc k ch).ins l).cNew shapeCasts_S128x384_S1x128x384 x :=
  canonC l base (steps mm cc) _ _ (stp mm cc k ch) (steps_at mm cc k ch) (by omega) (by rw [steps_ch]; exact chains_free k ch) x

/-- What the first step on a chain reads of the scales is what stood there. -/
theorem before_M (base : List (View.Piece (Elt Ideal) S8x1x128 .f32)) (ch : Fin 8) (x : S1x1x128.Idx) :
    View.canon ((piecesM l base (steps mm cc)).drop (32 - ch.val)) ((rectM ch).emb x) = View.canon base ((rectM ch).emb x) :=
  canonM_base l base (steps mm cc) _ ch (show 32 - ch.val ≤ 32 by omega) (by rw [steps_ch]; exact chains_first ch) x

/-- What the first step on a chain reads of the states is what stood there. -/
theorem before_C (base : List (View.Piece (Elt Ideal) S8x128x384 .f32)) (ch : Fin 8) (x : S1x128x384.Idx) :
    View.canon ((piecesC l base (steps mm cc)).drop (32 - ch.val)) ((rectC ch).emb x) = View.canon base ((rectC ch).emb x) :=
  canonC_base l base (steps mm cc) _ ch (show 32 - ch.val ≤ 32 by omega) (by rw [steps_ch]; exact chains_first ch) x

/-- The place of a chain's step among one direction's steps, last first. -/
theorem stepsOf_at (k : Fin 4) (ch : Fin 8) : (stepsOf (dirOf ch) mm cc)[4 * (3 - k.val) + (3 - (hdOf ch).val)]? = some (stp mm cc k ch) := by
  fin_cases k <;> fin_cases ch <;> rfl

/-- The quarters and heads of one direction's steps, last first. -/
def places (d : Bool) : List (Fin 4 × Fin 4) :=
  [(quarter d 3, 3), (quarter d 3, 2), (quarter d 3, 1), (quarter d 3, 0), (quarter d 2, 3), (quarter d 2, 2), (quarter d 2, 1), (quarter d 2, 0),
   (quarter d 1, 3), (quarter d 1, 2), (quarter d 1, 1), (quarter d 1, 0), (quarter d 0, 3), (quarter d 0, 2), (quarter d 0, 1), (quarter d 0, 0)]

theorem stepsOf_places (d : Bool) : ((stepsOf d mm cc).map fun a => (a.qu, a.hd)) = places d := by cases d <;> rfl

theorem places_free : ∀ (k : Fin 4) (ch : Fin 8), (quarter (dirOf ch) k, hdOf ch) ∉ (places (dirOf ch)).take (4 * (3 - k.val) + (3 - (hdOf ch).val)) := by decide

/-- The result of a step, at its quarter and head. -/
theorem result (k : Fin 4) (ch : Fin 8) (s : Bool) (x : S128x128.Idx) :
    View.canon (piecesH l (stepsOf (dirOf ch) mm cc)) ((rectH (quarter (dirOf ch) k) (col (hdOf ch) s)).emb x) =
      (bif s then ((stp mm cc k ch).ins l).h1 else ((stp mm cc k ch).ins l).h0) x :=
  canonH l (stepsOf (dirOf ch) mm cc) _ (stp mm cc k ch) (stepsOf_at mm cc k ch) (by rw [stepsOf_places]; exact places_free k ch) s x

end Cert.Mix
-- ==== Proof.Chunk.lean ====
module

public import proofs.«01_k».proof.Proof.Step
public import proofs.«01_k».proof.Proof.Rows

/-! # One step on real values

A step's inputs at real values give real results: the new state, and the rows of the result as quotients in which the scales
cancel. -/

@[expose] public section

noncomputable section

namespace Cert.Mix

open Cert.Kernel2Ideal Cert.Kernel2Ideal.Gen Cert.Rows
open Idealize.ShloMosaic hiding ix0 ix1 ix2 ix3 ix4 ix5 eq_ix1 eq_ix2 eq_ix3
open Idealize.ShloMosaic.ValueIdx
open scoped BigOperators

/-- The order of a direction: row `s` is summed at row `r`. -/
def before (back : Bool) {n : ℕ} (r s : Fin n) : Prop := match back with | false => s ≤ r | true => r ≤ s

instance (back : Bool) {n : ℕ} (r s : Fin n) : Decidable (before back r s) := by
  unfold before; cases back <;> infer_instance

/-- A finite sum of reals, as extended reals. -/
theorem coe_sum {ι : Type} (S : Finset ι) (f : ι → ℝ) : (∑ x ∈ S, (f x : EReal)) = ((∑ x ∈ S, f x : ℝ) : EReal) := by
  classical
  induction S using Finset.induction_on with
  | empty => simp
  | insert a S ha ih => rw [Finset.sum_insert ha, Finset.sum_insert ha, ih, EReal.coe_add]

/-- The maximum of two reals, as extended reals. -/
theorem coe_max (x y : ℝ) : max (x : EReal) (y : EReal) = ((max x y : ℝ) : EReal) :=
  (EReal.coe_strictMono.monotone.map_max (a := x) (b := y)).symm

/-- The quotient of two reals, as extended reals. -/
theorem coe_quot (x y : ℝ) (hy : y ≠ 0) : Ideal.div (x : EReal) (y : EReal) = ((x / y : ℝ) : EReal) := by
  unfold Ideal.div
  rw [if_neg (by exact_mod_cast hy), ← EReal.coe_inv, ← EReal.coe_mul, div_eq_mul_inv]

/-- The scale of the queries, as the float constant both programs hold. -/
def scale : ℝ := (Ideal.ofBits .f32 0x3DB504F3#32 : EReal).toReal

theorem scale_eq : (Ideal.ofBits .f32 0x3DB504F3#32 : EReal) = (scale : EReal) := by
  unfold scale
  rw [EReal.coe_toReal]
  · simp [Ideal.ofBits, Ideal.ieee]; exact_mod_cast EReal.coe_ne_top _
  · simp [Ideal.ofBits, Ideal.ieee]; exact_mod_cast EReal.coe_ne_bot _

/-- The mask at a row and a column. -/
theorem mask_apply (back : Bool) (r s : Fin 128) : mask back (ix2 r s) = if before back r s then 1#1 else 0#1 := by
  cases back
  · have h := (by decide +kernel : ∀ r s : Fin 128, Scalar.cmpi .sle (BitVec.ofNat 32 s.val) (BitVec.ofNat 32 r.val) = if s ≤ r then 1#1 else 0#1) r s
    show Scalar.cmpi .sle (iota .tc S128x128 32 [1] iota_S128x128_d1_w32 (ix2 r s)) (iota .tc S128x128 32 [0] iota_S128x128_d0_w32 (ix2 r s)) = _
    rw [iota_single_apply, iota_single_apply]
    exact h.trans (if_congr Iff.rfl rfl rfl)
  · have h := (by decide +kernel : ∀ r s : Fin 128, Scalar.cmpi .sge (BitVec.ofNat 32 s.val) (BitVec.ofNat 32 r.val) = if r ≤ s then 1#1 else 0#1) r s
    show Scalar.cmpi .sge (iota .tc S128x128 32 [1] iota_S128x128_d1_w32 (ix2 r s)) (iota .tc S128x128 32 [0] iota_S128x128_d0_w32 (ix2 r s)) = _
    rw [iota_single_apply, iota_single_apply]
    exact h.trans (if_congr Iff.rfl rfl rfl)

/-- The last row in the order of the direction. -/
def lastIx (back : Bool) : Fin 128 := match back with | false => 127 | true => 0

/-- A step's inputs as reals. -/
structure Reals where
  back : Bool
  q : Fin 128 → Fin 128 → ℝ
  k : Fin 128 → Fin 128 → ℝ
  v : Fin 128 → Fin 256 → ℝ
  b : Fin 128 → ℝ
  cm : Fin 128 → ℝ
  u : Fin 128 → ℝ
  m : ℝ
  c : Fin 128 → Fin 384 → ℝ

/-- A step's inputs are these reals. -/
structure Ins.Is (s : Ins) (R : Reals) : Prop where
  hback : s.back = R.back
  hq : ∀ r d, s.q (ix2 r d) = (R.q r d : EReal)
  hk : ∀ r d, s.k (ix2 r d) = (R.k r d : EReal)
  hv : ∀ r e, s.v (ix2 r e) = (R.v r e : EReal)
  hb : ∀ r l, s.b (ix2 r l) = (R.b r : EReal)
  hcm : ∀ r l, s.cm (ix2 r l) = (R.cm r : EReal)
  hu : ∀ x, s.u (ix2 0 x) = (R.u x : EReal)
  hm : ∀ l, s.m (ix2 0 l) = (R.m : EReal)
  hc : ∀ d e, s.c (ix2 d e) = (R.c d e : EReal)

namespace Reals

variable (R : Reals)

/-- The product of a query and a key. -/
def qk (r x : Fin 128) : ℝ := ∑ d, R.q r d * R.k x d
/-- A score. -/
def sc (r x : Fin 128) : ℝ := R.qk r x * if before R.back r x then Real.exp (R.u x - R.cm r) else 0
/-- The chunk's sum of forget gates. -/
def bl : ℝ := R.b (lastIx R.back)
/-- The values, and ones beside them. -/
def va (x : Fin 128) (e : Fin 384) : ℝ := if h : e.val < 256 then R.v x ⟨e.val, h⟩ else 1
/-- The values, and zeros beside them. -/
def vz (x : Fin 128) (e : Fin 384) : ℝ := if h : e.val < 256 then R.v x ⟨e.val, h⟩ else 0
/-- A row's scale. -/
def mx (r : Fin 128) : ℝ := max R.m (R.cm r)
/-- The weight of the chunk's part. -/
def aLoc (r : Fin 128) : ℝ := scale * Real.exp (R.cm r - R.mx r)
/-- The weight of the state's part. -/
def aInt (r : Fin 128) : ℝ := scale * Real.exp (R.m - R.mx r)
/-- Numerators. -/
def nd (r : Fin 128) (e : Fin 384) : ℝ := (∑ x, R.aLoc r * R.sc r x * R.vz x e) + ∑ d, R.aInt r * R.q r d * R.c d e
/-- Denominators. -/
def den (r l : Fin 128) : ℝ := R.aLoc r * (∑ x, R.sc r x) + R.nd r ⟨256 + l.val, by omega⟩
/-- The weights without scales. -/
def w (r x : Fin 128) : ℝ := if before R.back r x then Real.exp (R.b r + R.u x) * R.qk r x else 0
/-- The state without its scale. -/
def T (d : Fin 128) (e : Fin 384) : ℝ := Real.exp R.m * R.c d e
/-- The results without scales. -/
def N (r : Fin 128) (e : Fin 384) : ℝ := scale * ((∑ x, R.w r x * R.va x e) + Real.exp (R.b r) * ∑ d, R.q r d * R.T d e)
/-- The next state without its scale. -/
def T' (d : Fin 128) (e : Fin 384) : ℝ := Real.exp R.bl * R.T d e + ∑ x, Real.exp (R.u x + R.bl) * R.k x d * R.va x e

/-- A score without its scale. -/
theorem sc_scaled (r x : Fin 128) : Real.exp (R.b r + R.cm r) * R.sc r x = R.w r x := by
  unfold sc w
  split
  · rw [show R.b r + R.u x = (R.b r + R.cm r) + (R.u x - R.cm r) by ring, Real.exp_add (R.b r + R.cm r)]; ring
  · ring

/-- The chunk's weight without its scale. -/
theorem aLoc_scaled (r : Fin 128) : Real.exp (R.b r + R.mx r) * R.aLoc r = scale * Real.exp (R.b r + R.cm r) := by
  unfold aLoc
  rw [show R.b r + R.cm r = (R.b r + R.mx r) + (R.cm r - R.mx r) by ring, Real.exp_add (R.b r + R.mx r)]; ring

/-- The state's weight without its scale. -/
theorem aInt_scaled (r : Fin 128) : Real.exp (R.b r + R.mx r) * R.aInt r = scale * (Real.exp (R.b r) * Real.exp R.m) := by
  unfold aInt
  rw [← Real.exp_add, show R.b r + R.m = (R.b r + R.mx r) + (R.m - R.mx r) by ring, Real.exp_add (R.b r + R.mx r)]; ring

/-- The state's part of a numerator without its scale. -/
theorem state_scaled (r : Fin 128) (e : Fin 384) :
    Real.exp (R.b r + R.mx r) * ∑ d, R.aInt r * R.q r d * R.c d e = scale * (Real.exp (R.b r) * ∑ d, R.q r d * R.T d e) := by
  rw [Finset.mul_sum, Finset.mul_sum, Finset.mul_sum]
  refine Finset.sum_congr rfl fun d _ => ?_
  unfold T
  linear_combination R.q r d * R.c d e * R.aInt_scaled r

/-- The chunk's part of a numerator without its scale. -/
theorem local_scaled (r : Fin 128) (g : Fin 128 → ℝ) :
    Real.exp (R.b r + R.mx r) * ∑ x, R.aLoc r * R.sc r x * g x = scale * ∑ x, R.w r x * g x := by
  rw [Finset.mul_sum, Finset.mul_sum]
  refine Finset.sum_congr rfl fun x _ => ?_
  rw [← R.sc_scaled]
  linear_combination R.sc r x * g x * R.aLoc_scaled r

/-- A numerator without its scale. -/
theorem nd_scaled (r : Fin 128) (e : Fin 384) (he : e.val < 256) : Real.exp (R.b r + R.mx r) * R.nd r e = R.N r e := by
  unfold nd N
  rw [mul_add, R.local_scaled r (fun x => R.vz x e), state_scaled, ← mul_add]
  unfold vz va
  simp only [dif_pos he]

/-- A denominator without its scale. -/
theorem den_scaled (r l : Fin 128) : Real.exp (R.b r + R.mx r) * R.den r l = R.N r ⟨256 + l.val, by omega⟩ := by
  unfold den nd N
  have h1 : ∀ x, R.vz x ⟨256 + l.val, by omega⟩ = 0 := fun x => by unfold vz; rw [dif_neg (by simp)]
  have h2 : ∀ x, R.va x ⟨256 + l.val, by omega⟩ = 1 := fun x => by unfold va; rw [dif_neg (by simp)]
  simp only [h1, h2, mul_zero, mul_one, Finset.sum_const_zero, zero_add]
  have h3 := R.local_scaled r (fun _ => 1)
  simp only [mul_one] at h3
  rw [mul_add, state_scaled, mul_add, ← h3, Finset.mul_sum]

/-- A quotient of the result. -/
theorem quot (r l : Fin 128) (e : Fin 384) (he : e.val < 256) :
    R.nd r e * (1 / max |R.den r l| (Real.exp (0 - (R.b r + R.mx r)))) = R.N r e / max |R.N r ⟨256 + l.val, by omega⟩| 1 := by
  rw [← R.nd_scaled r e he, ← R.den_scaled r l, abs_mul, abs_of_pos (Real.exp_pos _)]
  set E := Real.exp (R.b r + R.mx r) with hE
  have hE0 : 0 < E := Real.exp_pos _
  have h1 : Real.exp (0 - (R.b r + R.mx r)) = E⁻¹ := by rw [zero_sub, Real.exp_neg]
  have h2 : max (E * |R.den r l|) 1 = E * max |R.den r l| E⁻¹ := by
    rw [mul_max_of_nonneg _ _ hE0.le, mul_inv_cancel₀ hE0.ne']
  have h3 : 0 < max |R.den r l| E⁻¹ := lt_max_of_lt_right (inv_pos.2 hE0)
  rw [h1, h2, mul_div_mul_left _ _ hE0.ne', mul_one_div]

end Reals

end Cert.Mix
-- ==== Proof.Chain.lean ====
module

public import proofs.«01_k».proof.Proof.Chunk

/-! # A chain over a whole sequence

One head in one direction reads a sequence of 2048 rows in 16 chunks of 128. The state before a chunk is the sum over the rows of the
earlier chunks, so a row's result is the sum over all the rows before it in the direction. -/

@[expose] public section

noncomputable section

namespace Cert.Mix

/-- The row of the sequence that a chunk's row is. -/
def pos (back : Bool) (n : Fin 16) (r : Fin 128) : Fin 2048 := if back then ⟨128 * (15 - n.val) + r.val, by omega⟩ else ⟨128 * n.val + r.val, by omega⟩

/-- The rows of the sequence are the chunks' rows. -/
def place (back : Bool) : Fin 16 × Fin 128 ≃ Fin 2048 where
  toFun p := pos back p.1 p.2
  invFun s := (if back then ⟨15 - s.val / 128, by omega⟩ else ⟨s.val / 128, by omega⟩, ⟨s.val % 128, by omega⟩)
  left_inv := by
    rintro ⟨n, r⟩
    cases back <;> refine Prod.ext (Fin.ext ?_) (Fin.ext ?_) <;> simp [pos] <;> omega
  right_inv := by
    intro s
    cases back <;> refine Fin.ext ?_ <;> simp [pos] <;> omega

theorem sum_pos (back : Bool) (f : Fin 2048 → ℝ) : ∑ s, f s = ∑ n, ∑ x, f (pos back n x) := by
  rw [← (place back).sum_comp, Fintype.sum_prod_type]
  rfl

/-- Whether a row of the sequence counts for another. -/
def upTo (back : Bool) (t s : Fin 2048) : Prop := if back then t ≤ s else s ≤ t

instance (back : Bool) (t s : Fin 2048) : Decidable (upTo back t s) := by unfold upTo; infer_instance

theorem upTo_pos (back : Bool) (n n' : Fin 16) (r x : Fin 128) : upTo back (pos back n r) (pos back n' x) ↔ n' < n ∨ (n' = n ∧ before back r x) := by
  cases back <;> simp only [upTo, pos, before, Fin.le_def, Fin.lt_def, Fin.ext_iff, if_true, Bool.false_eq_true, if_false] <;> omega

/-- A sum over the rows that count is one over the earlier chunks and one within the chunk. -/
theorem sum_upTo (back : Bool) (n : Fin 16) (r : Fin 128) (f : Fin 2048 → ℝ) :
    (∑ s, if upTo back (pos back n r) s then f s else 0) =
      (∑ n' : Fin 16, if n'.val < n.val then ∑ x, f (pos back n' x) else 0) + ∑ x, if before back r x then f (pos back n x) else 0 := by
  rw [sum_pos back]
  rw [show (∑ x, if before back r x then f (pos back n x) else 0) = ∑ n' : Fin 16, if n' = n then ∑ x, if before back r x then f (pos back n' x) else 0 else 0 by
    rw [Finset.sum_ite_eq' Finset.univ n]; simp]
  rw [← Finset.sum_add_distrib]
  refine Finset.sum_congr rfl fun n' _ => ?_
  simp only [upTo_pos]
  by_cases h : n'.val < n.val
  · have h' : n' < n := h
    have h'' : ¬ n' = n := fun e => by subst e; exact lt_irrefl _ h
    simp [h', h'', h]
  · have h' : ¬ n' < n := h
    by_cases e : n' = n
    · simp [e]
    · simp [h', e, h]

/-- A sum over one more chunk. -/
theorem sum_lt_succ (n : Fin 16) (f : Fin 16 → ℝ) :
    (∑ n' : Fin 16, if n'.val < n.val + 1 then f n' else 0) = (∑ n' : Fin 16, if n'.val < n.val then f n' else 0) + f n := by
  rw [show f n = ∑ n' : Fin 16, if n' = n then f n' else 0 by rw [Finset.sum_ite_eq' Finset.univ n]; simp, ← Finset.sum_add_distrib]
  refine Finset.sum_congr rfl fun n' _ => ?_
  by_cases h : n'.val < n.val
  · have h'' : ¬ n' = n := fun e => by subst e; exact lt_irrefl _ h
    simp [h'', h, Nat.lt_succ_of_lt h]
  · by_cases e : n' = n
    · simp [e]
    · have : ¬ n'.val < n.val + 1 := fun g => e (Fin.ext (by omega))
      simp [e, h, this]

/-- One chain's sequence: its direction, queries, keys, values, input gates, and logarithms of forget gates. -/
structure Seq where
  back : Bool
  q : Fin 2048 → Fin 128 → ℝ
  k : Fin 2048 → Fin 128 → ℝ
  v : Fin 2048 → Fin 256 → ℝ
  li : Fin 2048 → ℝ
  lf : Fin 2048 → ℝ

namespace Seq

variable (S : Seq)

/-- The running sums of the forget gates over the sequence. -/
def B (t : Fin 2048) : ℝ := ∑ s, if upTo S.back t s then S.lf s else 0
/-- The running sums within a chunk. -/
def b (n : Fin 16) (r : Fin 128) : ℝ := ∑ x, if before S.back r x then S.lf (pos S.back n x) else 0
/-- The input gates less them. -/
def u (n : Fin 16) (x : Fin 128) : ℝ := S.li (pos S.back n x) - S.b n x
/-- The sums over the earlier chunks. -/
def P (n : ℕ) : ℝ := ∑ n' : Fin 16, if n'.val < n then ∑ x, S.lf (pos S.back n' x) else 0
/-- The values, and ones beside them. -/
def va (s : Fin 2048) (e : Fin 384) : ℝ := if h : e.val < 256 then S.v s ⟨e.val, h⟩ else 1
/-- The product of a query and a key. -/
def qk (t s : Fin 2048) : ℝ := ∑ d, S.q t d * S.k s d
/-- The state before a chunk. -/
def T (n : ℕ) (d : Fin 128) (e : Fin 384) : ℝ :=
  ∑ n' : Fin 16, if n'.val < n then ∑ x, Real.exp (S.P n - S.B (pos S.back n' x) + S.li (pos S.back n' x)) * S.k (pos S.back n' x) d * S.va (pos S.back n' x) e else 0
/-- A row's result. -/
def N (t : Fin 2048) (e : Fin 384) : ℝ :=
  ∑ s, if upTo S.back t s then Real.exp (S.B t - S.B s + S.li s) * S.qk t s * S.va s e else 0

/-- A chunk's inputs, at a state and a scale. -/
def reals (n : Fin 16) (cm : Fin 128 → ℝ) (m : ℝ) (c : Fin 128 → Fin 384 → ℝ) : Reals where
  back := S.back
  q r := S.q (pos S.back n r)
  k r := S.k (pos S.back n r)
  v r := S.v (pos S.back n r)
  b := S.b n
  cm := cm
  u := S.u n
  m := m
  c := c

theorem B_pos (n : Fin 16) (r : Fin 128) : S.B (pos S.back n r) = S.P n.val + S.b n r := sum_upTo S.back n r S.lf

theorem bl_eq (n : Fin 16) : S.b n (lastIx S.back) = ∑ x, S.lf (pos S.back n x) := by
  refine Finset.sum_congr rfl fun x _ => if_pos ?_
  cases S.back <;> simp only [before, lastIx, Fin.le_def, if_true, Bool.false_eq_true, if_false] <;> simp <;> omega

theorem P_succ (n : Fin 16) : S.P (n.val + 1) = S.P n.val + S.b n (lastIx S.back) := by
  rw [bl_eq]; exact sum_lt_succ n fun n' => ∑ x, S.lf (pos S.back n' x)

theorem T_zero (d : Fin 128) (e : Fin 384) : S.T 0 d e = 0 := by
  unfold T; simp

variable (n : Fin 16) (cm : Fin 128 → ℝ) (m : ℝ) (c : Fin 128 → Fin 384 → ℝ)

/-- The state after a chunk. -/
theorem T_succ (h : ∀ d e, Real.exp m * c d e = S.T n.val d e) (d : Fin 128) (e : Fin 384) : (S.reals n cm m c).T' d e = S.T (n.val + 1) d e := by
  unfold Reals.T' Reals.T
  rw [show (S.reals n cm m c).m = m from rfl, show (S.reals n cm m c).c = c from rfl, h]
  unfold T
  rw [sum_lt_succ n, Finset.mul_sum]
  congr 1
  · refine Finset.sum_congr rfl fun n' _ => ?_
    split
    · rw [Finset.mul_sum]
      refine Finset.sum_congr rfl fun x _ => ?_
      rw [P_succ, show S.P n.val + S.b n (lastIx S.back) - S.B (pos S.back n' x) + S.li (pos S.back n' x) =
        S.b n (lastIx S.back) + (S.P n.val - S.B (pos S.back n' x) + S.li (pos S.back n' x)) by ring, Real.exp_add (S.b n (lastIx S.back)), mul_assoc, mul_assoc, mul_assoc]
      rfl
    · exact mul_zero _
  · refine Finset.sum_congr rfl fun x _ => ?_
    rw [P_succ, B_pos, show S.P n.val + S.b n (lastIx S.back) - (S.P n.val + S.b n x) + S.li (pos S.back n x) = S.u n x + S.b n (lastIx S.back) by unfold u; ring]
    rfl

/-- A row's result, from the chunk's inputs. -/
theorem N_eq (h : ∀ d e, Real.exp m * c d e = S.T n.val d e) (r : Fin 128) (e : Fin 384) :
    (S.reals n cm m c).N r e = scale * S.N (pos S.back n r) e := by
  unfold Reals.N Reals.T
  rw [show (S.reals n cm m c).m = m from rfl, show (S.reals n cm m c).c = c from rfl]
  simp only [h]
  unfold N
  rw [sum_upTo, add_comm]
  congr 2
  · unfold T
    rw [Finset.sum_congr rfl fun d _ => Finset.mul_sum Finset.univ _ ((S.reals n cm m c).q r d), Finset.sum_comm, Finset.mul_sum]
    refine Finset.sum_congr rfl fun n' _ => ?_
    split
    · simp only [Finset.mul_sum]
      rw [Finset.sum_comm]
      refine Finset.sum_congr rfl fun x _ => ?_
      unfold qk
      rw [Finset.mul_sum, Finset.sum_mul]
      refine Finset.sum_congr rfl fun d _ => ?_
      rw [B_pos S n r, show S.P n.val + S.b n r - S.B (pos S.back n' x) + S.li (pos S.back n' x) = S.b n r + (S.P n.val - S.B (pos S.back n' x) + S.li (pos S.back n' x)) by ring,
        Real.exp_add (S.b n r)]
      show Real.exp (S.b n r) * (S.q (pos S.back n r) d * _) = _
      ring
    · simp
  · refine Finset.sum_congr rfl fun x _ => ?_
    unfold Reals.w
    show (if before S.back r x then _ else 0) * _ = _
    split
    · rw [B_pos, B_pos, show S.P n.val + S.b n r - (S.P n.val + S.b n x) + S.li (pos S.back n x) = S.b n r + S.u n x by unfold u; ring]
      rfl
    · exact zero_mul _

end Seq

end Cert.Mix
-- ==== Proof.ChunkVal.lean ====
module

public import proofs.«01_k».proof.Proof.Chunk

/-! # The operations of a step at a row and a column -/

@[expose] public section

noncomputable section

namespace Cert.Mix

open Cert.Kernel2Ideal Cert.Kernel2Ideal.Gen Cert.Rows
open Idealize.ShloMosaic hiding ix0 ix1 ix2 ix3 ix4 ix5 eq_ix1 eq_ix2 eq_ix3
open Idealize.ShloMosaic.ValueIdx
open scoped BigOperators

/-- Queries times keys. -/
theorem mm_qk (a b : FVec Ideal S128x128 .bf16) (r x : Fin 128) :
    matmul dot_S128x128_S128x128_S128x128_1_1_0_0_n_n none a b (constant S128x128 .f32 0x00000000#32) (ix2 r x) = ∑ d : Fin 128, a (ix2 r d) * b (ix2 x d) :=
  (Ideal.matmul_transposedRhs_apply none a b _ r x).trans (by rw [constant_apply, Ideal.ofBits_zero_f32, zero_add])

/-- Keys times values. -/
theorem mm_kv (a : FVec Ideal S128x128 .bf16) (b : FVec Ideal S128x384 .bf16) (d : Fin 128) (e : Fin 384) :
    matmul dot_S128x128_S128x384_S128x384_1_0_0_1_n_n none a b (constant S128x384 .f32 0x00000000#32) (ix2 d e) = ∑ x : Fin 128, a (ix2 d x) * b (ix2 x e) :=
  (Ideal.matmul_plain_apply none a b _ d e).trans (by rw [constant_apply, Ideal.ofBits_zero_f32, zero_add])

/-- The mask times gates. -/
theorem mm_cum (a b : FVec Ideal S128x128 .bf16) (r x : Fin 128) :
    matmul dot_S128x128_S128x128_S128x128_1_0_0_1_n_n none a b (constant S128x128 .f32 0x00000000#32) (ix2 r x) = ∑ d : Fin 128, a (ix2 r d) * b (ix2 d x) :=
  (Ideal.matmul_plain_apply none a b _ r x).trans (by rw [constant_apply, Ideal.ofBits_zero_f32, zero_add])

/-- Weights and queries times values and state. -/
theorem mm_nd (a : FVec Ideal S128x256 .bf16) (b : FVec Ideal S256x384 .bf16) (r : Fin 128) (e : Fin 384) :
    matmul dot_S128x256_S256x384_S128x384_1_0_0_1_n_n none a b (constant S128x384 .f32 0x00000000#32) (ix2 r e)
      = (∑ x : Fin 128, a (ix2 r ⟨x.val, by omega⟩) * b (ix2 ⟨x.val, by omega⟩ e)) + ∑ d : Fin 128, a (ix2 r ⟨128 + d.val, by omega⟩) * b (ix2 ⟨128 + d.val, by omega⟩ e) :=
  (Ideal.matmul_plain_apply none a b _ r e).trans (by
    rw [constant_apply, Ideal.ofBits_zero_f32, zero_add]
    exact Fin.sum_univ_add (a := 128) (b := 128) (fun x : Fin 256 => a (ix2 r x) * b (ix2 x e)))

/-- Two blocks beside each other, in the first. -/
theorem beside_left {α : Type} {M N₁ N₂ N : ℕ} (a : (⟨2, ![M, N₁]⟩ : Shape).Idx → α) (b : (⟨2, ![M, N₂]⟩ : Shape).Idx → α)
    (h : Shape.Concatenates [⟨2, ![M, N₁]⟩, ⟨2, ![M, N₂]⟩] ⟨2, ![M, N]⟩ 1) (r : Fin M) (e : Fin N) (e' : Fin N₁) (he : e'.val = e.val) :
    concatenate ⟨2, ![M, N]⟩ 1 [⟨⟨2, ![M, N₁]⟩, a⟩, ⟨⟨2, ![M, N₂]⟩, b⟩] h (ix2 r e) = a (ix2 r e') :=
  concatenate_pair_apply_left 1 a b h _ rfl (ix2 r e') fun x => by
    match x with
    | ⟨0, _⟩ => rfl
    | ⟨1, _⟩ => exact he

/-- Two blocks beside each other, in the second. -/
theorem beside_right {α : Type} {M N₁ N₂ N : ℕ} (a : (⟨2, ![M, N₁]⟩ : Shape).Idx → α) (b : (⟨2, ![M, N₂]⟩ : Shape).Idx → α)
    (h : Shape.Concatenates [⟨2, ![M, N₁]⟩, ⟨2, ![M, N₂]⟩] ⟨2, ![M, N]⟩ 1) (r : Fin M) (e : Fin N) (e' : Fin N₂) (he : e'.val + N₁ = e.val) :
    concatenate ⟨2, ![M, N]⟩ 1 [⟨⟨2, ![M, N₁]⟩, a⟩, ⟨⟨2, ![M, N₂]⟩, b⟩] h (ix2 r e) = b (ix2 r e') :=
  concatenate_pair_apply_right 1 a b h _ rfl rfl (ix2 r e') (fun x hx => by
    match x with
    | ⟨0, _⟩ => rfl
    | ⟨1, _⟩ => exact absurd rfl hx) he

/-- Two blocks under each other, in the first. -/
theorem under_left {α : Type} {M₁ M₂ M N : ℕ} (a : (⟨2, ![M₁, N]⟩ : Shape).Idx → α) (b : (⟨2, ![M₂, N]⟩ : Shape).Idx → α)
    (h : Shape.Concatenates [⟨2, ![M₁, N]⟩, ⟨2, ![M₂, N]⟩] ⟨2, ![M, N]⟩ 0) (r : Fin M) (r' : Fin M₁) (e : Fin N) (hr : r'.val = r.val) :
    concatenate ⟨2, ![M, N]⟩ 0 [⟨⟨2, ![M₁, N]⟩, a⟩, ⟨⟨2, ![M₂, N]⟩, b⟩] h (ix2 r e) = a (ix2 r' e) :=
  concatenate_pair_apply_left 0 a b h _ rfl (ix2 r' e) fun x => by
    match x with
    | ⟨0, _⟩ => exact hr
    | ⟨1, _⟩ => rfl

/-- Two blocks under each other, in the second. -/
theorem under_right {α : Type} {M₁ M₂ M N : ℕ} (a : (⟨2, ![M₁, N]⟩ : Shape).Idx → α) (b : (⟨2, ![M₂, N]⟩ : Shape).Idx → α)
    (h : Shape.Concatenates [⟨2, ![M₁, N]⟩, ⟨2, ![M₂, N]⟩] ⟨2, ![M, N]⟩ 0) (r : Fin M) (r' : Fin M₂) (e : Fin N) (hr : r'.val + M₁ = r.val) :
    concatenate ⟨2, ![M, N]⟩ 0 [⟨⟨2, ![M₁, N]⟩, a⟩, ⟨⟨2, ![M₂, N]⟩, b⟩] h (ix2 r e) = b (ix2 r' e) :=
  concatenate_pair_apply_right 0 a b h _ rfl rfl (ix2 r' e) (fun x hx => by
    match x with
    | ⟨0, _⟩ => exact absurd rfl hx
    | ⟨1, _⟩ => rfl) hr

/-- A slice of columns. -/
theorem sliceCols {α : Type} {M K N : ℕ} (o : ℕ) (x : (⟨2, ![M, K]⟩ : Shape).Idx → α) (h : (⟨2, ![M, K]⟩ : Shape).Slices ![0, o] ⟨2, ![M, N]⟩)
    (r : Fin M) (c : Fin N) (k : Fin K) (hk : k.val = o + c.val) :
    extractStridedSlice ⟨2, ![M, N]⟩ ![0, o] x h (ix2 r c) = x (ix2 r k) :=
  extractStridedSlice_apply _ x h _ _ fun a => by
    match a with
    | ⟨0, _⟩ => exact (Nat.zero_add _).symm
    | ⟨1, _⟩ => exact hk

/-- A square block transposed. -/
theorem flip {α : Type} (x : S128x128.Idx → α) (r c : Fin 128) :
    transpose S128x128 [1, 0] x transposes_S128x128_p1_0_S128x128 (ix2 r c) = x (ix2 c r) :=
  transpose_apply _ x _ _ _ fun b => by
    match b with
    | ⟨0, _⟩ => rfl
    | ⟨1, _⟩ => rfl

/-- The float constant minus infinity. -/
theorem ofBits_bot : (Ideal.ofBits .f32 0xFF800000#32 : EReal) = ⊥ := by simp [Ideal.ofBits, Ideal.ieee]

/-- A maximum of reals is real. -/
theorem fold_real {n : ℕ} (f : Fin (n + 1) → ℝ) : ∃ G : ℝ, (Finset.univ : Finset (Fin (n + 1))).fold max (⊥ : EReal) (fun x => (f x : EReal)) = (G : EReal) := by
  generalize hy : (Finset.univ : Finset (Fin (n + 1))).fold max (⊥ : EReal) (fun x => (f x : EReal)) = y
  have h1 : y < ⊤ := by rw [← hy, Finset.fold_max_lt]; exact ⟨bot_lt_top, fun x _ => EReal.coe_lt_top _⟩
  have h2 : (f 0 : EReal) ≤ y := by rw [← hy, Finset.le_fold_max]; exact .inr ⟨0, Finset.mem_univ _, le_rfl⟩
  exact ⟨y.toReal, (EReal.coe_toReal h1.ne (ne_of_gt (lt_of_lt_of_le (EReal.bot_lt_coe _) h2))).symm⟩

namespace Ins.Is

variable {s : Ins} {R : Reals} (h : s.Is R)

include h

theorem scores_apply (r x : Fin 128) : s.scores (ix2 r x) = (R.sc r x : EReal) := by
  have hm : select (mask s.back) (exp (subf (broadcastTo S128x128 s.u broadcasts_S1x128_S128x128) s.cm))
      (broadcast S128x128 (Scalar.ofBits (F := Ideal) .f32 0x00000000#32)) (ix2 r x) = ((if before R.back r x then Real.exp (R.u x - R.cm r) else 0 : ℝ) : EReal) := by
    rw [select_apply, h.hback, mask_apply]
    have e : (exp (subf (broadcastTo S128x128 s.u broadcasts_S1x128_S128x128) s.cm) : FVec Ideal S128x128 .f32) (ix2 r x) = (Real.exp (R.u x - R.cm r) : EReal) := by
      show Ideal.exp (broadcastTo S128x128 s.u broadcasts_S1x128_S128x128 (ix2 r x) - s.cm (ix2 r x)) = _
      rw [h.hcm, show broadcastTo S128x128 s.u broadcasts_S1x128_S128x128 (ix2 r x) = s.u (ix2 0 x) from spreadRow _ _ _ _, h.hu, ← EReal.coe_sub]
      rfl
    rw [e]
    split
    · rfl
    · exact Ideal.ofBits_zero_f32
  unfold Ins.scores
  rw [mulf_apply, mm_qk, hm, Finset.sum_congr rfl (fun d _ => show _ = ((R.q r d * R.k x d : ℝ) : EReal) by rw [h.hq, h.hk, ← EReal.coe_mul]), coe_sum, ← EReal.coe_mul]
  rfl

theorem total_apply (l : Fin 128) : s.total (ix2 0 l) = (R.bl : EReal) := by
  unfold Ins.total lastRow Reals.bl
  rw [h.hback]
  cases hb : R.back
  · exact (sliceRows 127 s.b _ 0 l 127 rfl).trans (h.hb _ _)
  · exact (sliceRows 0 s.b _ 0 l 0 rfl).trans (h.hb _ _)

theorem gRow_apply (x : Fin 128) : s.gRow (ix2 0 x) = ((R.u x + R.bl : ℝ) : EReal) := by
  unfold Ins.gRow; rw [addf_apply, h.hu, h.total_apply, ← EReal.coe_add]

theorem gMax_real : ∃ G : ℝ, s.gMax (ix2 0 0) = (G : EReal) := by
  obtain ⟨G, hG⟩ := fold_real (n := 127) (fun x => R.u x + R.bl)
  refine ⟨G, ?_⟩
  unfold Ins.gMax
  rw [show shapeCast S1x1 (multiReduction .maximumf [1] S1 s.gRow 0xFF800000#32 reduces_S1x128_S1 (.inl rfl) rfl) shapeCasts_S1_S1x1 (ix2 0 0)
    = multiReduction .maximumf [1] S1 s.gRow 0xFF800000#32 reduces_S1x128_S1 (.inl rfl) rfl (ix1 0) from asCol (M := 1) _ _ 0]
  refine (Ideal.multiReduction_maximumf_single _ _ _ _ _ _).trans (Eq.trans ?_ hG)
  show Finset.fold max (Ideal.ofBits .f32 0xFF800000#32) _ _ = _
  rw [ofBits_bot]
  refine congrArg (fun f => Finset.fold max (⊥ : EReal) f Finset.univ) (funext fun x => ?_)
  show s.gRow (reduces_S1x128_S1.lift (ix1 0) x) = _
  rw [eq_ix2 (reduces_S1x128_S1.lift (ix1 0) x)]
  exact h.gRow_apply x

/-- The values with ones. -/
theorem ones_apply (x : Fin 128) (e : Fin 384) :
    concatenate S128x384 1 [⟨S128x256, s.v⟩, ⟨S128x128, broadcast S128x128 (Scalar.ofBits (F := Ideal) .bf16 0x3F80#16)⟩]
      concatenates_S128x256_S128x128_S128x384_d1 (ix2 x e) = (R.va x e : EReal) := by
  unfold Reals.va
  split
  · rename_i he
    exact (beside_left (N := 384) s.v _ _ x e ⟨e.val, he⟩ rfl).trans (h.hv _ _)
  · rename_i he
    exact (beside_right (N := 384) s.v _ _ x e ⟨e.val - 256, by omega⟩ (by show e.val - 256 + 256 = e.val; omega)).trans Ideal.ofBits_one_bf16

/-- The values with zeros. -/
theorem zeros_apply (x : Fin 128) (e : Fin 384) :
    concatenate S128x384 1 [⟨S128x256, s.v⟩, ⟨S128x128, broadcast S128x128 (Scalar.ofBits (F := Ideal) .bf16 0x0000#16)⟩]
      concatenates_S128x256_S128x128_S128x384_d1 (ix2 x e) = (R.vz x e : EReal) := by
  unfold Reals.vz
  split
  · rename_i he
    exact (beside_left (N := 384) s.v _ _ x e ⟨e.val, he⟩ rfl).trans (h.hv _ _)
  · rename_i he
    exact (beside_right (N := 384) s.v _ _ x e ⟨e.val - 256, by omega⟩ (by show e.val - 256 + 256 = e.val; omega)).trans Ideal.ofBits_zero_bf16

theorem dca_apply {G : ℝ} (hG : s.gMax (ix2 0 0) = (G : EReal)) (d : Fin 128) (e : Fin 384) :
    s.dca (ix2 d e) = ((∑ x, R.k x d * Real.exp (R.u x + R.bl - G) * R.va x e : ℝ) : EReal) := by
  unfold Ins.dca
  rw [mm_kv, ← coe_sum]
  refine Finset.sum_congr rfl fun x _ => ?_
  rw [h.ones_apply, truncf_apply, mulf_apply, extf_apply, flip, h.hk]
  have e1 : (broadcastTo S128x128 (exp (subf s.gRow (broadcastTo S1x128 s.gMax broadcasts_S1x1_S1x128))) broadcasts_S1x128_S128x128 : FVec Ideal S128x128 .f32) (ix2 d x)
      = (Real.exp (R.u x + R.bl - G) : EReal) := by
    refine (spreadRow _ _ d x).trans ?_
    show Ideal.exp (s.gRow (ix2 0 x) - broadcastTo S1x128 s.gMax broadcasts_S1x1_S1x128 (ix2 0 x)) = _
    rw [show broadcastTo S1x128 s.gMax broadcasts_S1x1_S1x128 (ix2 0 x) = s.gMax (ix2 0 0) from spreadCol (M := 1) _ _ 0 x, hG, h.gRow_apply, ← EReal.coe_sub]
    rfl
  rw [e1, ← EReal.coe_mul, ← EReal.coe_mul]

theorem mx_apply (r l : Fin 128) : s.mx (ix2 r l) = (R.mx r : EReal) := by
  unfold Ins.mx
  rw [maximumf_apply, h.hcm, show broadcastTo S128x128 s.m broadcasts_S1x128_S128x128 (ix2 r l) = s.m (ix2 0 l) from spreadRow _ _ _ _, h.hm, coe_max]
  rfl

theorem aLoc_apply (r l : Fin 128) : s.aLoc (ix2 r l) = (R.aLoc r : EReal) := by
  unfold Ins.aLoc
  rw [mulf_apply]
  show (Ideal.ofBits .f32 0x3DB504F3#32 : EReal) * Ideal.exp (s.cm (ix2 r l) - s.mx (ix2 r l)) = _
  rw [scale_eq, h.hcm, h.mx_apply, ← EReal.coe_sub, Ideal.exp_coe, ← EReal.coe_mul]; rfl

theorem aInt_apply (r l : Fin 128) : s.aInt (ix2 r l) = (R.aInt r : EReal) := by
  unfold Ins.aInt
  rw [mulf_apply]
  show (Ideal.ofBits .f32 0x3DB504F3#32 : EReal) * Ideal.exp (broadcastTo S128x128 s.m broadcasts_S1x128_S128x128 (ix2 r l) - s.mx (ix2 r l)) = _
  rw [scale_eq, show broadcastTo S128x128 s.m broadcasts_S1x128_S128x128 (ix2 r l) = s.m (ix2 0 l) from spreadRow _ _ _ _, h.hm, h.mx_apply, ← EReal.coe_sub, Ideal.exp_coe, ← EReal.coe_mul]; rfl

theorem nd_apply (r : Fin 128) (e : Fin 384) : s.nd (ix2 r e) = (R.nd r e : EReal) := by
  unfold Ins.nd Reals.nd
  rw [mm_nd, EReal.coe_add, ← coe_sum, ← coe_sum]
  congr 1
  · refine Finset.sum_congr rfl fun x _ => ?_
    rw [beside_left (N₁ := 128) (N := 256) _ _ _ r _ x rfl, under_left (M₁ := 128) (M := 256) _ _ _ _ x e rfl, h.zeros_apply, truncf_apply, mulf_apply, h.aLoc_apply, h.scores_apply,
      ← EReal.coe_mul, ← EReal.coe_mul]
  · refine Finset.sum_congr rfl fun d _ => ?_
    rw [beside_right (N₁ := 128) (N₂ := 128) (N := 256) _ _ _ r _ d (Nat.add_comm _ _), under_right (M₁ := 128) (M₂ := 128) (M := 256) _ _ _ _ d e (Nat.add_comm _ _), truncf_apply, truncf_apply, mulf_apply, extf_apply,
      h.aInt_apply, h.hq, h.hc, ← EReal.coe_mul, ← EReal.coe_mul]

theorem den_apply (r l : Fin 128) : s.den (ix2 r l) = (R.den r l : EReal) := by
  unfold Ins.den Reals.den
  rw [addf_apply, mulf_apply, h.aLoc_apply, show extractStridedSlice S128x128 ![0, 256] s.nd slices_S128x384_o0_256_S128x128 (ix2 r l) = s.nd (ix2 r ⟨256 + l.val, by omega⟩) from sliceCols _ _ _ _ _ _ rfl,
    h.nd_apply]
  have e1 : broadcastTo S128x128 (shapeCast S128x1 (multiReduction .add [1] S128 s.scores 0x00000000#32 reduces_S128x128_S128 (.inl rfl) rfl) shapeCasts_S128_S128x1)
      broadcasts_S128x1_S128x128 (ix2 r l) = ((∑ x, R.sc r x : ℝ) : EReal) := by
    refine (spreadCol _ _ r l).trans ((asCol _ _ r).trans ?_)
    refine (Ideal.multiReduction_add_single _ _ _ _ _ _).trans ?_
    rw [← coe_sum]
    refine Finset.sum_congr rfl fun x _ => ?_
    rw [eq_ix2 (reduces_S128x128_S128.lift (ix1 r) x)]
    exact h.scores_apply r x
  rw [e1, ← EReal.coe_mul, ← EReal.coe_add]

theorem rden_apply (r l : Fin 128) : s.rden (ix2 r l) = ((1 / max |R.den r l| (Real.exp (0 - (R.b r + R.mx r))) : ℝ) : EReal) := by
  unfold Ins.rden
  rw [divf_apply, maximumf_apply]
  show Ideal.div (Ideal.ofBits .f32 0x3F800000#32) (max (max (s.den (ix2 r l)) (-(s.den (ix2 r l)))) (Ideal.exp (Ideal.ofBits .f32 0x00000000#32 - (s.b (ix2 r l) + s.mx (ix2 r l))))) = _
  rw [h.den_apply, h.hb, h.mx_apply, Ideal.ofBits_zero_f32, ← EReal.coe_add, show (0 : EReal) = ((0 : ℝ) : EReal) from rfl, ← EReal.coe_sub, Ideal.exp_coe, ← EReal.coe_neg, coe_max, coe_max, Ideal.ofBits_one_f32,
    show (1 : EReal) = ((1 : ℝ) : EReal) from rfl, coe_quot _ _ (ne_of_gt (lt_max_of_lt_right (Real.exp_pos _)))]
  rfl

/-- The first half of a row of the result. -/
theorem h0_apply (r j : Fin 128) : s.h0 (ix2 r j) = ((R.N r ⟨j.val, by omega⟩ / max |R.N r ⟨256 + j.val, by omega⟩| 1 : ℝ) : EReal) := by
  unfold Ins.h0
  rw [truncf_apply, mulf_apply, h.rden_apply, show extractStridedSlice S128x128 ![0, 0] s.nd slices_S128x384_o0_0_S128x128 (ix2 r j) = s.nd (ix2 r ⟨j.val, by omega⟩) from sliceCols _ _ _ _ _ _ (Nat.zero_add _).symm,
    h.nd_apply, ← EReal.coe_mul, R.quot r j _ (by show j.val < 256; omega)]

/-- The second half of a row of the result. -/
theorem h1_apply (r j : Fin 128) : s.h1 (ix2 r j) = ((R.N r ⟨128 + j.val, by omega⟩ / max |R.N r ⟨256 + j.val, by omega⟩| 1 : ℝ) : EReal) := by
  unfold Ins.h1
  rw [truncf_apply, mulf_apply, h.rden_apply, show extractStridedSlice S128x128 ![0, 128] s.nd slices_S128x384_o0_128_S128x128 (ix2 r j) = s.nd (ix2 r ⟨128 + j.val, by omega⟩) from sliceCols _ _ _ _ _ _ rfl,
    h.nd_apply, ← EReal.coe_mul, R.quot r j _ (by show 128 + j.val < 256; omega)]

/-- A row three times. -/
theorem thrice_apply (x : FVec Ideal S1x128 .f32) (y : ℝ) (hx : ∀ l, x (ix2 0 l) = (y : EReal)) (d : Fin 128) (e : Fin 384) : Ins.thrice x (ix2 d e) = (y : EReal) := by
  unfold Ins.thrice
  refine (spreadRow _ _ d e).trans ?_
  rcases Nat.lt_or_ge e.val 128 with h1 | h1
  · exact (concatenate_apply_piece 1 _ _ (ix2 0 e) 0 (by simp) S1x128 x rfl rfl 0 rfl (ix2 0 ⟨e.val, h1⟩) (fun b hb => by
      match b with
      | ⟨0, _⟩ => rfl
      | ⟨1, _⟩ => exact absurd rfl hb) (Nat.zero_add _)).trans (hx _)
  rcases Nat.lt_or_ge e.val 256 with h2 | h2
  · exact (concatenate_apply_piece 1 _ _ (ix2 0 e) 1 (by simp) S1x128 x rfl rfl 128 rfl (ix2 0 ⟨e.val - 128, by omega⟩) (fun b hb => by
      match b with
      | ⟨0, _⟩ => rfl
      | ⟨1, _⟩ => exact absurd rfl hb) (by show 128 + (e.val - 128) = e.val; omega)).trans (hx _)
  · exact (concatenate_apply_piece 1 _ _ (ix2 0 e) 2 (by simp) S1x128 x rfl rfl 256 rfl (ix2 0 ⟨e.val - 256, by omega⟩) (fun b hb => by
      match b with
      | ⟨0, _⟩ => rfl
      | ⟨1, _⟩ => exact absurd rfl hb) (by show 256 + (e.val - 256) = e.val; omega)).trans (hx _)

/-- The new state is real, and without its scale it is the next one. -/
theorem state : ∃ (m' : ℝ) (c' : Fin 128 → Fin 384 → ℝ), (∀ l, s.mNew (ix2 0 l) = (m' : EReal)) ∧ (∀ d e, s.cNew (ix2 d e) = (c' d e : EReal)) ∧
    ∀ d e, Real.exp m' * c' d e = R.T' d e := by
  obtain ⟨G, hG⟩ := h.gMax_real
  have hg : ∀ l, s.gMaxRow (ix2 0 l) = (G : EReal) := fun l => by
    unfold Ins.gMaxRow
    refine (spreadCol (M := 1) _ _ 0 l).trans ?_
    rw [shapeCast_self]; exact hG
  have hm : ∀ l, s.mNew (ix2 0 l) = ((max (R.bl + R.m) G : ℝ) : EReal) := fun l => by
    unfold Ins.mNew
    rw [maximumf_apply, addf_apply, h.total_apply, h.hm, hg, ← EReal.coe_add, coe_max]
  refine ⟨max (R.bl + R.m) G, fun d e => Real.exp (R.bl + R.m - max (R.bl + R.m) G) * R.c d e
      + Real.exp (G - max (R.bl + R.m) G) * ∑ x, R.k x d * Real.exp (R.u x + R.bl - G) * R.va x e, hm, fun d e => ?_, fun d e => ?_⟩
  · unfold Ins.cNew
    rw [addf_apply, mulf_apply, mulf_apply, h.hc, h.dca_apply hG,
      h.thrice_apply _ (Real.exp (R.bl + R.m - max (R.bl + R.m) G)) (fun l => by
        show Ideal.exp (s.total (ix2 0 l) + s.m (ix2 0 l) - s.mNew (ix2 0 l)) = _
        rw [h.total_apply, h.hm, hm, ← EReal.coe_add, ← EReal.coe_sub, Ideal.exp_coe]),
      h.thrice_apply _ (Real.exp (G - max (R.bl + R.m) G)) (fun l => by
        show Ideal.exp (s.gMaxRow (ix2 0 l) - s.mNew (ix2 0 l)) = _
        rw [hg, hm, ← EReal.coe_sub, Ideal.exp_coe]),
      ← EReal.coe_mul, ← EReal.coe_mul, ← EReal.coe_add]
  · set M := max (R.bl + R.m) G
    unfold Reals.T' Reals.T
    rw [mul_add, ← mul_assoc, ← mul_assoc, ← Real.exp_add, ← Real.exp_add, ← mul_assoc, ← Real.exp_add, Finset.mul_sum]
    congr 1
    · congr 2; ring
    · refine Finset.sum_congr rfl fun x _ => ?_
      rw [show R.u x + R.bl = (M + (G - M)) + (R.u x + R.bl - G) by ring, Real.exp_add (M + (G - M))]
      rw [show M + (G - M) + (R.u x + R.bl - G) - G = R.u x + R.bl - G by ring]
      ring

end Ins.Is

end Cert.Mix
-- ==== Proof.Gates.lean ====
module

public import proofs.«01_k».proof.Proof.ChunkVal

/-! # The gates of a chunk on real values

The running sums of the forget gates at a row, and that the running maxima are real. -/

@[expose] public section

noncomputable section

namespace Cert.Mix

open Cert.Kernel2Ideal Cert.Kernel2Ideal.Gen Cert.Rows
open Idealize.ShloMosaic hiding ix0 ix1 ix2 ix3 ix4 ix5 eq_ix1 eq_ix2 eq_ix3
open Idealize.ShloMosaic.ValueIdx
open scoped BigOperators

/-- A real among the extended reals. -/
def IsReal (x : EReal) : Prop := ∃ r : ℝ, x = (r : EReal)

/-- The logarithm of the logistic function, over the reals. -/
def lsg (x : ℝ) : ℝ := min x 0 - Real.log (1 + Real.exp (-|x|))

/-- The minimum of two reals, as extended reals. -/
theorem coe_min (x y : ℝ) : min (x : EReal) (y : EReal) = ((min x y : ℝ) : EReal) :=
  (EReal.coe_strictMono.monotone.map_min (a := x) (b := y)).symm

/-- The logarithm of a positive real. -/
theorem log_pos (x : ℝ) (h : 0 < x) : Ideal.log (x : EReal) = (Real.log x : EReal) := by
  rw [Ideal.log_coe, if_neg (not_le.2 h)]

/-- A gate with its bias, at a row and a lane. -/
theorem gate_apply (g : FVec Ideal S128x128 .f32) (b : FVec Ideal S1x128 .f32) (r l : Fin 128) : gate g b (ix2 r l) = g (ix2 r l) + b (ix2 0 l) := by
  unfold gate
  rw [addf_apply, shapeCast_self, shapeCast_self, show broadcastTo S128x128 b broadcasts_S1x128_S128x128 (ix2 r l) = b (ix2 0 l) from spreadRow _ _ _ _]

/-- The logarithm of the logistic function at a real. -/
theorem logSigmoid_apply (x : FVec Ideal S128x128 .f32) (i : S128x128.Idx) (y : ℝ) (h : x i = (y : EReal)) : logSigmoid x i = (lsg y : EReal) := by
  show min (x i) (Ideal.ofBits .f32 0x00000000#32) - Ideal.log (Ideal.ofBits .f32 0x3F800000#32 + Ideal.exp (Ideal.ofBits .f32 0x00000000#32 - max (x i) (-(x i)))) = _
  rw [h, Ideal.ofBits_zero_f32, Ideal.ofBits_one_f32, ← EReal.coe_neg, coe_max, show (0 : EReal) = ((0 : ℝ) : EReal) from rfl, show (1 : EReal) = ((1 : ℝ) : EReal) from rfl,
    ← EReal.coe_sub, Ideal.exp_coe, ← EReal.coe_add, log_pos _ (by positivity), coe_min, ← EReal.coe_sub, zero_sub]
  rfl

/-- The mask of zeros and ones. -/
theorem tri_apply (back : Bool) (r s : Fin 128) : tri back (ix2 r s) = ((if before back r s then 1 else 0 : ℝ) : EReal) := by
  show ((BitVec.toInt ((Scalar.extui (mask back (ix2 r s)) : BitVec 32)) : ℝ) : EReal) = _
  rw [mask_apply]
  split
  · rw [show BitVec.toInt (Scalar.extui 1#1 : BitVec 32) = 1 by decide]; simp
  · rw [show BitVec.toInt (Scalar.extui 0#1 : BitVec 32) = 0 by decide]; simp

/-- The running sums of reals. -/
theorem cumRows_apply (back : Bool) (x : FVec Ideal S128x128 .f32) (y : Fin 128 → ℝ) (l : Fin 128) (h : ∀ s, x (ix2 s l) = (y s : EReal)) (r : Fin 128) :
    cumRows back x (ix2 r l) = ((∑ s, if before back r s then y s else 0 : ℝ) : EReal) := by
  unfold cumRows
  rw [addf_apply, addf_apply, mm_cum, mm_cum, mm_cum, ← coe_sum]
  have h0 : ∀ s, (subf x (extf .f32 (truncf .bf16 x bitsLt_bf16_f32 : FVec Ideal S128x128 .bf16) bitsLt_bf16_f32) : FVec Ideal S128x128 .f32) (ix2 s l) = 0 := fun s => by
    rw [subf_apply, extf_apply, truncf_apply, h, ← EReal.coe_sub, sub_self]; rfl
  rw [Finset.sum_eq_zero (s := Finset.univ) (f := fun d => tri back (ix2 r d) * (truncf .bf16 (subf x (extf .f32 (truncf .bf16 x bitsLt_bf16_f32 : FVec Ideal S128x128 .bf16) bitsLt_bf16_f32)) bitsLt_bf16_f32 : FVec Ideal S128x128 .bf16) (ix2 d l))
      (fun d _ => by rw [truncf_apply, h0, mul_zero]),
    Finset.sum_eq_zero (s := Finset.univ) (f := fun d => tri back (ix2 r d) * (truncf .bf16 (subf (subf x (extf .f32 (truncf .bf16 x bitsLt_bf16_f32 : FVec Ideal S128x128 .bf16) bitsLt_bf16_f32))
      (extf .f32 (truncf .bf16 (subf x (extf .f32 (truncf .bf16 x bitsLt_bf16_f32 : FVec Ideal S128x128 .bf16) bitsLt_bf16_f32)) bitsLt_bf16_f32 : FVec Ideal S128x128 .bf16) bitsLt_bf16_f32)) bitsLt_bf16_f32 : FVec Ideal S128x128 .bf16) (ix2 d l))
      (fun d _ => by rw [truncf_apply, subf_apply, extf_apply, truncf_apply, h0]; simp), add_zero, add_zero]
  refine Finset.sum_congr rfl fun s _ => ?_
  rw [tri_apply, truncf_apply, h, ← EReal.coe_mul]
  congr 1
  split <;> simp

/-! ## The running maxima are real -/

theorem max_isReal {x y : EReal} (hx : IsReal x) (hy : IsReal y ∨ y = ⊥) : IsReal (max x y) := by
  obtain ⟨r, rfl⟩ := hx
  rcases hy with ⟨s, rfl⟩ | rfl
  · exact ⟨max r s, coe_max r s⟩
  · exact ⟨r, max_eq_left bot_le⟩

/-- A selection is one of the two. -/
theorem select_or (c : BitVec 1) (a b : EReal) : Scalar.select c a b = a ∨ Scalar.select c a b = b := by
  unfold Scalar.select
  by_cases h : c = 1
  · exact .inl (if_pos h)
  · exact .inr (if_neg h)

theorem level_isReal (back : Bool) (n : BitVec 32) (x : FVec Ideal S8x128 .f32) (h : ∀ i, IsReal (x i)) (i : S8x128.Idx) : IsReal (level back n x i) := by
  unfold level
  rw [maximumf_apply, select_apply]
  refine max_isReal (h i) ?_
  rcases select_or _ (dynamicRotate 0 n none x rotates_S8x128_d0 i) (broadcast S8x128 (Scalar.ofBits (F := Ideal) .f32 0xFF800000#32) i) with e | e
  · rw [e]; exact .inl (h _)
  · rw [e]; exact .inr ofBits_bot

theorem levels_isReal (back : Bool) (x : FVec Ideal S8x128 .f32) (h : ∀ i, IsReal (x i)) (i : S8x128.Idx) : IsReal (levels back x i) := by
  cases back
  · exact level_isReal false 4#32 _ (level_isReal false 2#32 _ (level_isReal false 1#32 x h)) i
  · exact level_isReal true 4#32 _ (level_isReal true 6#32 _ (level_isReal true 7#32 x h)) i

theorem carry_isReal (back : Bool) (y : FVec Ideal S8x128 .f32) (h : ∀ i, IsReal (y i)) (i : S8x128.Idx) : IsReal (carry back y i) := by
  cases back <;> exact h _

theorem scanned_isReal (back : Bool) (x : FVec Ideal S128x128 .f32) (h : ∀ i, IsReal (x i)) : ∀ (n : ℕ) (i : S8x128.Idx), IsReal (scanned back x n i)
  | 0, i => levels_isReal back _ (fun j => h _) i
  | n + 1, i => max_isReal (levels_isReal back _ (fun j => h _) i) (.inl (carry_isReal back _ (scanned_isReal back x h n) i))

/-- What holds of the pieces holds of their concatenation. -/
theorem concatenate_of {α : Type} (P : α → Prop) {t : Shape} (a : Fin t.rank) (xs : List ((s : Shape) × (s.Idx → α))) (h : Shape.Concatenates (xs.map (·.1)) t a)
    (hP : ∀ p ∈ xs, ∀ i, P (p.2 i)) (j : t.Idx) : P (concatenate t a xs h j) := by
  unfold concatenate
  exact hP _ (List.getElem_mem _) _

/-- The running maxima of reals are real. -/
theorem scan_isReal (back : Bool) (x : FVec Ideal S128x128 .f32) (h : ∀ i, IsReal (x i)) (i : S128x128.Idx) : IsReal (scan back x i) := by
  cases back
  all_goals
    simp only [scan]
    apply concatenate_of IsReal
    intro p hp
    simp only [List.mem_cons, List.not_mem_nil, or_false] at hp
    rcases hp with rfl | rfl | rfl | rfl | rfl | rfl | rfl | rfl | rfl | rfl | rfl | rfl | rfl | rfl | rfl | rfl <;> exact scanned_isReal _ x h _

/-! ## Lanes -/

/-- A lane on all lanes. -/
theorem lane_apply (x : FVec Ideal S128x128 .f32) (ch : Fin 8) (r l : Fin 128) : lane x ch (ix2 r l) = x (ix2 r ⟨ch.val, by omega⟩) := by
  unfold lane
  refine (spreadCol _ _ r l).trans ?_
  rw [shapeCast_self]
  exact sliceCols _ _ _ r 0 _ rfl

/-- A lane as a row. -/
theorem laneRow_apply (x : FVec Ideal S128x128 .f32) (ch : Fin 8) (l : Fin 128) : laneRow x ch (ix2 0 l) = x (ix2 l ⟨ch.val, by omega⟩) := by
  unfold laneRow
  exact (sliceRows _ _ _ 0 l ⟨ch.val, by omega⟩ rfl).trans (flip _ _ _)

end Cert.Mix
-- ==== Proof.ChainPoint.lean ====
module

public import proofs.«01_k».proof.Proof.Lookup
public import proofs.«01_k».proof.Proof.Chain
public import proofs.«01_k».proof.Proof.Gates

/-! # A point carries the chains on

A point reads four chunks of each chain. If its state is the chains' before the first of them, it is theirs after the last,
and what it stores is their results. -/

@[expose] public section

noncomputable section

namespace Cert.Mix

open Cert.Kernel2Ideal Cert.Kernel2Ideal.Gen Idealize.ShloMosaic.TcCoe
open Idealize.ShloMosaic hiding ix0 ix1 ix2 ix3 ix4 ix5 eq_ix1 eq_ix2 eq_ix3
open Idealize.ShloMosaic.ValueIdx

/-- The chunk a round of a point is. -/
def chunk (j k : Fin 4) : Fin 16 := ⟨4 * j.val + k.val, by omega⟩

/-- What a point loads is the chains' rows. -/
structure Loads.At (l : Loads) (S : Fin 8 → Seq) (j : Fin 4) : Prop where
  hback : ∀ ch, (S ch).back = dirOf ch
  hq : ∀ k ch (r d : Fin 128), l.q (dirOf ch) (quarter (dirOf ch) k) (hdOf ch) (ix2 r d) = ((S ch).q (pos (dirOf ch) (chunk j k) r) d : EReal)
  hk : ∀ k ch (r d : Fin 128), l.k (dirOf ch) (quarter (dirOf ch) k) (hdOf ch) (ix2 r d) = ((S ch).k (pos (dirOf ch) (chunk j k) r) d : EReal)
  hv : ∀ k ch (r : Fin 128) (e : Fin 256), l.v (dirOf ch) (quarter (dirOf ch) k) (hdOf ch) (ix2 r e) = ((S ch).v (pos (dirOf ch) (chunk j k) r) e : EReal)
  hgi : ∀ k ch (r : Fin 128), l.gi (dirOf ch) (quarter (dirOf ch) k) (ix2 r ⟨ch.val, by omega⟩) + l.bi (ix2 0 ⟨ch.val, by omega⟩) = ((S ch).li (pos (dirOf ch) (chunk j k) r) : EReal)
  hgf : ∀ k ch (r : Fin 128), ∃ y : ℝ, l.gf (dirOf ch) (quarter (dirOf ch) k) (ix2 r ⟨ch.val, by omega⟩) + l.bf (ix2 0 ⟨ch.val, by omega⟩) = (y : EReal) ∧
    (S ch).lf (pos (dirOf ch) (chunk j k) r) = lsg y
  rgi : ∀ d i x, IsReal (l.gi d i x)
  rgf : ∀ d i x, IsReal (l.gf d i x)
  rbi : ∀ x, IsReal (l.bi x)
  rbf : ∀ x, IsReal (l.bf x)
  hcm : ∀ d i, l.cm d i = scan d (l.u d i)

/-- A chain's state before a chunk. -/
def Holds (S : Seq) (n : ℕ) (m : FVec Ideal S1x1x128 .f32) (c : FVec Ideal S1x128x384 .f32) : Prop :=
  ∃ (m' : ℝ) (c' : Fin 128 → Fin 384 → ℝ), (∀ l, m (ix3 0 0 l) = (m' : EReal)) ∧ (∀ d e, c (ix3 0 d e) = (c' d e : EReal)) ∧ ∀ d e, Real.exp m' * c' d e = S.T n d e

/-- A row's result in a column. -/
def Seq.out (S : Seq) (t : Fin 2048) (e : Fin 256) : ℝ := scale * S.N t ⟨e.val, by omega⟩ / max |scale * S.N t ⟨256, by omega⟩| 1

theorem Seq.N_ones (S : Seq) (t : Fin 2048) (j : Fin 128) : S.N t ⟨256 + j.val, by omega⟩ = S.N t ⟨256, by omega⟩ := by
  unfold Seq.N Seq.va
  refine Finset.sum_congr rfl fun s _ => ?_
  rw [dif_neg (by simp), dif_neg (by simp)]

theorem add_isReal {x y : EReal} (hx : IsReal x) (hy : IsReal y) : IsReal (x + y) := by
  obtain ⟨a, rfl⟩ := hx; obtain ⟨b, rfl⟩ := hy; exact ⟨a + b, (EReal.coe_add a b).symm⟩

theorem sub_isReal {x y : EReal} (hx : IsReal x) (hy : IsReal y) : IsReal (x - y) := by
  obtain ⟨a, rfl⟩ := hx; obtain ⟨b, rfl⟩ := hy; exact ⟨a - b, (EReal.coe_sub a b).symm⟩

/-- A chunk's state at zero. -/
theorem holds_zero (S : Seq) (m : FVec Ideal S1x1x128 .f32) (c : FVec Ideal S1x128x384 .f32) (hm : ∀ x, m x = 0) (hc : ∀ x, c x = 0) : Holds S 0 m c :=
  ⟨0, fun _ _ => 0, fun l => hm _, fun d e => hc _, fun d e => by rw [mul_zero, S.T_zero]⟩

namespace Loads.At

variable {l : Loads} {S : Fin 8 → Seq} {j : Fin 4} (h : l.At S j)
include h

theorem gate_f_real (d : Bool) (i : Fin 4) (r x : Fin 128) : IsReal (gate (l.gf d i) l.bf (ix2 r x)) := by
  rw [gate_apply]; exact add_isReal (h.rgf d i _) (h.rbf _)

theorem cum_real (d : Bool) (i : Fin 4) (r x : Fin 128) : IsReal (l.cum d i (ix2 r x)) := by
  choose y hy using fun s => h.gate_f_real d i s x
  exact ⟨_, cumRows_apply d _ (fun s => lsg (y s)) x (fun s => logSigmoid_apply _ _ _ (hy s)) r⟩

theorem u_real (d : Bool) (i : Fin 4) (x : S128x128.Idx) : IsReal (l.u d i x) := by
  obtain ⟨r, z, rfl⟩ : ∃ (r z : Fin 128), x = ix2 r z := ⟨x 0, x 1, eq_ix2 x⟩
  unfold Loads.u
  rw [subf_apply, gate_apply]
  exact sub_isReal (add_isReal (h.rgi d i _) (h.rbi _)) (h.cum_real d i r z)

theorem cum_apply (k : Fin 4) (ch : Fin 8) (r : Fin 128) : l.cum (dirOf ch) (quarter (dirOf ch) k) (ix2 r ⟨ch.val, by omega⟩) = ((S ch).b (chunk j k) r : EReal) := by
  unfold Loads.cum
  choose y hy1 hy2 using h.hgf k ch
  refine (cumRows_apply _ _ (fun s => lsg (y s)) _ (fun s => logSigmoid_apply _ _ _ ((gate_apply _ _ _ _).trans (hy1 s))) r).trans ?_
  unfold Seq.b
  rw [h.hback]
  simp only [hy2]

theorem u_apply (k : Fin 4) (ch : Fin 8) (r : Fin 128) : l.u (dirOf ch) (quarter (dirOf ch) k) (ix2 r ⟨ch.val, by omega⟩) = ((S ch).u (chunk j k) r : EReal) := by
  unfold Loads.u
  rw [subf_apply, gate_apply, h.hgi, h.cum_apply, ← EReal.coe_sub]
  unfold Seq.u
  rw [h.hback]

variable {k : Fin 4} {ch : Fin 8} {m : FVec Ideal S1x1x128 .f32} {c : FVec Ideal S1x128x384 .f32}

/-- A step's inputs are the chain's, at its state. -/
theorem is (hs : Holds (S ch) (chunk j k).val m c) : ∃ (cm : Fin 128 → ℝ) (m' : ℝ) (c' : Fin 128 → Fin 384 → ℝ),
    (l.ins (dirOf ch) (quarter (dirOf ch) k) (hdOf ch) ch m c).Is ((S ch).reals (chunk j k) cm m' c') ∧ ∀ d e, Real.exp m' * c' d e = (S ch).T (chunk j k).val d e := by
  obtain ⟨m', c', hm, hc, hT⟩ := hs
  choose cm hcm using fun r : Fin 128 => scan_isReal (dirOf ch) _ (h.u_real (dirOf ch) (quarter (dirOf ch) k)) (ix2 r ⟨ch.val, by omega⟩)
  refine ⟨cm, m', c', ?_, hT⟩
  constructor
  · exact (h.hback ch).symm
  · intro r d; refine (congrFun (shapeCast_self _ _) _).trans ((h.hq k ch r _).trans ?_); rw [← h.hback]; rfl
  · intro r d; refine (congrFun (shapeCast_self _ _) _).trans ((h.hk k ch r _).trans ?_); rw [← h.hback]; rfl
  · intro r d; refine (congrFun (shapeCast_self _ _) _).trans ((h.hv k ch r _).trans ?_); rw [← h.hback]; rfl
  · intro r x; exact (lane_apply _ _ _ _).trans (h.cum_apply k ch r)
  · intro r x; exact (lane_apply _ _ _ _).trans ((congrFun (h.hcm _ _) _).trans (hcm r))
  · intro x; exact (laneRow_apply _ _ _).trans (h.u_apply k ch x)
  · intro x; exact (shapeCast_apply (s := S1x1x128) (t := S1x128) _ _ (ix2 0 x) (ix3 0 0 x) (by rw [Shape.rowMajor_val_three, Shape.rowMajor_val_two]; simp [ix2, ix3])).trans (hm x)
  · intro d e; exact (shapeCast_apply (s := S1x128x384) (t := S128x384) _ _ (ix2 d e) (ix3 0 d e) (by rw [Shape.rowMajor_val_three, Shape.rowMajor_val_two]; simp [ix2, ix3])).trans (hc d e)

/-- A step carries its chain on. -/
theorem next (hs : Holds (S ch) (chunk j k).val m c) : Holds (S ch) ((chunk j k).val + 1)
    (shapeCast S1x1x128 (l.ins (dirOf ch) (quarter (dirOf ch) k) (hdOf ch) ch m c).mNew shapeCasts_S1x128_S1x1x128)
    (shapeCast S1x128x384 (l.ins (dirOf ch) (quarter (dirOf ch) k) (hdOf ch) ch m c).cNew shapeCasts_S128x384_S1x128x384) := by
  obtain ⟨cm, m', c', hI, hT⟩ := h.is hs
  obtain ⟨m2, c2, hm2, hc2, hT2⟩ := hI.state
  refine ⟨m2, c2, fun x => ?_, fun d e => ?_, fun d e => (hT2 d e).trans ((S ch).T_succ _ _ _ _ hT d e)⟩
  · exact (shapeCast_apply (s := S1x128) (t := S1x1x128) _ _ (ix3 0 0 x) (ix2 0 x) (by rw [Shape.rowMajor_val_three, Shape.rowMajor_val_two]; simp [ix2, ix3])).trans (hm2 x)
  · exact (shapeCast_apply (s := S128x384) (t := S1x128x384) _ _ (ix3 0 d e) (ix2 d e) (by rw [Shape.rowMajor_val_three, Shape.rowMajor_val_two]; simp [ix2, ix3])).trans (hc2 d e)

/-- A step's result. -/
theorem out (hs : Holds (S ch) (chunk j k).val m c) (s : Bool) (r x : Fin 128) :
    (bif s then (l.ins (dirOf ch) (quarter (dirOf ch) k) (hdOf ch) ch m c).h1 else (l.ins (dirOf ch) (quarter (dirOf ch) k) (hdOf ch) ch m c).h0) (ix2 r x) =
      ((S ch).out (pos (dirOf ch) (chunk j k) r) ⟨128 * s.toNat + x.val, by cases s <;> simp <;> omega⟩ : EReal) := by
  obtain ⟨cm, m', c', hI, hT⟩ := h.is hs
  unfold Seq.out
  cases s
  · refine (hI.h0_apply r x).trans ?_
    rw [(S ch).N_eq _ _ _ _ hT, (S ch).N_eq _ _ _ _ hT, Seq.N_ones, h.hback]
    simp
  · refine (hI.h1_apply r x).trans ?_
    rw [(S ch).N_eq _ _ _ _ hT, (S ch).N_eq _ _ _ _ hT, Seq.N_ones, h.hback]
    simp

end Loads.At

/-- A scale and a state kept, at a chain. -/
def keptAt (S : Seq) (n : ℕ) (ch : Fin 8) (M : S8x1x128.Idx → EReal) (C : S8x128x384.Idx → EReal) : Prop :=
  Holds S n (fun x => M ((rectM ch).emb x)) (fun x => C ((rectC ch).emb x))

section

variable {l : Loads} {S : Fin 8 → Seq} {j : Fin 4} (h : l.At S j)
  (baseM : List (View.Piece (Elt Ideal) S8x1x128 .f32)) (baseC : List (View.Piece (Elt Ideal) S8x128x384 .f32))
  (mm : Fin 4 → Fin 8 → FVec Ideal S1x1x128 .f32) (cc : Fin 4 → Fin 8 → FVec Ideal S1x128x384 .f32)
  (hm : ∀ (k : Fin 4) (k' : Fin 4) (ch : Fin 8), k'.val = k.val + 1 → mm k' ch = fun x => View.canon ((piecesM l baseM (steps mm cc)).drop (8 * (3 - k.val) - ch.val)) ((rectM ch).emb x))
  (hc : ∀ (k : Fin 4) (k' : Fin 4) (ch : Fin 8), k'.val = k.val + 1 → cc k' ch = fun x => View.canon ((piecesC l baseC (steps mm cc)).drop (8 * (3 - k.val) - ch.val)) ((rectC ch).emb x))
  (hfirst : ∀ ch, Holds (S ch) (4 * j.val) (mm 0 ch) (cc 0 ch))
include h hm hc hfirst

/-- Every round reads its chain's state. -/
theorem holds_round (ch : Fin 8) : ∀ k : Fin 4, Holds (S ch) (chunk j k).val (mm k ch) (cc k ch)
  | ⟨0, _⟩ => hfirst ch
  | ⟨k + 1, hk⟩ => by
    have ih := h.next (holds_round ch ⟨k, by omega⟩)
    rw [(hm ⟨k, by omega⟩ ⟨k + 1, hk⟩ ch rfl).trans (funext fun x => after_M l mm cc baseM ⟨k, by omega⟩ ch x),
      (hc ⟨k, by omega⟩ ⟨k + 1, hk⟩ ch rfl).trans (funext fun x => after_C l mm cc baseC ⟨k, by omega⟩ ch x)]
    exact ih
  termination_by k => k.val

/-- What a point leaves of the state is the chains' after it. -/
theorem holds_end (ch : Fin 8) : keptAt (S ch) (4 * j.val + 4) ch (View.canon (piecesM l baseM (steps mm cc))) (View.canon (piecesC l baseC (steps mm cc))) := by
  have ih := h.next (holds_round h baseM baseC mm cc hm hc hfirst ch 3)
  unfold keptAt
  have e : 8 * (3 - (3 : Fin 4).val) - ch.val = 0 := by show 8 * (3 - 3) - ch.val = 0; omega
  have e1 := funext fun x => after_M l mm cc baseM 3 ch x
  have e2 := funext fun x => after_C l mm cc baseC 3 ch x
  rw [e, List.drop_zero] at e1 e2
  rw [e1, e2]
  exact ih

/-- What a point stores is the chains' results. -/
theorem point_out (k : Fin 4) (ch : Fin 8) (s : Bool) (r x : Fin 128) :
    View.canon (piecesH l (stepsOf (dirOf ch) mm cc)) ((rectH (quarter (dirOf ch) k) (col (hdOf ch) s)).emb (ix2 r x)) =
      ((S ch).out (pos (dirOf ch) (chunk j k) r) ⟨128 * s.toNat + x.val, by cases s <;> simp <;> omega⟩ : EReal) :=
  (result l mm cc k ch s (ix2 r x)).trans (h.out (holds_round h baseM baseC mm cc hm hc hfirst ch k) s r x)

end

end Cert.Mix
-- ==== Proof.Seqs.lean ====
module

public import proofs.«01_k».proof.Proof.ChainPoint

/-! # The sequences that the arguments hold

A row of the projected input holds the queries, the keys and the values of every head, and two gates for every head and direction. -/

@[expose] public section

noncomputable section

namespace Cert.Mix

open Idealize Idealize.ShloMosaic

/-- The column of a head's input gate, among the gates. -/
def inCol (back : Bool) (hd : Fin 4) : Fin 16 := match back with | false => ⟨hd.val, by omega⟩ | true => ⟨8 + hd.val, by omega⟩
/-- The column of a head's forget gate, among the gates. -/
def fgCol (back : Bool) (hd : Fin 4) : Fin 16 := match back with | false => ⟨4 + hd.val, by omega⟩ | true => ⟨12 + hd.val, by omega⟩

/-- The sequence of a head in a direction. -/
def seqAt (p : Fin 16 → Fin 2048 → Fin 3600 → ℝ) (g : Fin 16 → ℝ) (b : Fin 16) (back : Bool) (hd : Fin 4) : Seq where
  back := back
  q s d := p b s ⟨128 * hd.val + d.val, by omega⟩
  k s d := p b s ⟨512 + (128 * hd.val + d.val), by omega⟩
  v s e := p b s ⟨1024 + (256 * hd.val + e.val), by omega⟩
  li s := p b s ⟨3072 + (inCol back hd).val, by omega⟩ + g (inCol back hd)
  lf s := lsg (p b s ⟨3072 + (fgCol back hd).val, by omega⟩ + g (fgCol back hd))

/-! ## The parallel form, in reals -/

/-- The logarithm of the logistic function, as minus the softplus of the negation. -/
theorem softplus_neg (y : ℝ) :
    -(max (-(y : EReal)) 0 + Ideal.log1p (Ideal.exp (-(max (-(y : EReal) - 0) (-(-(y : EReal) - 0)))))) = (lsg y : EReal) := by
  unfold Ideal.log1p
  rw [show (0 : EReal) = ((0 : ℝ) : EReal) from rfl, show (1 : EReal) = ((1 : ℝ) : EReal) from rfl, ← EReal.coe_neg, ← EReal.coe_sub, ← EReal.coe_neg,
    coe_max, coe_max, ← EReal.coe_neg, Ideal.exp_coe, ← EReal.coe_add, log_pos _ (by positivity), ← EReal.coe_add, ← EReal.coe_neg]
  congr 1
  unfold lsg
  rw [show max (-y - 0) (-(-y - 0)) = |y| by rw [sub_zero, neg_neg, max_comm]; rfl, neg_add, show -max (-y) 0 = min y 0 by rw [max_def, min_def]; split <;> split <;> linarith]
  ring

/-- A number no larger than another, among small ones. -/
theorem sge_small (a b : ℕ) (ha : a < 2048) (hb : b < 2048) : IntOp.cmpi .sge (BitVec.ofNat 32 a) (BitVec.ofNat 32 b) = if b ≤ a then 1#1 else 0#1 := by
  have e : ∀ n < 2048, (BitVec.ofNat 32 n).toInt = n := by
    intro n hn
    rw [BitVec.toInt_eq_toNat_cond, BitVec.toNat_ofNat, Nat.mod_eq_of_lt (by omega), if_pos (by omega)]
  show BitVec.ofBool ((BitVec.ofNat 32 b).sle (BitVec.ofNat 32 a)) = _
  rw [BitVec.sle_eq_decide, e a ha, e b hb]
  by_cases h : b ≤ a <;> simp [h]

/-- A number larger than another, among small ones. -/
theorem sgt_small (a b : ℕ) (ha : a < 2048) (hb : b < 2048) :
    IntOp.cmpi .sge (IntOp.addi (BitVec.ofNat 32 a) 4294967295#32) (BitVec.ofNat 32 b) = if a ≤ b then 0#1 else 1#1 := by
  have e : ∀ n < 2048, (BitVec.ofNat 32 n).toInt = n := by
    intro n hn
    rw [BitVec.toInt_eq_toNat_cond, BitVec.toNat_ofNat, Nat.mod_eq_of_lt (by omega), if_pos (by omega)]
  have e' : (IntOp.addi (BitVec.ofNat 32 a) 4294967295#32).toInt = (a : ℤ) - 1 := by
    show (BitVec.ofNat 32 a + 4294967295#32).toInt = _
    rw [BitVec.toInt_add, e a ha, show (4294967295#32).toInt = -1 by decide]
    exact Int.bmod_eq_of_le (by omega) (by omega)
  show BitVec.ofBool ((BitVec.ofNat 32 b).sle _) = _
  rw [BitVec.sle_eq_decide, e', e b hb]
  by_cases h : a ≤ b
  · rw [if_pos h, decide_eq_false (by omega)]; rfl
  · rw [if_neg h, decide_eq_true (by omega)]; rfl

namespace Seq

variable (S : Seq)

/-- A row's product with a query, at the weight of the gates between them. -/
def score (t s : Fin 2048) : ℝ := if upTo S.back t s then scale * S.qk t s * Real.exp (S.B t - S.B s + S.li s) else 0

/-- The running sums of the forget gates, as a product with the mask. -/
theorem B_masked (t : Fin 2048) : (∑ s, (S.lf s : EReal) * ((((if upTo S.back t s then 1#1 else 0#1 : BitVec 1).toNat : ℝ)) : EReal)) = (S.B t : EReal) := by
  unfold B
  rw [← coe_sum]
  refine Finset.sum_congr rfl fun s _ => ?_
  split <;> simp

theorem qk_scaled (t s : Fin 2048) : (∑ d, (S.q t d : EReal) * (scale : EReal) * (S.k s d : EReal)) = ((scale * S.qk t s : ℝ) : EReal) := by
  unfold qk
  rw [Finset.mul_sum, ← coe_sum]
  refine Finset.sum_congr rfl fun d _ => ?_
  rw [← EReal.coe_mul, ← EReal.coe_mul]
  congr 1
  ring

theorem score_masked (t s : Fin 2048) :
    ((scale * S.qk t s : ℝ) : EReal) * Ideal.exp (Scalar.select (if upTo S.back t s then 1#1 else 0#1) ((S.B t : EReal) - S.B s + S.li s) ⊥) = (S.score t s : EReal) := by
  unfold score
  split
  · rw [show Scalar.select 1#1 ((S.B t : EReal) - S.B s + S.li s) ⊥ = (S.B t : EReal) - S.B s + S.li s from rfl, ← EReal.coe_sub, ← EReal.coe_add, Ideal.exp_coe, ← EReal.coe_mul]
  · rw [show Scalar.select 0#1 ((S.B t : EReal) - S.B s + S.li s) ⊥ = ⊥ from rfl, Ideal.exp_bot, mul_zero]
    rfl

theorem N_scores (t : Fin 2048) (e : Fin 256) : (∑ s, (S.v s e : EReal) * (S.score t s : EReal)) = ((scale * S.N t ⟨e.val, by omega⟩ : ℝ) : EReal) := by
  unfold N score
  rw [Finset.mul_sum, ← coe_sum]
  refine Finset.sum_congr rfl fun s _ => ?_
  rw [← EReal.coe_mul]
  congr 1
  rw [show S.va s ⟨e.val, by omega⟩ = S.v s e from dif_pos e.isLt]
  split <;> ring

theorem N_total (t : Fin 2048) : (0 + ∑ s, (S.score t s : EReal)) = ((scale * S.N t ⟨256, by omega⟩ : ℝ) : EReal) := by
  unfold N score
  rw [zero_add, Finset.mul_sum, ← coe_sum]
  refine Finset.sum_congr rfl fun s _ => ?_
  congr 1
  rw [show S.va s ⟨256, by omega⟩ = 1 from dif_neg (by simp)]
  split <;> ring

theorem out_div (t : Fin 2048) (e : Fin 256) :
    Ideal.div ((scale * S.N t ⟨e.val, by omega⟩ : ℝ) : EReal)
      (max (max ((scale * S.N t ⟨256, by omega⟩ : ℝ) : EReal) (-((scale * S.N t ⟨256, by omega⟩ : ℝ) : EReal))) 1) = (S.out t e : EReal) := by
  unfold out
  rw [show (1 : EReal) = ((1 : ℝ) : EReal) from rfl, ← EReal.coe_neg, coe_max, coe_max]
  exact coe_quot _ _ (ne_of_gt (lt_of_lt_of_le one_pos (le_max_right _ _)))

end Seq

end Cert.Mix
-- ==== Proof.Proj.lean ====
module

public import proofs.«01_k».proof.Proof.Rows

/-! # A projection of normalised rows

The mathematics of the layers' input projections, and how joined columns are read. -/

@[expose] public section

noncomputable section

namespace Cert.Proj

open Cert.Rows
open Idealize.ShloMosaic hiding ix0 ix1 ix2 ix3 ix4 ix5 eq_ix1 eq_ix2 eq_ix3
open Idealize.ShloMosaic.ValueIdx
open scoped BigOperators

/-- Column `f` of the projection of the normalised row `R`. -/
def proj {M N : ℕ} (x : Fin M → Fin 1024 → EReal) (g : Fin 1024 → EReal) (w : Fin 1024 → Fin N → EReal) (R : Fin M) (f : Fin N) : EReal :=
  ∑ d, rmsRow (x R) g d * w d f

section Join
variable {α : Type} {M K A B C : ℕ}

/-- A slice of columns from column `o`, at a row and a column. -/
theorem sliceCols (o : ℕ) (x : (⟨2, ![M, K]⟩ : Shape).Idx → α) (h : (⟨2, ![M, K]⟩ : Shape).Slices ![0, o] ⟨2, ![M, A]⟩)
    (r : Fin M) (c : Fin A) (k : Fin K) (hk : k.val = o + c.val) :
    extractStridedSlice ⟨2, ![M, A]⟩ ![0, o] x h (ix2 r c) = x (ix2 r k) :=
  extractStridedSlice_apply _ x h _ _ fun a => by
    match a with
    | ⟨0, _⟩ => exact (Nat.zero_add _).symm
    | ⟨1, _⟩ => exact hk

/-- Two slices of columns side by side, at a row and a column. -/
theorem joinSlices (o : ℕ) (x : (⟨2, ![M, K]⟩ : Shape).Idx → α) (hA : (⟨2, ![M, K]⟩ : Shape).Slices ![0, 0] ⟨2, ![M, A]⟩)
    (hB : (⟨2, ![M, K]⟩ : Shape).Slices ![0, o] ⟨2, ![M, B]⟩) (hAB : A + B = C)
    (hC : Shape.Concatenates [(⟨2, ![M, A]⟩ : Shape), ⟨2, ![M, B]⟩] ⟨2, ![M, C]⟩ 1) (r : Fin M) (c : Fin C) (k : Fin K)
    (hk : k.val = if c.val < A then c.val else o + (c.val - A)) :
    concatenate ⟨2, ![M, C]⟩ 1 [⟨⟨2, ![M, A]⟩, extractStridedSlice ⟨2, ![M, A]⟩ ![0, 0] x hA⟩,
      ⟨⟨2, ![M, B]⟩, extractStridedSlice ⟨2, ![M, B]⟩ ![0, o] x hB⟩] hC (ix2 r c) = x (ix2 r k) := by
  by_cases h : c.val < A
  · rw [if_pos h] at hk
    refine (concatenate_pair_apply_left (t := ⟨2, ![M, C]⟩) 1 _ _ hC (ix2 r c) rfl (ix2 r (⟨c.val, h⟩ : Fin A)) fun b => ?_).trans
      (sliceCols 0 x hA r _ k (by rw [hk]; exact (Nat.zero_add _).symm))
    match b with
    | ⟨0, _⟩ => rfl
    | ⟨1, _⟩ => rfl
  · rw [if_neg h] at hk
    refine (concatenate_pair_apply_right (t := ⟨2, ![M, C]⟩) 1 _ _ hC (ix2 r c) rfl rfl (ix2 r (⟨c.val - A, by omega⟩ : Fin B)) (fun b hb => ?_) ?_).trans
      (sliceCols o x hB r _ k hk)
    · match b, hb with
      | ⟨0, _⟩, _ => rfl
      | ⟨1, _⟩, hb => exact absurd rfl hb
    · show c.val - A + A = c.val
      omega

end Join

/-- Which of the 16 gate columns lies in a lane of the two tiles: the input gates of both directions in the first tile,
    the forget gates in the second, and no column in the other lanes. -/
def gateCol (c : Fin 256) : Option (Fin 16) :=
  if h : c.val < 4 then some ⟨c.val, by omega⟩ else if h : c.val < 8 then some ⟨c.val + 4, by omega⟩ else if c.val < 128 then none
  else if h : c.val < 132 then some ⟨c.val - 124, by omega⟩ else if h : c.val < 136 then some ⟨c.val - 120, by omega⟩ else none

/-- The two tiles of gates, at a row and a lane. -/
theorem twoTiles {α : Type} {M : ℕ} (y : (⟨2, ![M, 16]⟩ : Shape).Idx → α) (z : (⟨2, ![M, 120]⟩ : Shape).Idx → α) (z0 : α) (hz : ∀ i, z i = z0)
    (h0 : (⟨2, ![M, 16]⟩ : Shape).Slices ![0, 0] ⟨2, ![M, 4]⟩) (h4 : (⟨2, ![M, 16]⟩ : Shape).Slices ![0, 4] ⟨2, ![M, 4]⟩)
    (h8 : (⟨2, ![M, 16]⟩ : Shape).Slices ![0, 8] ⟨2, ![M, 4]⟩) (h12 : (⟨2, ![M, 16]⟩ : Shape).Slices ![0, 12] ⟨2, ![M, 4]⟩)
    (hC : Shape.Concatenates [(⟨2, ![M, 4]⟩ : Shape), ⟨2, ![M, 4]⟩, ⟨2, ![M, 120]⟩, ⟨2, ![M, 4]⟩, ⟨2, ![M, 4]⟩, ⟨2, ![M, 120]⟩] ⟨2, ![M, 256]⟩ 1)
    (r : Fin M) (c : Fin 256) :
    concatenate ⟨2, ![M, 256]⟩ 1 [⟨⟨2, ![M, 4]⟩, extractStridedSlice ⟨2, ![M, 4]⟩ ![0, 0] y h0⟩, ⟨⟨2, ![M, 4]⟩, extractStridedSlice ⟨2, ![M, 4]⟩ ![0, 8] y h8⟩,
      ⟨⟨2, ![M, 120]⟩, z⟩, ⟨⟨2, ![M, 4]⟩, extractStridedSlice ⟨2, ![M, 4]⟩ ![0, 4] y h4⟩, ⟨⟨2, ![M, 4]⟩, extractStridedSlice ⟨2, ![M, 4]⟩ ![0, 12] y h12⟩,
      ⟨⟨2, ![M, 120]⟩, z⟩] hC (ix2 r c) = (gateCol c).elim z0 fun k => y (ix2 r k) := by
  have side : ∀ {n : ℕ} (i : Fin n) (b : Fin 2), b ≠ (1 : Fin 2) → ((ix2 r i : (⟨2, ![M, n]⟩ : Shape).Idx) b).val = ((ix2 r c : (⟨2, ![M, 256]⟩ : Shape).Idx) b).val := fun i b hb => by
    match b, hb with
    | ⟨0, _⟩, _ => rfl
    | ⟨1, _⟩, hb => exact absurd rfl hb
  unfold gateCol
  split_ifs with a1 a2 a3 a4 a5
  · refine (concatenate_apply_piece (t := ⟨2, ![M, 256]⟩) 1 _ _ (ix2 r c) 0 (by simp) ⟨2, ![M, 4]⟩ _ rfl rfl 0 rfl (ix2 r ⟨c.val, a1⟩) (side _)
      (by show 0 + c.val = c.val; omega)).trans (sliceCols 0 y h0 r _ _ (by show c.val = 0 + c.val; omega))
  · refine (concatenate_apply_piece (t := ⟨2, ![M, 256]⟩) 1 _ _ (ix2 r c) 1 (by simp) ⟨2, ![M, 4]⟩ _ rfl rfl 4 rfl (ix2 r ⟨c.val - 4, by omega⟩) (side _)
      (by show 4 + (c.val - 4) = c.val; omega)).trans (sliceCols 8 y h8 r _ _ (by show c.val + 4 = 8 + (c.val - 4); omega))
  · refine (concatenate_apply_piece (t := ⟨2, ![M, 256]⟩) 1 _ _ (ix2 r c) 2 (by simp) ⟨2, ![M, 120]⟩ _ rfl rfl 8 rfl (ix2 r ⟨c.val - 8, by omega⟩) (side _)
      (by show 8 + (c.val - 8) = c.val; omega)).trans (hz _)
  · refine (concatenate_apply_piece (t := ⟨2, ![M, 256]⟩) 1 _ _ (ix2 r c) 3 (by simp) ⟨2, ![M, 4]⟩ _ rfl rfl 128 rfl (ix2 r ⟨c.val - 128, by omega⟩) (side _)
      (by show 128 + (c.val - 128) = c.val; omega)).trans (sliceCols 4 y h4 r _ _ (by show c.val - 124 = 4 + (c.val - 128); omega))
  · refine (concatenate_apply_piece (t := ⟨2, ![M, 256]⟩) 1 _ _ (ix2 r c) 4 (by simp) ⟨2, ![M, 4]⟩ _ rfl rfl 132 rfl (ix2 r ⟨c.val - 132, by omega⟩) (side _)
      (by show 132 + (c.val - 132) = c.val; omega)).trans (sliceCols 12 y h12 r _ _ (by show c.val - 120 = 12 + (c.val - 132); omega))
  · refine (concatenate_apply_piece (t := ⟨2, ![M, 256]⟩) 1 _ _ (ix2 r c) 5 (by simp) ⟨2, ![M, 120]⟩ _ rfl rfl 136 rfl (ix2 r ⟨c.val - 136, by omega⟩) (side _)
      (by show 136 + (c.val - 136) = c.val; omega)).trans (hz _)

end Cert.Proj
-- ==== Proof.Reads.lean ====
module

public import proofs.«01_k».proof.Proof.StepRun
public import proofs.«01_k».proof.Proof.Seqs
public import proofs.«01_k».proof.Proof.Proj

/-! # A point on real inputs

What a point of the grid loads when its blocks hold parts of the sequences, and what it then leaves and stores. -/

@[expose] public section

noncomputable section

namespace Cert.Mix

open Cert.Kernel2Ideal Cert.Kernel2Ideal.Gen Cert.Proj Idealize.ShloMosaic.TcCoe
open Idealize.ShloMosaic hiding ix0 ix1 ix2 ix3 ix4 ix5 eq_ix1 eq_ix2 eq_ix3
open Idealize.ShloMosaic.ValueIdx

/-- The row of the sequence that a row of a point's block is. -/
def rowOf (back : Bool) (j : Fin 4) (r : Fin 512) : Fin 2048 := match back with
  | false => ⟨512 * j.val + r.val, by omega⟩
  | true => ⟨512 * (3 - j.val) + r.val, by omega⟩

/-- A point's blocks hold a part of the sequences of batch entry `b`. -/
structure Fits (p : Fin 16 → Fin 2048 → Fin 3600 → ℝ) (g : Fin 16 → ℝ) (b : Fin 16) (j : Fin 4) (x0 : Vec Ideal S512x512 .bf16) (x1 : Vec Ideal S512x512 .bf16)
    (x2 : Vec Ideal S512x1024 .bf16) (x3 : Vec Ideal S512x256 .f32) (x4 : Vec Ideal S512x512 .bf16) (x5 : Vec Ideal S512x512 .bf16) (x6 : Vec Ideal S512x1024 .bf16)
    (x7 : Vec Ideal S512x256 .f32) (x8 : Vec Ideal S1x256 .f32) : Prop where
  q0 : ∀ (r c : Fin 512), x0 (ix2 r c) = ((p b (rowOf false j r) ⟨c.val, by omega⟩ : ℝ) : EReal)
  k0 : ∀ (r c : Fin 512), x1 (ix2 r c) = ((p b (rowOf false j r) ⟨512 + c.val, by omega⟩ : ℝ) : EReal)
  v0 : ∀ (r : Fin 512) (c : Fin 1024), x2 (ix2 r c) = ((p b (rowOf false j r) ⟨1024 + c.val, by omega⟩ : ℝ) : EReal)
  g0 : ∀ (r : Fin 512) (l : Fin 256), x3 (ix2 r l) = (gateCol l).elim 0 fun k => ((p b (rowOf false j r) ⟨3072 + k.val, by omega⟩ : ℝ) : EReal)
  q1 : ∀ (r c : Fin 512), x4 (ix2 r c) = ((p b (rowOf true j r) ⟨c.val, by omega⟩ : ℝ) : EReal)
  k1 : ∀ (r c : Fin 512), x5 (ix2 r c) = ((p b (rowOf true j r) ⟨512 + c.val, by omega⟩ : ℝ) : EReal)
  v1 : ∀ (r : Fin 512) (c : Fin 1024), x6 (ix2 r c) = ((p b (rowOf true j r) ⟨1024 + c.val, by omega⟩ : ℝ) : EReal)
  g1 : ∀ (r : Fin 512) (l : Fin 256), x7 (ix2 r l) = (gateCol l).elim 0 fun k => ((p b (rowOf true j r) ⟨3072 + k.val, by omega⟩ : ℝ) : EReal)
  bias : ∀ l : Fin 256, x8 (ix2 0 l) = (gateCol l).elim 0 fun k => ((g k : ℝ) : EReal)

/-- The sequences of the eight chains. -/
def seqs (p : Fin 16 → Fin 2048 → Fin 3600 → ℝ) (g : Fin 16 → ℝ) (b : Fin 16) (ch : Fin 8) : Seq := seqAt p g b (dirOf ch) (hdOf ch)

theorem gateCol_in : ∀ ch : Fin 8, gateCol ⟨ch.val, by omega⟩ = some (inCol (dirOf ch) (hdOf ch)) := by decide
theorem gateCol_fg : ∀ ch : Fin 8, gateCol ⟨128 + ch.val, by omega⟩ = some (fgCol (dirOf ch) (hdOf ch)) := by decide

theorem elim_isReal (o : Option (Fin 16)) (f : Fin 16 → ℝ) : IsReal (o.elim 0 fun k => (f k : EReal)) := by
  cases o with
  | none => exact ⟨0, rfl⟩
  | some k => exact ⟨f k, rfl⟩

theorem rowOf_quarter (back : Bool) (j k : Fin 4) (r : Fin 128) (R : Fin 512) (hR : R.val = 128 * (quarter back k).val + r.val) : rowOf back j R = pos back (chunk j k) r := by
  cases back
  · refine Fin.ext ?_
    show 512 * j.val + R.val = 128 * (4 * j.val + k.val) + r.val
    rw [hR]
    show 512 * j.val + (128 * k.val + r.val) = _
    omega
  · refine Fin.ext ?_
    show 512 * (3 - j.val) + R.val = 128 * (15 - (4 * j.val + k.val)) + r.val
    rw [hR]
    show 512 * (3 - j.val) + (128 * (3 - k.val) + r.val) = _
    omega

theorem embQ (i n : Fin 4) (r d : Fin 128) : (rectQ i n).emb (ix2 r d) = ix2 (⟨128 * i.val + r.val, by omega⟩ : Fin 512) (⟨128 * n.val + d.val, by omega⟩ : Fin 512) := by
  funext a; apply Fin.ext
  match a with
  | ⟨0, _⟩ => show 128 * i.val + 1 * r.val = 128 * i.val + r.val; omega
  | ⟨1, _⟩ => show 128 * n.val + 1 * d.val = 128 * n.val + d.val; omega
theorem embV (i n : Fin 4) (r : Fin 128) (d : Fin 256) :
    (rectV i n).emb (ix2 r d) = ix2 (⟨128 * i.val + r.val, by omega⟩ : Fin 512) (⟨256 * n.val + d.val, by omega⟩ : Fin 1024) := by
  funext a; apply Fin.ext
  match a with
  | ⟨0, _⟩ => show 128 * i.val + 1 * r.val = 128 * i.val + r.val; omega
  | ⟨1, _⟩ => show 256 * n.val + 1 * d.val = 256 * n.val + d.val; omega
theorem embG (i : Fin 4) (n : Fin 2) (r d : Fin 128) :
    (rectG i n).emb (ix2 r d) = ix2 (⟨128 * i.val + r.val, by omega⟩ : Fin 512) (⟨128 * n.val + d.val, by omega⟩ : Fin 256) := by
  funext a; apply Fin.ext
  match a with
  | ⟨0, _⟩ => show 128 * i.val + 1 * r.val = 128 * i.val + r.val; omega
  | ⟨1, _⟩ => show 128 * n.val + 1 * d.val = 128 * n.val + d.val; omega
theorem embB (n : Fin 2) (d : Fin 128) : (rectB n).emb (ix2 0 d) = ix2 (0 : Fin 1) (⟨128 * n.val + d.val, by omega⟩ : Fin 256) := by
  funext a; apply Fin.ext
  match a with
  | ⟨0, _⟩ => rfl
  | ⟨1, _⟩ => show 128 * n.val + 1 * d.val = 128 * n.val + d.val; omega

/-- A load of a whole memref's contents through a rectangle. -/
theorem load_apply {s : Shape} {e : EltTy} (a : Memref sig .tc .vmem s e) (ha : a.IsWhole) (x : s.Idx → Elt Ideal e) (r : Rect s) (y : r.shape.Idx) :
    View.readAt (Elt Ideal) a.view r.toLoadRect (ha.unread x) y = x (r.emb y) := by
  rw [View.readAt_eq_ld, ha.read_unread]
  rfl

variable (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512x1024 .bf16) (harg4 : arg4.IsWhole) (arg5 : Memref sig .tc .vmem S512x256 .f32) (harg5 : arg5.IsWhole) (arg6 : Memref sig .tc .vmem S512x512 .bf16) (harg6 : arg6.IsWhole) (arg7 : Memref sig .tc .vmem S512x512 .bf16) (harg7 : arg7.IsWhole) (arg8 : Memref sig .tc .vmem S512x1024 .bf16) (harg8 : arg8.IsWhole) (arg9 : Memref sig .tc .vmem S512x256 .f32) (harg9 : arg9.IsWhole) (arg10 : Memref sig .tc .vmem S1x256 .f32) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S8x128x384 .f32) (harg13 : arg13.IsWhole) (arg14 : Memref sig .tc .vmem S8x1x128 .f32) (harg14 : arg14.IsWhole)
    (x0 : Vec Ideal S512x512 .bf16) (x1 : Vec Ideal S512x512 .bf16) (x2 : Vec Ideal S512x1024 .bf16) (x3 : Vec Ideal S512x256 .f32) (x4 : Vec Ideal S512x512 .bf16) (x5 : Vec Ideal S512x512 .bf16) (x6 : Vec Ideal S512x1024 .bf16) (x7 : Vec Ideal S512x256 .f32) (x8 : Vec Ideal S1x256 .f32) (xs0 : Vec Ideal S8x128x384 .f32) (xs1 : Vec Ideal S8x1x128 .f32)

section
variable {p : Fin 16 → Fin 2048 → Fin 3600 → ℝ} {g : Fin 16 → ℝ} {b : Fin 16} {j : Fin 4}
variable (cm : Bool → Fin 4 → FVec Ideal S128x128 .f32)
variable {x0 x1 x2 x3 x4 x5 x6 x7 x8} (hF : Fits p g b j x0 x1 x2 x3 x4 x5 x6 x7 x8)
include hF

theorem read_q (d : Bool) (k hd : Fin 4) (r e : Fin 128) :
    (read arg2 harg2 arg3 harg3 arg4 harg4 arg5 harg5 arg6 harg6 arg7 harg7 arg8 harg8 arg9 harg9 arg10 harg10 x0 x1 x2 x3 x4 x5 x6 x7 x8 cm).q d (quarter d k) hd (ix2 r e) = (((seqAt p g b d hd).q (pos d (chunk j k) r) e : ℝ) : EReal) := by
  cases d
  · refine (load_apply arg2 harg2 x0 _ _).trans ?_
    rw [embQ, hF.q0, rowOf_quarter false j k r _ rfl]
    rfl
  · refine (load_apply arg6 harg6 x4 _ _).trans ?_
    rw [embQ, hF.q1, rowOf_quarter true j k r _ rfl]
    rfl

theorem read_k (d : Bool) (k hd : Fin 4) (r e : Fin 128) :
    (read arg2 harg2 arg3 harg3 arg4 harg4 arg5 harg5 arg6 harg6 arg7 harg7 arg8 harg8 arg9 harg9 arg10 harg10 x0 x1 x2 x3 x4 x5 x6 x7 x8 cm).k d (quarter d k) hd (ix2 r e) = (((seqAt p g b d hd).k (pos d (chunk j k) r) e : ℝ) : EReal) := by
  cases d
  · refine (load_apply arg3 harg3 x1 _ _).trans ?_
    rw [embQ, hF.k0, rowOf_quarter false j k r _ rfl]
    rfl
  · refine (load_apply arg7 harg7 x5 _ _).trans ?_
    rw [embQ, hF.k1, rowOf_quarter true j k r _ rfl]
    rfl

theorem read_v (d : Bool) (k hd : Fin 4) (r : Fin 128) (e : Fin 256) :
    (read arg2 harg2 arg3 harg3 arg4 harg4 arg5 harg5 arg6 harg6 arg7 harg7 arg8 harg8 arg9 harg9 arg10 harg10 x0 x1 x2 x3 x4 x5 x6 x7 x8 cm).v d (quarter d k) hd (ix2 r e) = (((seqAt p g b d hd).v (pos d (chunk j k) r) e : ℝ) : EReal) := by
  cases d
  · refine (load_apply arg4 harg4 x2 _ _).trans ?_
    rw [embV, hF.v0, rowOf_quarter false j k r _ rfl]
    rfl
  · refine (load_apply arg8 harg8 x6 _ _).trans ?_
    rw [embV, hF.v1, rowOf_quarter true j k r _ rfl]
    rfl

theorem read_gi (d : Bool) (i : Fin 4) (r l : Fin 128) : (read arg2 harg2 arg3 harg3 arg4 harg4 arg5 harg5 arg6 harg6 arg7 harg7 arg8 harg8 arg9 harg9 arg10 harg10 x0 x1 x2 x3 x4 x5 x6 x7 x8 cm).gi d i (ix2 r l) =
    (gateCol ⟨l.val, by omega⟩).elim 0 fun k => ((p b (rowOf d j ⟨128 * i.val + r.val, by omega⟩) ⟨3072 + k.val, by omega⟩ : ℝ) : EReal) := by
  have e : (⟨128 * (0 : Fin 2).val + l.val, by omega⟩ : Fin 256) = ⟨l.val, by omega⟩ := Fin.ext (Nat.zero_add _)
  cases d
  · refine (load_apply arg5 harg5 x3 _ _).trans ?_
    rw [embG, hF.g0, e]
  · refine (load_apply arg9 harg9 x7 _ _).trans ?_
    rw [embG, hF.g1, e]

theorem read_gf (d : Bool) (i : Fin 4) (r l : Fin 128) : (read arg2 harg2 arg3 harg3 arg4 harg4 arg5 harg5 arg6 harg6 arg7 harg7 arg8 harg8 arg9 harg9 arg10 harg10 x0 x1 x2 x3 x4 x5 x6 x7 x8 cm).gf d i (ix2 r l) =
    (gateCol ⟨128 + l.val, by omega⟩).elim 0 fun k => ((p b (rowOf d j ⟨128 * i.val + r.val, by omega⟩) ⟨3072 + k.val, by omega⟩ : ℝ) : EReal) := by
  cases d
  · refine (load_apply arg5 harg5 x3 _ _).trans ?_
    rw [embG, hF.g0]
    rfl
  · refine (load_apply arg9 harg9 x7 _ _).trans ?_
    rw [embG, hF.g1]
    rfl

theorem read_bi (l : Fin 128) : (read arg2 harg2 arg3 harg3 arg4 harg4 arg5 harg5 arg6 harg6 arg7 harg7 arg8 harg8 arg9 harg9 arg10 harg10 x0 x1 x2 x3 x4 x5 x6 x7 x8 cm).bi (ix2 0 l) = (gateCol ⟨l.val, by omega⟩).elim 0 fun k => ((g k : ℝ) : EReal) := by
  have e : (⟨128 * (0 : Fin 2).val + l.val, by omega⟩ : Fin 256) = ⟨l.val, by omega⟩ := Fin.ext (Nat.zero_add _)
  refine (load_apply arg10 harg10 x8 _ _).trans ?_
  rw [embB, hF.bias, e]

theorem read_bf (l : Fin 128) : (read arg2 harg2 arg3 harg3 arg4 harg4 arg5 harg5 arg6 harg6 arg7 harg7 arg8 harg8 arg9 harg9 arg10 harg10 x0 x1 x2 x3 x4 x5 x6 x7 x8 cm).bf (ix2 0 l) = (gateCol ⟨128 + l.val, by omega⟩).elim 0 fun k => ((g k : ℝ) : EReal) := by
  refine (load_apply arg10 harg10 x8 _ _).trans ?_
  rw [embB, hF.bias]
  rfl

/-- The point's loads are a part of the sequences. -/
theorem at_of (hcm : ∀ d q, cm d q = scan d ((read arg2 harg2 arg3 harg3 arg4 harg4 arg5 harg5 arg6 harg6 arg7 harg7 arg8 harg8 arg9 harg9 arg10 harg10 x0 x1 x2 x3 x4 x5 x6 x7 x8 cm).u d q)) : (read arg2 harg2 arg3 harg3 arg4 harg4 arg5 harg5 arg6 harg6 arg7 harg7 arg8 harg8 arg9 harg9 arg10 harg10 x0 x1 x2 x3 x4 x5 x6 x7 x8 cm).At (seqs p g b) j where
  hback ch := rfl
  hq k ch r d := read_q (cm := cm) (hF := hF) ..
  hk k ch r d := read_k (cm := cm) (hF := hF) ..
  hv k ch r e := read_v (cm := cm) (hF := hF) ..
  hgi k ch r := by
    rw [read_gi (hF := hF), read_bi (hF := hF), gateCol_in, rowOf_quarter (dirOf ch) j k r _ rfl]
    exact (EReal.coe_add _ _).symm
  hgf k ch r := by
    refine ⟨_, ?_, rfl⟩
    rw [read_gf (hF := hF), read_bf (hF := hF), gateCol_fg, rowOf_quarter (dirOf ch) j k r _ rfl]
    exact (EReal.coe_add _ _).symm
  rgi d i x := by
    obtain ⟨r, l, rfl⟩ : ∃ (r l : Fin 128), x = ix2 r l := ⟨x 0, x 1, eq_ix2 x⟩
    rw [read_gi (hF := hF)]
    exact elim_isReal _ _
  rgf d i x := by
    obtain ⟨r, l, rfl⟩ : ∃ (r l : Fin 128), x = ix2 r l := ⟨x 0, x 1, eq_ix2 x⟩
    rw [read_gf (hF := hF)]
    exact elim_isReal _ _
  rbi x := by
    obtain ⟨r, l, rfl⟩ : ∃ (r : Fin 1) (l : Fin 128), x = ix2 r l := ⟨x 0, x 1, eq_ix2 x⟩
    rw [show r = 0 from Subsingleton.elim _ _, read_bi (hF := hF)]
    exact elim_isReal _ _
  rbf x := by
    obtain ⟨r, l, rfl⟩ : ∃ (r : Fin 1) (l : Fin 128), x = ix2 r l := ⟨x 0, x 1, eq_ix2 x⟩
    rw [show r = 0 from Subsingleton.elim _ _, read_bf (hF := hF)]
    exact elim_isReal _ _
  hcm := hcm

end

/-- What a later round reads of the scales. -/
theorem readM_later (first : Fin 8 → FVec Ideal S1x1x128 .f32) (L P : List (View.Piece (Elt Ideal) S8x1x128 .f32)) (hL : L = P) (k k' : Fin 4) (ch : Fin 8)
    (hk : k'.val = k.val + 1) : readM arg14 first L k' ch = fun x => View.canon (P.drop (8 * (3 - k.val) - ch.val)) ((rectM ch).emb x) := by
  subst hL
  obtain ⟨k', h'⟩ := k'
  obtain rfl : k' = k.val + 1 := hk
  match k, h' with
  | 0, _ => exact View.readCov_eq_canon' _ _ _
  | 1, _ => exact View.readCov_eq_canon' _ _ _
  | 2, _ => exact View.readCov_eq_canon' _ _ _

/-- What a later round reads of the states. -/
theorem readC_later (first : Fin 8 → FVec Ideal S1x128x384 .f32) (L P : List (View.Piece (Elt Ideal) S8x128x384 .f32)) (hL : L = P) (k k' : Fin 4) (ch : Fin 8)
    (hk : k'.val = k.val + 1) : readC arg13 first L k' ch = fun x => View.canon (P.drop (8 * (3 - k.val) - ch.val)) ((rectC ch).emb x) := by
  subst hL
  obtain ⟨k', h'⟩ := k'
  obtain rfl : k' = k.val + 1 := hk
  match k, h' with
  | 0, _ => exact View.readCov_eq_canon' _ _ _
  | 1, _ => exact View.readCov_eq_canon' _ _ _
  | 2, _ => exact View.readCov_eq_canon' _ _ _

/-- What a point leaves and stores: the chains' states after its four chunks, and their results. -/
structure Leaves (p : Fin 16 → Fin 2048 → Fin 3600 → ℝ) (g : Fin 16 → ℝ) (b : Fin 16) (j : Fin 4) (H0 H1 : FVec Ideal S512x1024 .bf16) (C : FVec Ideal S8x128x384 .f32)
    (M : FVec Ideal S8x1x128 .f32) : Prop where
  kept : ∀ ch, keptAt (seqs p g b ch) (4 * j.val + 4) ch M C
  fwd : ∀ (k hd : Fin 4) (s : Bool) (r x : Fin 128), H0 ((rectH (quarter false k) (col hd s)).emb (ix2 r x)) =
    (((seqAt p g b false hd).out (pos false (chunk j k) r) ⟨128 * s.toNat + x.val, by cases s <;> simp <;> omega⟩ : ℝ) : EReal)
  bwd : ∀ (k hd : Fin 4) (s : Bool) (r x : Fin 128), H1 ((rectH (quarter true k) (col hd s)).emb (ix2 r x)) =
    (((seqAt p g b true hd).out (pos true (chunk j k) r) ⟨128 * s.toNat + x.val, by cases s <;> simp <;> omega⟩ : ℝ) : EReal)

section
variable {p : Fin 16 → Fin 2048 → Fin 3600 → ℝ} {g : Fin 16 → ℝ} {b : Fin 16} {j : Fin 4}

/-- A point whose loads are a part of the sequences and which reads the chains' states leaves and stores them. -/
theorem leaves (l : Loads) (h : l.At (seqs p g b) j) (baseM : List (View.Piece (Elt Ideal) S8x1x128 .f32)) (baseC : List (View.Piece (Elt Ideal) S8x128x384 .f32))
    (fM : Fin 8 → FVec Ideal S1x1x128 .f32) (fC : Fin 8 → FVec Ideal S1x128x384 .f32)
    (L1 : List (View.Piece (Elt Ideal) S8x1x128 .f32)) (L0 : List (View.Piece (Elt Ideal) S8x128x384 .f32)) (H0 H1 : List (View.Piece (Elt Ideal) S512x1024 .bf16))
    (hL1 : L1 = piecesM l baseM (steps (readM arg14 fM L1) (readC arg13 fC L0))) (hL0 : L0 = piecesC l baseC (steps (readM arg14 fM L1) (readC arg13 fC L0)))
    (hH0 : H0 = piecesH l (stepsOf false (readM arg14 fM L1) (readC arg13 fC L0))) (hH1 : H1 = piecesH l (stepsOf true (readM arg14 fM L1) (readC arg13 fC L0)))
    (hfirst : ∀ ch, Holds (seqs p g b ch) (4 * j.val) (fM ch) (fC ch)) : Leaves p g b j (View.canon H0) (View.canon H1) (View.canon L0) (View.canon L1) := by
  have hm := fun k k' ch hk => readM_later (arg14 := arg14) fM L1 _ hL1 k k' ch hk
  have hc := fun k k' ch hk => readC_later (arg13 := arg13) fC L0 _ hL0 k k' ch hk
  refine ⟨fun ch => ?_, fun k hd s r x => ?_, fun k hd s r x => ?_⟩
  · have e := holds_end h baseM baseC _ _ hm hc hfirst ch
    rw [← hL1, ← hL0] at e
    exact e
  · rw [hH0]
    have e := point_out h baseM baseC _ _ hm hc hfirst k ⟨hd.val, by omega⟩ s r x
    have e1 : dirOf (⟨hd.val, by omega⟩ : Fin 8) = false := by clear e; revert hd; decide
    have e2 : hdOf (⟨hd.val, by omega⟩ : Fin 8) = hd := by clear e e1; revert hd; decide
    unfold seqs at e
    rw [e1, e2] at e
    exact e
  · rw [hH1]
    have e := point_out h baseM baseC _ _ hm hc hfirst k ⟨4 + hd.val, by omega⟩ s r x
    have e1 : dirOf (⟨4 + hd.val, by omega⟩ : Fin 8) = true := by clear e; revert hd; decide
    have e2 : hdOf (⟨4 + hd.val, by omega⟩ : Fin 8) = hd := by clear e e1; revert hd; decide
    unfold seqs at e
    rw [e1, e2] at e
    exact e

theorem zeroM_apply (x : S8x1x128.Idx) : View.canon zeroM x = 0 :=
  (congrFun (View.canon_cons_unit_zero (Val := Elt Ideal) (e := .f32) (S := S8x1x128) (by funext a; fin_cases a <;> rfl) _ _ _) x).trans Ideal.ofBits_zero_f32

theorem zeroC_apply (x : S8x128x384.Idx) : View.canon zeroC x = 0 :=
  (congrFun (View.canon_cons_unit_zero (Val := Elt Ideal) (e := .f32) (S := S8x128x384) (by funext a; fin_cases a <;> rfl) _ _ _) x).trans Ideal.ofBits_zero_f32

set_option maxRecDepth 100000
attribute [local irreducible] View.readAt View.readCov

/-- A point starting a sequence. -/
theorem leaves_A (hF : Fits p g b j x0 x1 x2 x3 x4 x5 x6 x7 x8) (hj : j.val = 0) (hc : cond0_0 i) :
    Leaves p g b j (View.canon (kernelRun0_A (F := Ideal) c i arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 x8).1)
      (View.canon (kernelRun0_A (F := Ideal) c i arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 x8).2.1)
      (View.canon (kernelRun0_A (F := Ideal) c i arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 x8).2.2.1)
      (View.canon (kernelRun0_A (F := Ideal) c i arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 x8).2.2.2.1) := by
  have hL1 := scales_A c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 hc
  have hL0 := states_A c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 hc
  refine leaves arg13 arg14 _ (at_of (hF := hF) (hcm := cmA_eq c arg2 harg2 arg3 harg3 arg4 harg4 arg5 harg5 arg6 harg6 arg7 harg7 arg8 harg8 arg9 harg9 arg10 harg10 x0 x1 x2 x3 x4 x5 x6 x7 x8 _)) zeroM zeroC _ _ _ _ _ _ hL1 hL0
    (fwd_A c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 hc) (bwd_A c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 hc) fun ch => ?_
  rw [show 4 * j.val = 0 by omega]
  refine holds_zero _ _ _ (fun x => ?_) (fun x => ?_)
  · refine (congrFun (View.readCov_eq_canon' arg14.view _ (rectM ch).toLoadRect) x).trans ?_
    rw [hL1]
    exact (before_M _ _ _ zeroM ch x).trans (zeroM_apply _)
  · refine (congrFun (View.readCov_eq_canon' arg13.view _ (rectC ch).toLoadRect) x).trans ?_
    rw [hL0]
    exact (before_C _ _ _ zeroC ch x).trans (zeroC_apply _)

/-- A point continuing one. -/
theorem leaves_B (hF : Fits p g b j x0 x1 x2 x3 x4 x5 x6 x7 x8) (hk : ∀ ch, keptAt (seqs p g b ch) (4 * j.val) ch xs1 xs0) (hc : ¬cond0_0 i) :
    Leaves p g b j (View.canon (kernelRun0_B (F := Ideal) c i arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 x8 xs0 xs1).1)
      (View.canon (kernelRun0_B (F := Ideal) c i arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 x8 xs0 xs1).2.1)
      (View.canon (kernelRun0_B (F := Ideal) c i arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 x8 xs0 xs1).2.2.1)
      (View.canon (kernelRun0_B (F := Ideal) c i arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 x8 xs0 xs1).2.2.2.1) := by
  refine leaves arg13 arg14 _ (at_of (hF := hF) (hcm := cmB_eq c arg2 harg2 arg3 harg3 arg4 harg4 arg5 harg5 arg6 harg6 arg7 harg7 arg8 harg8 arg9 harg9 arg10 harg10 x0 x1 x2 x3 x4 x5 x6 x7 x8 _)) [] [] _ _ _ _ _ _ (scales_B c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 xs0 xs1 hc)
    (states_B c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 xs0 xs1 hc) (fwd_B c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 xs0 xs1 hc) (bwd_B c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 xs0 xs1 hc) fun ch => ?_
  have e1 : keptM arg14 harg14 xs1 ch = fun x => xs1 ((rectM ch).emb x) := funext fun x => load_apply arg14 harg14 xs1 (rectM ch) x
  have e0 : keptC arg13 harg13 xs0 ch = fun x => xs0 ((rectC ch).emb x) := funext fun x => load_apply arg13 harg13 xs0 (rectC ch) x
  have h : Holds (seqs p g b ch) (4 * j.val) (fun x => xs1 ((rectM ch).emb x)) (fun x => xs0 ((rectC ch).emb x)) := hk ch
  exact (congrArg₂ (Holds (seqs p g b ch) (4 * j.val)) e1 e0).mpr h

end

end Cert.Mix
-- ==== Proof.RefMix.lean ====
module

public import proofs.«01_k».proof.Proof.Seqs
public import proofs.«01_k».proof.Proof.Gen.Reference2Ideal.Read

/-! # The reference at an index

On real arguments the reference's parallel form is, at every row and column, the result of the row's sequence. -/

@[expose] public section

set_option maxRecDepth 100000

noncomputable section

namespace Cert.Mix

open Idealize Idealize.ShloMosaic
open Cert.Reference2Ideal Cert.Reference2Ideal.Read

variable {x0 : (⟨S16x2048x3600, .f32⟩ : BufTy).Contents (Elt Ideal)} {x1 : (⟨S16, .f32⟩ : BufTy).Contents (Elt Ideal)}
  {p : Fin 16 → Fin 2048 → Fin 3600 → ℝ} {g : Fin 16 → ℝ}

/-- The projected input holds reals. -/
abbrev RealsP (x0 : (⟨S16x2048x3600, .f32⟩ : BufTy).Contents (Elt Ideal)) (p : Fin 16 → Fin 2048 → Fin 3600 → ℝ) : Prop :=
  ∀ i : S16x2048x3600.Idx, x0 i = ((p (i 0) (i 1) (i 2) : ℝ) : EReal)

/-- The bias of the gates holds reals. -/
abbrev RealsG (x1 : (⟨S16, .f32⟩ : BufTy).Contents (Elt Ideal)) (g : Fin 16 → ℝ) : Prop := ∀ i : S16.Idx, x1 i = ((g (i 0) : ℝ) : EReal)

theorem coe_p {b b' : Fin 16} {s s' : Fin 2048} {c c' : Fin 3600} (hb : b.val = b'.val) (hs : s.val = s'.val) (hc : c.val = c'.val) :
    ((p b s c : ℝ) : EReal) = ((p b' s' c' : ℝ) : EReal) := by rw [Fin.ext hb, Fin.ext hs, Fin.ext hc]

theorem une_self (x : Ideal .f32) : FloatOps.cmpf .une x x = 0#1 := by
  show BitVec.ofBool (decide (x ≠ x)) = 0#1
  simp

section
variable (h0 : RealsP x0 p)
include h0

theorem query_apply (i : S16x2048x4x128.Idx) : val_main_v6 (F := Ideal) x0 i = (((seqAt p g (i 0) false (i 2)).q (i 1) (i 3) : ℝ) : EReal) := by
  have b1 : (i 1).val < 2048 := (i 1).isLt
  have b2 : (i 2).val < 4 := (i 2).isLt
  have b3 : (i 3).val < 128 := (i 3).isLt
  rw [val_main_v6_apply, val_main_v1_apply, val_main_v0_apply, h0]
  refine coe_p ?_ ?_ ?_
  · show ((((i 0).val * 2048 + (i 1).val) * 4 + (i 2).val) * 128 + (i 3).val) / 1048576 = (i 0).val
    omega
  · show ((((i 0).val * 2048 + (i 1).val) * 4 + (i 2).val) * 128 + (i 3).val) / 512 % 2048 = (i 1).val
    omega
  · show ((((i 0).val * 2048 + (i 1).val) * 4 + (i 2).val) * 128 + (i 3).val) % 512 = 128 * (i 2).val + (i 3).val
    omega

theorem key_apply (i : S16x2048x4x128.Idx) : val_main_v9 (F := Ideal) x0 i = (((seqAt p g (i 0) false (i 2)).k (i 1) (i 3) : ℝ) : EReal) := by
  have b1 : (i 1).val < 2048 := (i 1).isLt
  have b2 : (i 2).val < 4 := (i 2).isLt
  have b3 : (i 3).val < 128 := (i 3).isLt
  rw [val_main_v9_apply, val_main_v2_apply, val_main_v0_apply, h0]
  refine coe_p ?_ ?_ ?_
  · show ((((i 0).val * 2048 + (i 1).val) * 4 + (i 2).val) * 128 + (i 3).val) / 1048576 = (i 0).val
    omega
  · show ((((i 0).val * 2048 + (i 1).val) * 4 + (i 2).val) * 128 + (i 3).val) / 512 % 2048 = (i 1).val
    omega
  · show 512 + ((((i 0).val * 2048 + (i 1).val) * 4 + (i 2).val) * 128 + (i 3).val) % 512 = 512 + (128 * (i 2).val + (i 3).val)
    omega

theorem value_apply (i : S16x2048x4x256.Idx) : val_main_v10 (F := Ideal) x0 i = (((seqAt p g (i 0) false (i 2)).v (i 1) (i 3) : ℝ) : EReal) := by
  have b1 : (i 1).val < 2048 := (i 1).isLt
  have b2 : (i 2).val < 4 := (i 2).isLt
  have b3 : (i 3).val < 256 := (i 3).isLt
  rw [val_main_v10_apply, val_main_v3_apply, val_main_v0_apply, h0]
  refine coe_p ?_ ?_ ?_
  · show ((((i 0).val * 2048 + (i 1).val) * 4 + (i 2).val) * 256 + (i 3).val) / 2097152 = (i 0).val
    omega
  · show ((((i 0).val * 2048 + (i 1).val) * 4 + (i 2).val) * 256 + (i 3).val) / 1024 % 2048 = (i 1).val
    omega
  · show 1024 + ((((i 0).val * 2048 + (i 1).val) * 4 + (i 2).val) * 256 + (i 3).val) % 1024 = 1024 + (256 * (i 2).val + (i 3).val)
    omega

theorem scaled_apply (i : S16x2048x4x128.Idx) :
    val_main_v8 (F := Ideal) x0 i = (((seqAt p g (i 0) false (i 2)).q (i 1) (i 3) : ℝ) : EReal) * (scale : EReal) := by
  rw [val_main_v8_apply, val_main_v7_apply, query_apply (g := g) h0, ← scale_eq]
  rfl

theorem prod_fwd (i : S16x4x2048x2048.Idx) :
    val_main_v35 (F := Ideal) x0 i = ((scale * (seqAt p g (i 0) false (i 1)).qk (i 2) (i 3) : ℝ) : EReal) := by
  refine Eq.trans ?_ (Seq.qk_scaled _ _ _)
  rw [val_main_v35_apply]
  exact Finset.sum_congr rfl fun d _ => congr_arg₂ (· * ·) (scaled_apply (g := g) h0 _) (key_apply (g := g) h0 _)

theorem prod_bwd (i : S16x4x2048x2048.Idx) :
    val_main_v61 (F := Ideal) x0 i = ((scale * (seqAt p g (i 0) true (i 1)).qk (i 2) (i 3) : ℝ) : EReal) := by
  refine Eq.trans ?_ (Seq.qk_scaled _ _ _)
  rw [val_main_v61_apply]
  exact Finset.sum_congr rfl fun d _ => congr_arg₂ (· * ·) (scaled_apply (g := g) h0 _) (key_apply (g := g) h0 _)

end

section
variable (h0 : RealsP x0 p) (h1 : RealsG x1 g)
include h0 h1

/-- The gates before their splitting. -/
theorem gates_apply (i : S16x2048x16.Idx) :
    val_main_v13 (F := Ideal) x0 x1 i = ((p (i 0) (i 1) ⟨3072 + (i 2).val, by have : (i 2).val < 16 := (i 2).isLt; omega⟩ + g (i 2) : ℝ) : EReal) := by
  rw [val_main_v13_apply, val_main_v5_apply, val_main_v0_apply, val_main_v12_apply, val_main_v11_apply, h0, h1]
  exact (EReal.coe_add _ _).symm

theorem in_fwd (i : S16x2048x4.Idx) : val_main_v14 (F := Ideal) x0 x1 i = (((seqAt p g (i 0) false (i 2)).li (i 1) : ℝ) : EReal) := by
  rw [val_main_v14_apply, gates_apply h0 h1]
  rfl

theorem in_bwd (i : S16x2048x4.Idx) : val_main_v16 (F := Ideal) x0 x1 i = (((seqAt p g (i 0) true (i 2)).li (i 1) : ℝ) : EReal) := by
  rw [val_main_v16_apply, gates_apply h0 h1]
  rfl

theorem fg_fwd (i : S16x2048x4.Idx) : val_main_v22 (F := Ideal) x0 x1 i = (((seqAt p g (i 0) false (i 2)).lf (i 1) : ℝ) : EReal) := by
  have e : val_main_v15 (F := Ideal) x0 x1 i =
      ((p (i 0) (i 1) ⟨3072 + (fgCol false (i 2)).val, by have := (fgCol false (i 2)).isLt; omega⟩ + g (fgCol false (i 2)) : ℝ) : EReal) := by
    rw [val_main_v15_apply, gates_apply h0 h1]
    rfl
  have z : ∀ z : S_.Idx, val_main_call2_call0_cst (F := Ideal) z = 0 := fun z => Ideal.ofBits_zero_f32
  rw [val_main_v22_apply, val_main_call2_v1_apply, val_main_call2_call0_v4_apply,
    une_self]
  refine Eq.trans ?_ (softplus_neg _)
  rw [← e]
  show -(max (-(val_main_v15 (F := Ideal) x0 x1 i)) (val_main_call2_call0_v0 (F := Ideal) i) + Ideal.log1p (Ideal.exp
    (-(max (-(val_main_v15 (F := Ideal) x0 x1 i) - (val_main_call2_call0_v2 (F := Ideal) i)) (-(-(val_main_v15 (F := Ideal) x0 x1 i) - (val_main_call2_call0_v2 (F := Ideal) i))))))) = _
  rw [val_main_call2_call0_v0_apply, val_main_call2_call0_v2_apply, z]

theorem fg_bwd (i : S16x2048x4.Idx) : val_main_v48 (F := Ideal) x0 x1 i = (((seqAt p g (i 0) true (i 2)).lf (i 1) : ℝ) : EReal) := by
  have e : val_main_v17 (F := Ideal) x0 x1 i =
      ((p (i 0) (i 1) ⟨3072 + (fgCol true (i 2)).val, by have := (fgCol true (i 2)).isLt; omega⟩ + g (fgCol true (i 2)) : ℝ) : EReal) := by
    rw [val_main_v17_apply, gates_apply h0 h1]
    rfl
  have z : ∀ z : S_.Idx, val_main_call4_call0_cst (F := Ideal) z = 0 := fun z => Ideal.ofBits_zero_f32
  rw [val_main_v48_apply, val_main_call4_v1_apply, val_main_call4_call0_v4_apply,
    une_self]
  refine Eq.trans ?_ (softplus_neg _)
  rw [← e]
  show -(max (-(val_main_v17 (F := Ideal) x0 x1 i)) (val_main_call4_call0_v0 (F := Ideal) i) + Ideal.log1p (Ideal.exp
    (-(max (-(val_main_v17 (F := Ideal) x0 x1 i) - (val_main_call4_call0_v2 (F := Ideal) i)) (-(-(val_main_v17 (F := Ideal) x0 x1 i) - (val_main_call4_call0_v2 (F := Ideal) i))))))) = _
  rw [val_main_call4_call0_v0_apply, val_main_call4_call0_v2_apply, z]

end

/-- The mask of the rows before a row. -/
theorem mask_fwd (i : S2048x2048.Idx) (t s : Fin 2048) (ht : t = i 0) (hs : s = i 1) : val_main_v19 (F := Ideal) i = if upTo false t s then 1#1 else 0#1 := by
  rw [val_main_v19_apply, val_main_call0_v4_apply, val_main_call0_v2_apply, val_main_call0_v1_apply, val_main_v18_apply, val_main_call0_v5_apply]
  have h := sge_small (i 0).val (i 1).val (i 0).isLt (i 1).isLt
  rw [show IntOp.addi (val_main_call0_v0 (F := Ideal) i) (val_main_call0_c (F := Ideal) (idx_main_call0_v1 i)) = BitVec.ofNat 32 (i 0).val from BitVec.add_zero _,
    show IntOp.cmpi .sge (BitVec.ofNat 32 (i 0).val) (val_main_call0_v3 (F := Ideal) i) = _ from h]
  subst ht hs
  show Scalar.select _ 1#1 0#1 = _
  by_cases h' : (i 1).val ≤ (i 0).val
  · rw [if_pos h', if_pos (show upTo false (i 0) (i 1) from h')]; rfl
  · rw [if_neg h', if_neg (show ¬upTo false (i 0) (i 1) from h')]; rfl

/-- The mask of the rows after a row. -/
theorem mask_bwd (i : S2048x2048.Idx) (t s : Fin 2048) (ht : t = i 0) (hs : s = i 1) : val_main_v21 (F := Ideal) i = if upTo true t s then 1#1 else 0#1 := by
  rw [val_main_v21_apply, val_main_call1_v4_apply, val_main_call1_v2_apply, val_main_call1_v1_apply, val_main_v20_apply, val_main_call1_v5_apply]
  have h := sgt_small (i 0).val (i 1).val (i 0).isLt (i 1).isLt
  rw [show IntOp.cmpi .sge (IntOp.addi (val_main_call1_v0 (F := Ideal) i) (val_main_call1_c (F := Ideal) (idx_main_call1_v1 i))) (val_main_call1_v3 (F := Ideal) i) = _ from h]
  subst ht hs
  show Scalar.select _ 0#1 1#1 = _
  by_cases h' : (i 0).val ≤ (i 1).val
  · rw [if_pos h', if_pos (show upTo true (i 0) (i 1) from h')]; rfl
  · rw [if_neg h', if_neg (show ¬upTo true (i 0) (i 1) from h')]; rfl

section
variable (h0 : RealsP x0 p) (h1 : RealsG x1 g)
include h0 h1

theorem sums_fwd (i : S16x4x2048.Idx) : val_main_v24 (F := Ideal) x0 x1 i = (((seqAt p g (i 0) false (i 1)).B (i 2) : ℝ) : EReal) := by
  refine Eq.trans ?_ (Seq.B_masked _ _)
  rw [val_main_v24_apply]
  exact Finset.sum_congr rfl fun s _ => congr_arg₂ (· * ·) (fg_fwd h0 h1 _) (congrArg (fun c : BitVec 1 => ((c.toNat : ℝ) : EReal)) (mask_fwd _ _ _ rfl rfl))

theorem sums_bwd (i : S16x4x2048.Idx) : val_main_v50 (F := Ideal) x0 x1 i = (((seqAt p g (i 0) true (i 1)).B (i 2) : ℝ) : EReal) := by
  refine Eq.trans ?_ (Seq.B_masked _ _)
  rw [val_main_v50_apply]
  exact Finset.sum_congr rfl fun s _ => congr_arg₂ (· * ·) (fg_bwd h0 h1 _) (congrArg (fun c : BitVec 1 => ((c.toNat : ℝ) : EReal)) (mask_bwd _ _ _ rfl rfl))

theorem score_fwd (i : S16x4x2048x2048.Idx) : val_main_v37 (F := Ideal) x0 x1 i = (((seqAt p g (i 0) false (i 1)).score (i 2) (i 3) : ℝ) : EReal) := by
  refine Eq.trans ?_ (Seq.score_masked _ _ _)
  rw [val_main_v37_apply, val_main_v36_apply, val_main_v34_apply, val_main_v33_apply, val_main_v29_apply, val_main_v27_apply, val_main_v25_apply,
    val_main_v28_apply, val_main_v26_apply, val_main_v32_apply, val_main_v31_apply, val_main_v30_apply, val_main_call3_v1_apply, val_main_call3_v2_apply, mask_fwd _ (i 2) (i 3) rfl rfl,
    sums_fwd h0 h1, sums_fwd h0 h1, in_fwd h0 h1, prod_fwd (g := g) h0,
    show val_main_call3_v0 (F := Ideal) (idx_main_call3_v2 i) = ⊥ from ofBits_bot]
  rfl

theorem score_bwd (i : S16x4x2048x2048.Idx) : val_main_v63 (F := Ideal) x0 x1 i = (((seqAt p g (i 0) true (i 1)).score (i 2) (i 3) : ℝ) : EReal) := by
  refine Eq.trans ?_ (Seq.score_masked _ _ _)
  rw [val_main_v63_apply, val_main_v62_apply, val_main_v60_apply, val_main_v59_apply, val_main_v55_apply, val_main_v53_apply, val_main_v51_apply,
    val_main_v54_apply, val_main_v52_apply, val_main_v58_apply, val_main_v57_apply, val_main_v56_apply, val_main_call5_v1_apply, val_main_call5_v2_apply, mask_bwd _ (i 2) (i 3) rfl rfl,
    sums_bwd h0 h1, sums_bwd h0 h1, in_bwd h0 h1, prod_bwd (g := g) h0,
    show val_main_call5_v0 (F := Ideal) (idx_main_call5_v2 i) = ⊥ from ofBits_bot]
  rfl

theorem ref_fwd (i : S16x2048x4x256.Idx) : val_main_v47 (F := Ideal) x0 x1 i = (((seqAt p g (i 0) false (i 2)).out (i 1) (i 3) : ℝ) : EReal) := by
  refine Eq.trans ?_ (Seq.out_div _ _ _)
  rw [val_main_v47_apply, val_main_v39_apply, val_main_v38_apply, val_main_v46_apply, val_main_v45_apply, val_main_v44_apply, val_main_v42_apply, val_main_v41_apply,
    val_main_v40_apply, val_main_v43_apply]
  refine congr_arg₂ Ideal.div ?_ (congr_arg₂ max (congrArg (fun x : EReal => max x (-x)) ?_) Ideal.ofBits_one_f32)
  · refine Eq.trans ?_ (Seq.N_scores _ _ _)
    exact Finset.sum_congr rfl fun s _ => congr_arg₂ (· * ·) (value_apply (g := g) h0 _) (score_fwd h0 h1 _)
  · refine Eq.trans ?_ (Seq.N_total _ _)
    exact congr_arg₂ (· + ·) Ideal.ofBits_zero_f32 (Finset.sum_congr rfl fun s _ => score_fwd h0 h1 _)

theorem ref_bwd (i : S16x2048x4x256.Idx) : val_main_v73 (F := Ideal) x0 x1 i = (((seqAt p g (i 0) true (i 2)).out (i 1) (i 3) : ℝ) : EReal) := by
  refine Eq.trans ?_ (Seq.out_div _ _ _)
  rw [val_main_v73_apply, val_main_v65_apply, val_main_v64_apply, val_main_v72_apply, val_main_v71_apply, val_main_v70_apply, val_main_v68_apply, val_main_v67_apply,
    val_main_v66_apply, val_main_v69_apply]
  refine congr_arg₂ Ideal.div ?_ (congr_arg₂ max (congrArg (fun x : EReal => max x (-x)) ?_) Ideal.ofBits_one_f32)
  · refine Eq.trans ?_ (Seq.N_scores _ _ _)
    exact Finset.sum_congr rfl fun s _ => congr_arg₂ (· * ·) (value_apply (g := g) h0 _) (score_bwd h0 h1 _)
  · refine Eq.trans ?_ (Seq.N_total _ _)
    exact congr_arg₂ (· + ·) Ideal.ofBits_zero_f32 (Finset.sum_congr rfl fun s _ => score_bwd h0 h1 _)

/-- The result of a row and a column of a mixer's output, rows and columns of all the batch's sequences and heads together. -/
def mixed (p : Fin 16 → Fin 2048 → Fin 3600 → ℝ) (g : Fin 16 → ℝ) (back : Bool) (r : Fin 32768) (c : Fin 1024) : ℝ :=
  (seqAt p g ⟨r.val / 2048, by omega⟩ back ⟨c.val / 256, by omega⟩).out ⟨r.val % 2048, by omega⟩ ⟨c.val % 256, by omega⟩

omit h0 h1 in
theorem out_congr {b b' : Fin 16} {s s' : Fin 2048} {hd hd' : Fin 4} {e e' : Fin 256} (back : Bool) (hb : b.val = b'.val) (hs : s.val = s'.val) (hh : hd.val = hd'.val)
    (he : e.val = e'.val) : (((seqAt p g b back hd).out s e : ℝ) : EReal) = (((seqAt p g b' back hd').out s' e' : ℝ) : EReal) := by
  rw [Fin.ext hb, Fin.ext hs, Fin.ext hh, Fin.ext he]

theorem result_fwd (i : S32768x1024.Idx) : val_main_v75 (F := Ideal) x0 x1 i = ((mixed p g false (i 0) (i 1) : ℝ) : EReal) := by
  have b0 : (i 0).val < 32768 := (i 0).isLt
  have b1 : (i 1).val < 1024 := (i 1).isLt
  rw [val_main_v75_apply, val_main_v74_apply, ref_fwd h0 h1]
  refine out_congr false ?_ ?_ ?_ ?_
  · show ((i 0).val * 1024 + (i 1).val) / 2097152 = (i 0).val / 2048
    omega
  · show ((i 0).val * 1024 + (i 1).val) / 1024 % 2048 = (i 0).val % 2048
    omega
  · show ((i 0).val * 1024 + (i 1).val) / 256 % 4 = (i 1).val / 256
    omega
  · show ((i 0).val * 1024 + (i 1).val) % 256 = (i 1).val % 256
    omega

theorem result_bwd (i : S32768x1024.Idx) : val_main_v77 (F := Ideal) x0 x1 i = ((mixed p g true (i 0) (i 1) : ℝ) : EReal) := by
  have b0 : (i 0).val < 32768 := (i 0).isLt
  have b1 : (i 1).val < 1024 := (i 1).isLt
  rw [val_main_v77_apply, val_main_v76_apply, ref_bwd h0 h1]
  refine out_congr true ?_ ?_ ?_ ?_
  · show ((i 0).val * 1024 + (i 1).val) / 2097152 = (i 0).val / 2048
    omega
  · show ((i 0).val * 1024 + (i 1).val) / 1024 % 2048 = (i 0).val % 2048
    omega
  · show ((i 0).val * 1024 + (i 1).val) / 256 % 4 = (i 1).val / 256
    omega
  · show ((i 0).val * 1024 + (i 1).val) % 256 = (i 1).val % 256
    omega

end

end Cert.Mix
-- ==== Proof.HostMix.lean ====
module

public import proofs.«01_k».proof.Proof.Reads
public import proofs.«01_k».proof.Proof.RefMix
public import proofs.«01_k».proof.Proof.Gen.Kernel2Ideal.Value

/-! # The blocks of the mixer

What the arrays of the launch hold, and that a point's blocks are a part of the sequences. -/

@[expose] public section

noncomputable section

namespace Cert.Mix

open Cert.Kernel2Ideal Cert.Kernel2Ideal.Gen Cert.Kernel2Ideal.Value Cert.Proj Idealize.SL.Sem
open Idealize.ShloMosaic hiding ix0 ix1 ix2 ix3 ix4 ix5 eq_ix1 eq_ix2 eq_ix3
open Idealize.ShloMosaic.TcCoe Idealize.ShloMosaic.ValueIdx Idealize.ShloMosaic.StableHlo

variable (m : (ℓ : Loc nD τ sig) → Buf (Elt Ideal) ℓ)

/-- The bias lanes: the two tiles of four, eight and padding, at a lane. -/
theorem biasTiles {α : Type} (y : (⟨1, ![16]⟩ : Shape).Idx → α) (z : (⟨1, ![120]⟩ : Shape).Idx → α) (z0 : α) (hz : ∀ i, z i = z0)
    (h0 : (⟨1, ![16]⟩ : Shape).Slices ![0] ⟨1, ![4]⟩) (h4 : (⟨1, ![16]⟩ : Shape).Slices ![4] ⟨1, ![4]⟩)
    (h8 : (⟨1, ![16]⟩ : Shape).Slices ![8] ⟨1, ![4]⟩) (h12 : (⟨1, ![16]⟩ : Shape).Slices ![12] ⟨1, ![4]⟩)
    (hC : Shape.Concatenates [(⟨1, ![4]⟩ : Shape), ⟨1, ![4]⟩, ⟨1, ![120]⟩, ⟨1, ![4]⟩, ⟨1, ![4]⟩, ⟨1, ![120]⟩] ⟨1, ![256]⟩ 0) (c : Fin 256) :
    concatenate ⟨1, ![256]⟩ 0 [⟨⟨1, ![4]⟩, extractStridedSlice ⟨1, ![4]⟩ ![0] y h0⟩, ⟨⟨1, ![4]⟩, extractStridedSlice ⟨1, ![4]⟩ ![8] y h8⟩,
      ⟨⟨1, ![120]⟩, z⟩, ⟨⟨1, ![4]⟩, extractStridedSlice ⟨1, ![4]⟩ ![4] y h4⟩, ⟨⟨1, ![4]⟩, extractStridedSlice ⟨1, ![4]⟩ ![12] y h12⟩,
      ⟨⟨1, ![120]⟩, z⟩] hC (ix1 c) = (gateCol c).elim z0 fun k => y (ix1 k) := by
  have side : ∀ {n : ℕ} (i : Fin n) (b : Fin 1), b ≠ (0 : Fin 1) → ((ix1 i : (⟨1, ![n]⟩ : Shape).Idx) b).val = ((ix1 c : (⟨1, ![256]⟩ : Shape).Idx) b).val :=
    fun i b hb => absurd (Subsingleton.elim b 0) hb
  have cut : ∀ (o : ℕ) (h : (⟨1, ![16]⟩ : Shape).Slices ![o] ⟨1, ![4]⟩) (d : Fin 4) (k : Fin 16), k.val = o + d.val →
      extractStridedSlice ⟨1, ![4]⟩ ![o] y h (ix1 d) = y (ix1 k) := fun o h d k hk => extractStridedSlice_apply _ y h _ _ fun a => by
    match a with
    | ⟨0, _⟩ => exact hk
  unfold gateCol
  split_ifs with a1 a2 a3 a4 a5
  · refine (concatenate_apply_piece (t := ⟨1, ![256]⟩) 0 _ _ (ix1 c) 0 (by simp) ⟨1, ![4]⟩ _ rfl rfl 0 rfl (ix1 ⟨c.val, a1⟩) (side _)
      (by show 0 + c.val = c.val; omega)).trans (cut 0 h0 _ _ (by show c.val = 0 + c.val; omega))
  · refine (concatenate_apply_piece (t := ⟨1, ![256]⟩) 0 _ _ (ix1 c) 1 (by simp) ⟨1, ![4]⟩ _ rfl rfl 4 rfl (ix1 ⟨c.val - 4, by omega⟩) (side _)
      (by show 4 + (c.val - 4) = c.val; omega)).trans (cut 8 h8 _ _ (by show c.val + 4 = 8 + (c.val - 4); omega))
  · refine (concatenate_apply_piece (t := ⟨1, ![256]⟩) 0 _ _ (ix1 c) 2 (by simp) ⟨1, ![120]⟩ _ rfl rfl 8 rfl (ix1 ⟨c.val - 8, by omega⟩) (side _)
      (by show 8 + (c.val - 8) = c.val; omega)).trans (hz _)
  · refine (concatenate_apply_piece (t := ⟨1, ![256]⟩) 0 _ _ (ix1 c) 3 (by simp) ⟨1, ![4]⟩ _ rfl rfl 128 rfl (ix1 ⟨c.val - 128, by omega⟩) (side _)
      (by show 128 + (c.val - 128) = c.val; omega)).trans (cut 4 h4 _ _ (by show c.val - 124 = 4 + (c.val - 128); omega))
  · refine (concatenate_apply_piece (t := ⟨1, ![256]⟩) 0 _ _ (ix1 c) 4 (by simp) ⟨1, ![4]⟩ _ rfl rfl 132 rfl (ix1 ⟨c.val - 132, by omega⟩) (side _)
      (by show 132 + (c.val - 132) = c.val; omega)).trans (cut 12 h12 _ _ (by show c.val - 120 = 12 + (c.val - 132); omega))
  · refine (concatenate_apply_piece (t := ⟨1, ![256]⟩) 0 _ _ (ix1 c) 5 (by simp) ⟨1, ![120]⟩ _ rfl rfl 136 rfl (ix1 ⟨c.val - 136, by omega⟩) (side _)
      (by show 136 + (c.val - 136) = c.val; omega)).trans (hz _)

/-! ## The arrays the launch finds -/

/-- The projections as one matrix. -/
abbrev flat (c : Dev nD) : FVec Ideal S32768x3600 .f32 := shapeCast S32768x3600 (m ((c : Thread nD τ).loc main_arg0)) shapeCasts_S16x2048x3600_S32768x3600

theorem flat_apply (c : Dev nD) (R : Fin 32768) (k : Fin 3600) :
    flat m c (ix2 R k) = m ((c : Thread nD τ).loc main_arg0) (ix3 (⟨R.val / 2048, by omega⟩ : Fin 16) (⟨R.val % 2048, Nat.mod_lt _ (by omega)⟩ : Fin 2048) k) := by
  refine shapeCast_apply (s := S16x2048x3600) (t := S32768x3600) _ _ _ _ ?_
  rw [Shape.rowMajor_val_three, Shape.rowMajor_val_two]
  show (R.val / 2048 * 2048 + R.val % 2048) * 3600 + k.val = R.val * 3600 + k.val
  omega

theorem main_eq (c : Dev nD) (R : Fin 32768) (f : Fin 3584) (k : Fin 3600) (hf : f.val < 3072) (hk : k.val = f.val) : V m c main_v4 (ix2 R f) = flat m c (ix2 R k) := by
  have e : V m c main_v4 = truncf .bf16 (concatenate S32768x3584 1 [⟨S32768x3072, extractStridedSlice S32768x3072 ![0, 0] (flat m c) slices_S32768x3600_S32768x3072_0_0⟩,
      ⟨S32768x512, extractStridedSlice S32768x512 ![0, 3088] (flat m c) slices_S32768x3600_S32768x512_0_3088⟩] concatenates_S32768x3072_S32768x512_S32768x3584_d1) bitsLt_bf16_f32 := by
    simp only [V, hostOps0]; after_results_simp <;> rfl
  rw [e]
  exact joinSlices (M := 32768) (K := 3600) (A := 3072) (B := 512) (C := 3584) 3088 (flat m c) slices_S32768x3600_S32768x3072_0_0 slices_S32768x3600_S32768x512_0_3088 rfl
    concatenates_S32768x3072_S32768x512_S32768x3584_d1 R f k (by rw [if_pos hf, hk])

theorem gates_eq (c : Dev nD) (R : Fin 32768) (f : Fin 256) :
    V m c main_v11 (ix2 R f) = (gateCol f).elim (0 : EReal) fun k => flat m c (ix2 R (⟨3072 + k.val, by omega⟩ : Fin 3600)) := by
  have e : ∃ y : FVec Ideal S32768x16 .f32, y = extractStridedSlice S32768x16 ![0, 3072] (flat m c) slices_S32768x3600_S32768x16_0_3072 ∧
      V m c main_v11 = concatenate S32768x256 1 [⟨S32768x4, extractStridedSlice S32768x4 ![0, 0] y slices_S32768x16_S32768x4_0_0⟩,
        ⟨S32768x4, extractStridedSlice S32768x4 ![0, 8] y slices_S32768x16_S32768x4_0_8⟩,
        ⟨S32768x120, broadcastInDim S32768x120 ![] bcast_S_S32768x120 (constant (F := Ideal) S_ .f32 0x00000000#32)⟩,
        ⟨S32768x4, extractStridedSlice S32768x4 ![0, 4] y slices_S32768x16_S32768x4_0_4⟩,
        ⟨S32768x4, extractStridedSlice S32768x4 ![0, 12] y slices_S32768x16_S32768x4_0_12⟩,
        ⟨S32768x120, broadcastInDim S32768x120 ![] bcast_S_S32768x120 (constant (F := Ideal) S_ .f32 0x00000000#32)⟩]
        concatenates_S32768x4_S32768x4_S32768x120_S32768x4_S32768x4_S32768x120_S32768x256_d1 := by
    refine ⟨_, rfl, ?_⟩
    simp only [V, hostOps0]; after_results_simp <;> rfl
  obtain ⟨y, hy, e⟩ := e
  rw [e]
  refine (twoTiles (M := 32768) y (broadcastInDim S32768x120 ![] bcast_S_S32768x120 (constant (F := Ideal) S_ .f32 0x00000000#32)) (0 : EReal)
    (fun i => Ideal.ofBits_zero_f32) slices_S32768x16_S32768x4_0_0 slices_S32768x16_S32768x4_0_4 slices_S32768x16_S32768x4_0_8 slices_S32768x16_S32768x4_0_12
    concatenates_S32768x4_S32768x4_S32768x120_S32768x4_S32768x4_S32768x120_S32768x256_d1 R f).trans ?_
  rw [hy]
  refine congrArg (fun h => (gateCol f).elim (0 : EReal) h) (funext fun k => ?_)
  exact Cert.Proj.sliceCols (M := 32768) (K := 3600) (A := 16) 3072 (flat m c) slices_S32768x3600_S32768x16_0_3072 R k _ rfl

theorem bias_eq (c : Dev nD) (f : Fin 256) : V m c main_v18 (ix2 (0 : Fin 1) f) = (gateCol f).elim (0 : EReal) fun k => m ((c : Thread nD τ).loc main_arg1) (ix1 k) := by
  have e : V m c main_v18 = shapeCast S1x256 (concatenate S256 0 [⟨S4, extractStridedSlice S4 ![0] (m ((c : Thread nD τ).loc main_arg1)) slices_S16_S4_0⟩,
        ⟨S4, extractStridedSlice S4 ![8] (m ((c : Thread nD τ).loc main_arg1)) slices_S16_S4_8⟩,
        ⟨S120, broadcastInDim S120 ![] bcast_S_S120 (constant (F := Ideal) S_ .f32 0x00000000#32)⟩,
        ⟨S4, extractStridedSlice S4 ![4] (m ((c : Thread nD τ).loc main_arg1)) slices_S16_S4_4⟩,
        ⟨S4, extractStridedSlice S4 ![12] (m ((c : Thread nD τ).loc main_arg1)) slices_S16_S4_12⟩,
        ⟨S120, broadcastInDim S120 ![] bcast_S_S120 (constant (F := Ideal) S_ .f32 0x00000000#32)⟩]
        concatenates_S4_S4_S120_S4_S4_S120_S256_d0) shapeCasts_S256_S1x256 := by
    simp only [V, hostOps0]; after_results_simp <;> rfl
  rw [e]
  refine (shapeCast_apply (s := S256) (t := S1x256) _ _ _ (ix1 f) ?_).trans (biasTiles _ _ (0 : EReal) (fun i => Ideal.ofBits_zero_f32) _ _ _ _ _ f)
  rw [Shape.rowMajor_val_two, Shape.rowMajor_val_one]
  show f.val = 0 * 256 + f.val
  omega

/-! ## Where the windows' blocks lie -/

theorem index0 : ∀ t : Fin cfg0.N, win0_0.index t = ![t.val, 0] := (by decide +kernel : ∀ t : Fin grid0.N, win0_0.index t = ![t.val, 0])
theorem index1 : ∀ t : Fin cfg0.N, win0_1.index t = ![t.val, 1] := (by decide +kernel : ∀ t : Fin grid0.N, win0_1.index t = ![t.val, 1])
theorem index2 : ∀ t : Fin cfg0.N, win0_2.index t = ![t.val, 1] := (by decide +kernel : ∀ t : Fin grid0.N, win0_2.index t = ![t.val, 1])
theorem index3 : ∀ t : Fin cfg0.N, win0_3.index t = ![t.val, 0] := (by decide +kernel : ∀ t : Fin grid0.N, win0_3.index t = ![t.val, 0])
theorem index4 : ∀ t : Fin cfg0.N, win0_4.index t = ![4 * (t.val / 4) + (3 - t.val % 4), 0] := (by decide +kernel : ∀ t : Fin grid0.N, win0_4.index t = ![4 * (t.val / 4) + (3 - t.val % 4), 0])
theorem index5 : ∀ t : Fin cfg0.N, win0_5.index t = ![4 * (t.val / 4) + (3 - t.val % 4), 1] := (by decide +kernel : ∀ t : Fin grid0.N, win0_5.index t = ![4 * (t.val / 4) + (3 - t.val % 4), 1])
theorem index6 : ∀ t : Fin cfg0.N, win0_6.index t = ![4 * (t.val / 4) + (3 - t.val % 4), 1] := (by decide +kernel : ∀ t : Fin grid0.N, win0_6.index t = ![4 * (t.val / 4) + (3 - t.val % 4), 1])
theorem index7 : ∀ t : Fin cfg0.N, win0_7.index t = ![4 * (t.val / 4) + (3 - t.val % 4), 0] := (by decide +kernel : ∀ t : Fin grid0.N, win0_7.index t = ![4 * (t.val / 4) + (3 - t.val % 4), 0])
theorem index8 : ∀ t : Fin cfg0.N, win0_8.index t = ![0, 0] := (by decide +kernel : ∀ t : Fin grid0.N, win0_8.index t = ![0, 0])
theorem index9 : ∀ t : Fin cfg0.N, win0_9.index t = ![t.val, 0] := (by decide +kernel : ∀ t : Fin grid0.N, win0_9.index t = ![t.val, 0])
theorem index10 : ∀ t : Fin cfg0.N, win0_10.index t = ![4 * (t.val / 4) + (3 - t.val % 4), 0] := (by decide +kernel : ∀ t : Fin grid0.N, win0_10.index t = ![4 * (t.val / 4) + (3 - t.val % 4), 0])

theorem N_lt (t : Fin cfg0.N) : t.val < 64 := lt_of_lt_of_eq t.isLt N_0

/-- The batch entry a point works on, and its place in the sequence. -/
def entry (t : Fin cfg0.N) : Fin 16 := ⟨t.val / 4, by have := N_lt t; omega⟩
def turn (t : Fin cfg0.N) : Fin 4 := ⟨t.val % 4, Nat.mod_lt _ (by omega)⟩

/-- The row of the matrix that a row of a point's block is. -/
def rowAt (back : Bool) (t : Fin cfg0.N) (r : Fin 512) : Fin 32768 := ⟨2048 * (entry t).val + (rowOf back (turn t) r).val, by have := (entry t).isLt; have := (rowOf back (turn t) r).isLt; omega⟩

theorem rowAt_false (t : Fin cfg0.N) (r : Fin 512) : (rowAt false t r).val = t.val * 512 + r.val := by
  show 2048 * (t.val / 4) + (512 * (t.val % 4) + r.val) = _; omega
theorem rowAt_true (t : Fin cfg0.N) (r : Fin 512) : (rowAt true t r).val = (4 * (t.val / 4) + (3 - t.val % 4)) * 512 + r.val := by
  show 2048 * (t.val / 4) + (512 * (3 - t.val % 4) + r.val) = _; omega

theorem rowAt_div (back : Bool) (t : Fin cfg0.N) (r : Fin 512) : (rowAt back t r).val / 2048 = (entry t).val := by
  have := (rowOf back (turn t) r).isLt
  show (2048 * (entry t).val + (rowOf back (turn t) r).val) / 2048 = _; omega
theorem rowAt_mod (back : Bool) (t : Fin cfg0.N) (r : Fin 512) : (rowAt back t r).val % 2048 = (rowOf back (turn t) r).val := by
  have := (rowOf back (turn t) r).isLt
  show (2048 * (entry t).val + (rowOf back (turn t) r).val) % 2048 = _; omega

/-! ## The input blocks -/

theorem iblk0 (c : Dev nD) (t : Fin cfg0.N) (r : Fin 512) (d : Fin 512) (f : Fin 3584) (hf : f.val = 0 + d.val) : iblk m c 0 t (ix2 r d) = V m c main_v4 (ix2 (rowAt false t r) f) :=
  congrArg (V m c main_v4) (by
    have e := index0 t
    funext a; apply Fin.ext
    match a with
    | ⟨0, _⟩ =>
      show win0_0.index t 0 * 512 + 1 * r.val = (rowAt false t r).val
      rw [e, rowAt_false, one_mul]
      rfl
    | ⟨1, _⟩ =>
      show win0_0.index t 1 * 512 + 1 * d.val = f.val
      rw [e, hf]
      show 0 * 512 + 1 * d.val = 0 + d.val
      omega)
theorem iblk1 (c : Dev nD) (t : Fin cfg0.N) (r : Fin 512) (d : Fin 512) (f : Fin 3584) (hf : f.val = 512 + d.val) : iblk m c 1 t (ix2 r d) = V m c main_v4 (ix2 (rowAt false t r) f) :=
  congrArg (V m c main_v4) (by
    have e := index1 t
    funext a; apply Fin.ext
    match a with
    | ⟨0, _⟩ =>
      show win0_1.index t 0 * 512 + 1 * r.val = (rowAt false t r).val
      rw [e, rowAt_false, one_mul]
      rfl
    | ⟨1, _⟩ =>
      show win0_1.index t 1 * 512 + 1 * d.val = f.val
      rw [e, hf]
      show 1 * 512 + 1 * d.val = 512 + d.val
      omega)
theorem iblk2 (c : Dev nD) (t : Fin cfg0.N) (r : Fin 512) (d : Fin 1024) (f : Fin 3584) (hf : f.val = 1024 + d.val) : X0_2 m c t (ix2 r d) = V m c main_v4 (ix2 (rowAt false t r) f) := by
  unfold X0_2 Pipeline.Window.fill
  rw [dif_pos (moved0_2 t _)]
  exact congrArg (V m c main_v4) (by
    have e := index2 t
    funext a; apply Fin.ext
    match a with
    | ⟨0, _⟩ =>
      show win0_2.index t 0 * 512 + 1 * r.val = (rowAt false t r).val
      rw [e, rowAt_false, one_mul]
      rfl
    | ⟨1, _⟩ =>
      show win0_2.index t 1 * 1024 + 1 * d.val = f.val
      rw [e, hf]
      show 1 * 1024 + 1 * d.val = 1024 + d.val
      omega)
theorem iblk3 (c : Dev nD) (t : Fin cfg0.N) (r : Fin 512) (d : Fin 256) (f : Fin 256) (hf : f.val = 0 + d.val) : iblk m c 3 t (ix2 r d) = V m c main_v11 (ix2 (rowAt false t r) f) :=
  congrArg (V m c main_v11) (by
    have e := index3 t
    funext a; apply Fin.ext
    match a with
    | ⟨0, _⟩ =>
      show win0_3.index t 0 * 512 + 1 * r.val = (rowAt false t r).val
      rw [e, rowAt_false, one_mul]
      rfl
    | ⟨1, _⟩ =>
      show win0_3.index t 1 * 256 + 1 * d.val = f.val
      rw [e, hf]
      show 0 * 256 + 1 * d.val = 0 + d.val
      omega)
theorem iblk4 (c : Dev nD) (t : Fin cfg0.N) (r : Fin 512) (d : Fin 512) (f : Fin 3584) (hf : f.val = 0 + d.val) : iblk m c 4 t (ix2 r d) = V m c main_v4 (ix2 (rowAt true t r) f) :=
  congrArg (V m c main_v4) (by
    have e := index4 t
    funext a; apply Fin.ext
    match a with
    | ⟨0, _⟩ =>
      show win0_4.index t 0 * 512 + 1 * r.val = (rowAt true t r).val
      rw [e, rowAt_true, one_mul]
      rfl
    | ⟨1, _⟩ =>
      show win0_4.index t 1 * 512 + 1 * d.val = f.val
      rw [e, hf]
      show 0 * 512 + 1 * d.val = 0 + d.val
      omega)
theorem iblk5 (c : Dev nD) (t : Fin cfg0.N) (r : Fin 512) (d : Fin 512) (f : Fin 3584) (hf : f.val = 512 + d.val) : iblk m c 5 t (ix2 r d) = V m c main_v4 (ix2 (rowAt true t r) f) :=
  congrArg (V m c main_v4) (by
    have e := index5 t
    funext a; apply Fin.ext
    match a with
    | ⟨0, _⟩ =>
      show win0_5.index t 0 * 512 + 1 * r.val = (rowAt true t r).val
      rw [e, rowAt_true, one_mul]
      rfl
    | ⟨1, _⟩ =>
      show win0_5.index t 1 * 512 + 1 * d.val = f.val
      rw [e, hf]
      show 1 * 512 + 1 * d.val = 512 + d.val
      omega)
theorem iblk6 (c : Dev nD) (t : Fin cfg0.N) (r : Fin 512) (d : Fin 1024) (f : Fin 3584) (hf : f.val = 1024 + d.val) : X0_6 m c t (ix2 r d) = V m c main_v4 (ix2 (rowAt true t r) f) := by
  unfold X0_6 Pipeline.Window.fill
  rw [dif_pos (moved0_6 t _)]
  exact congrArg (V m c main_v4) (by
    have e := index6 t
    funext a; apply Fin.ext
    match a with
    | ⟨0, _⟩ =>
      show win0_6.index t 0 * 512 + 1 * r.val = (rowAt true t r).val
      rw [e, rowAt_true, one_mul]
      rfl
    | ⟨1, _⟩ =>
      show win0_6.index t 1 * 1024 + 1 * d.val = f.val
      rw [e, hf]
      show 1 * 1024 + 1 * d.val = 1024 + d.val
      omega)
theorem iblk7 (c : Dev nD) (t : Fin cfg0.N) (r : Fin 512) (d : Fin 256) (f : Fin 256) (hf : f.val = 0 + d.val) : iblk m c 7 t (ix2 r d) = V m c main_v11 (ix2 (rowAt true t r) f) :=
  congrArg (V m c main_v11) (by
    have e := index7 t
    funext a; apply Fin.ext
    match a with
    | ⟨0, _⟩ =>
      show win0_7.index t 0 * 512 + 1 * r.val = (rowAt true t r).val
      rw [e, rowAt_true, one_mul]
      rfl
    | ⟨1, _⟩ =>
      show win0_7.index t 1 * 256 + 1 * d.val = f.val
      rw [e, hf]
      show 0 * 256 + 1 * d.val = 0 + d.val
      omega)
theorem iblk8 (c : Dev nD) (t : Fin cfg0.N) (d : Fin 256) : iblk m c 8 t (ix2 (0 : Fin 1) d) = V m c main_v18 (ix2 (0 : Fin 1) d) :=
  congrArg (V m c main_v18) (by
    have e := index8 t
    funext a; apply Fin.ext
    match a with
    | ⟨0, _⟩ => show win0_8.index t 0 * 1 + 1 * 0 = 0; rw [e]; rfl
    | ⟨1, _⟩ => show win0_8.index t 1 * 256 + 1 * d.val = d.val; rw [e]; show 0 * 256 + _ = _; omega)

section
variable {p : Fin 16 → Fin 2048 → Fin 3600 → ℝ} {g : Fin 16 → ℝ} {c : Dev nD}
  (h0 : RealsP (m ((c : Thread nD τ).loc main_arg0)) p) (h1 : RealsG (m ((c : Thread nD τ).loc main_arg1)) g)
include h0

theorem flat_real (back : Bool) (t : Fin cfg0.N) (r : Fin 512) (k : Fin 3600) :
    flat m c (ix2 (rowAt back t r) k) = ((p (entry t) (rowOf back (turn t) r) k : ℝ) : EReal) := by
  refine (flat_apply m c _ k).trans ((h0 _).trans ?_)
  have e1 : (⟨(rowAt back t r).val / 2048, by omega⟩ : Fin 16) = entry t := Fin.ext (rowAt_div back t r)
  have e2 : (⟨(rowAt back t r).val % 2048, Nat.mod_lt _ (by omega)⟩ : Fin 2048) = rowOf back (turn t) r := Fin.ext (rowAt_mod back t r)
  show ((p ⟨(rowAt back t r).val / 2048, _⟩ ⟨(rowAt back t r).val % 2048, _⟩ k : ℝ) : EReal) = _
  rw [e1, e2]

include h1

/-- A point's blocks are a part of the sequences. -/
theorem fits (t : Fin cfg0.N) : Fits p g (entry t) (turn t) (iblk m c 0 t) (iblk m c 1 t) (X0_2 m c t) (iblk m c 3 t) (iblk m c 4 t) (iblk m c 5 t) (X0_6 m c t)
    (iblk m c 7 t) (iblk m c 8 t) where
  q0 r d := (iblk0 m c t r d ⟨d.val, by omega⟩ (Nat.zero_add _).symm).trans ((main_eq m c _ _ ⟨d.val, by omega⟩ (by show d.val < 3072; omega) rfl).trans (flat_real m h0 false t r _))
  k0 r d := (iblk1 m c t r d ⟨512 + d.val, by omega⟩ rfl).trans ((main_eq m c _ _ ⟨512 + d.val, by omega⟩ (by show 512 + d.val < 3072; omega) rfl).trans (flat_real m h0 false t r _))
  v0 r d := (iblk2 m c t r d ⟨1024 + d.val, by omega⟩ rfl).trans ((main_eq m c _ _ ⟨1024 + d.val, by omega⟩ (by show 1024 + d.val < 3072; omega) rfl).trans (flat_real m h0 false t r _))
  g0 r l := by
    refine (iblk3 m c t r l l (Nat.zero_add _).symm).trans ((gates_eq m c _ l).trans ?_)
    congr 1
    funext k
    exact flat_real m h0 false t r _
  q1 r d := (iblk4 m c t r d ⟨d.val, by omega⟩ (Nat.zero_add _).symm).trans ((main_eq m c _ _ ⟨d.val, by omega⟩ (by show d.val < 3072; omega) rfl).trans (flat_real m h0 true t r _))
  k1 r d := (iblk5 m c t r d ⟨512 + d.val, by omega⟩ rfl).trans ((main_eq m c _ _ ⟨512 + d.val, by omega⟩ (by show 512 + d.val < 3072; omega) rfl).trans (flat_real m h0 true t r _))
  v1 r d := (iblk6 m c t r d ⟨1024 + d.val, by omega⟩ rfl).trans ((main_eq m c _ _ ⟨1024 + d.val, by omega⟩ (by show 1024 + d.val < 3072; omega) rfl).trans (flat_real m h0 true t r _))
  g1 r l := by
    refine (iblk7 m c t r l l (Nat.zero_add _).symm).trans ((gates_eq m c _ l).trans ?_)
    congr 1
    funext k
    exact flat_real m h0 true t r _
  bias l := by
    refine (iblk8 m c t l).trans ((bias_eq m c l).trans ?_)
    congr 1
    funext k
    exact h1 _

end

end Cert.Mix
-- ==== Proof.Mixer.lean ====
module

public import proofs.«01_k».proof.Proof.HostMix

/-! # The mixer's arrays

Every point leaves the chains' states and stores their results; the blocks tile the two arrays. -/

@[expose] public section

noncomputable section

namespace Cert.Mix

open Cert.Kernel2Ideal Cert.Kernel2Ideal.Gen Cert.Kernel2Ideal.Value Cert.Proj Idealize.SL.Sem
open Idealize.ShloMosaic hiding ix0 ix1 ix2 ix3 ix4 ix5 eq_ix1 eq_ix2 eq_ix3
open Idealize.ShloMosaic.TcCoe Idealize.ShloMosaic.ValueIdx

/-- `Leaves`, of a point's two results and two kept arrays together. -/
def LeavesAll (p : Fin 16 → Fin 2048 → Fin 3600 → ℝ) (g : Fin 16 → ℝ) (b : Fin 16) (j : Fin 4)
    (o : Vec Ideal S512x1024 .bf16 × Vec Ideal S512x1024 .bf16 × Vec Ideal S8x128x384 .f32 × Vec Ideal S8x1x128 .f32) : Prop :=
  Leaves p g b j o.1 o.2.1 o.2.2.1 o.2.2.2

theorem Leaves.cast {p : Fin 16 → Fin 2048 → Fin 3600 → ℝ} {g : Fin 16 → ℝ} {b : Fin 16} {j : Fin 4} {H0 H0' H1 H1' : FVec Ideal S512x1024 .bf16}
    {C C' : FVec Ideal S8x128x384 .f32} {M M' : FVec Ideal S8x1x128 .f32} (h : Leaves p g b j H0 H1 C M) (e0 : H0' = H0) (e1 : H1' = H1) (e2 : C' = C) (e3 : M' = M) :
    Leaves p g b j H0' H1' C' M' := by
  subst e0 e1 e2 e3; exact h

section
variable (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512x1024 .bf16) (harg4 : arg4.IsWhole) (arg5 : Memref sig .tc .vmem S512x256 .f32) (harg5 : arg5.IsWhole) (arg6 : Memref sig .tc .vmem S512x512 .bf16) (harg6 : arg6.IsWhole) (arg7 : Memref sig .tc .vmem S512x512 .bf16) (harg7 : arg7.IsWhole) (arg8 : Memref sig .tc .vmem S512x1024 .bf16) (harg8 : arg8.IsWhole) (arg9 : Memref sig .tc .vmem S512x256 .f32) (harg9 : arg9.IsWhole) (arg10 : Memref sig .tc .vmem S1x256 .f32) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S8x128x384 .f32) (harg13 : arg13.IsWhole) (arg14 : Memref sig .tc .vmem S8x1x128 .f32) (harg14 : arg14.IsWhole)
    (x0 : Vec Ideal S512x512 .bf16) (x1 : Vec Ideal S512x512 .bf16) (x2 : Vec Ideal S512x1024 .bf16) (x3 : Vec Ideal S512x256 .f32) (x4 : Vec Ideal S512x512 .bf16) (x5 : Vec Ideal S512x512 .bf16) (x6 : Vec Ideal S512x1024 .bf16) (x7 : Vec Ideal S512x256 .f32) (x8 : Vec Ideal S1x256 .f32) (xs0 : Vec Ideal S8x128x384 .f32) (xs1 : Vec Ideal S8x1x128 .f32)
variable {p : Fin 16 → Fin 2048 → Fin 3600 → ℝ} {g : Fin 16 → ℝ} {b : Fin 16} {j : Fin 4}

/-! What the case's terms are: the pieces its run found. -/

theorem out0_A_9_eq (hc : cond0_0 i) : out0_A_9 (F := Ideal) c i arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 x8 =
    View.canon (kernelRun0_A (F := Ideal) c i arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 x8).1 := by
  unfold out0_A_9
  generalize (kernelRun0_A (F := Ideal) c i arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 x8).1 = L
  exact View.read_writes_junk_eq_canon VO0_9 L
theorem out0_A_10_eq (hc : cond0_0 i) : out0_A_10 (F := Ideal) c i arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 x8 =
    View.canon (kernelRun0_A (F := Ideal) c i arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 x8).2.1 := by
  unfold out0_A_10
  generalize (kernelRun0_A (F := Ideal) c i arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 x8).2.1 = L
  exact View.read_writes_junk_eq_canon VO0_10 L
theorem sout0_A_0_eq (hc : cond0_0 i) : sout0_A_0 (F := Ideal) c i arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 x8 =
    View.canon (kernelRun0_A (F := Ideal) c i arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 x8).2.2.1 := by
  unfold sout0_A_0
  generalize (kernelRun0_A (F := Ideal) c i arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 x8).2.2.1 = L
  exact View.read_writes_junk_eq_canon VS0_0 L
theorem sout0_A_1_eq (hc : cond0_0 i) : sout0_A_1 (F := Ideal) c i arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 x8 =
    View.canon (kernelRun0_A (F := Ideal) c i arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 x8).2.2.2.1 := by
  unfold sout0_A_1
  generalize (kernelRun0_A (F := Ideal) c i arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 x8).2.2.2.1 = L
  exact View.read_writes_junk_eq_canon VS0_1 L
theorem out0_B_9_eq (hc : ¬cond0_0 i) : out0_B_9 (F := Ideal) c i arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 x8 xs0 xs1 =
    View.canon (kernelRun0_B (F := Ideal) c i arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 x8 xs0 xs1).1 := by
  unfold out0_B_9
  generalize (kernelRun0_B (F := Ideal) c i arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 x8 xs0 xs1).1 = L
  exact View.read_writes_junk_eq_canon VO0_9 L
theorem out0_B_10_eq (hc : ¬cond0_0 i) : out0_B_10 (F := Ideal) c i arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 x8 xs0 xs1 =
    View.canon (kernelRun0_B (F := Ideal) c i arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 x8 xs0 xs1).2.1 := by
  unfold out0_B_10
  generalize (kernelRun0_B (F := Ideal) c i arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 x8 xs0 xs1).2.1 = L
  exact View.read_writes_junk_eq_canon VO0_10 L
theorem sout0_B_0_eq (hc : ¬cond0_0 i) : sout0_B_0 (F := Ideal) c i arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 x8 xs0 xs1 =
    View.canon (kernelRun0_B (F := Ideal) c i arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 x8 xs0 xs1).2.2.1 := by
  unfold sout0_B_0
  generalize (kernelRun0_B (F := Ideal) c i arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 x8 xs0 xs1).2.2.1 = L
  exact View.read_writes_junk_eq_canon VS0_0 L
theorem sout0_B_1_eq (hc : ¬cond0_0 i) : sout0_B_1 (F := Ideal) c i arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 x8 xs0 xs1 =
    View.canon (kernelRun0_B (F := Ideal) c i arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 x8 xs0 xs1).2.2.2.1 := by
  unfold sout0_B_1
  generalize (kernelRun0_B (F := Ideal) c i arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 x8 xs0 xs1).2.2.2.1 = L
  exact View.read_writes_junk_eq_canon VS0_1 L

attribute [local irreducible] kernelRun0_A kernelRun0_B

/-- A point starting a sequence. -/
theorem all_A (hF : Fits p g b j x0 x1 x2 x3 x4 x5 x6 x7 x8) (hj : j.val = 0) (hc : cond0_0 i) :
    LeavesAll p g b j
      (out0_A_9 (F := Ideal) c i arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 x8,
        out0_A_10 (F := Ideal) c i arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 x8,
        sout0_A_0 (F := Ideal) c i arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 x8,
        sout0_A_1 (F := Ideal) c i arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 x8) := by
  unfold LeavesAll
  dsimp only
  rw [out0_A_9_eq, out0_A_10_eq, sout0_A_0_eq, sout0_A_1_eq]
  exact leaves_A c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 hF hj hc

/-- A point continuing one. -/
theorem all_B (hF : Fits p g b j x0 x1 x2 x3 x4 x5 x6 x7 x8) (hk : ∀ ch, keptAt (seqs p g b ch) (4 * j.val) ch xs1 xs0) (hc : ¬cond0_0 i) :
    LeavesAll p g b j
      (out0_B_9 (F := Ideal) c i arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 x8 xs0 xs1,
        out0_B_10 (F := Ideal) c i arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 x8 xs0 xs1,
        sout0_B_0 (F := Ideal) c i arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 x8 xs0 xs1,
        sout0_B_1 (F := Ideal) c i arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 x8 xs0 xs1) := by
  unfold LeavesAll
  dsimp only
  rw [out0_B_9_eq, out0_B_10_eq, sout0_B_0_eq, sout0_B_1_eq]
  exact leaves_B c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 xs0 xs1 hF hk hc

end

/-! ## A block of the results at a row and a column -/

theorem col_val : ∀ (hd : Fin 4) (s : Bool), (col hd s).val = 2 * hd.val + s.toNat := by decide
theorem quarter_twice : ∀ (back : Bool) (k : Fin 4), quarter back (quarter back k) = k := by decide

theorem embH (i : Fin 4) (n : Fin 8) (r x : Fin 128) :
    (rectH i n).emb (ix2 r x) = ix2 (⟨128 * i.val + r.val, by omega⟩ : Fin 512) (⟨128 * n.val + x.val, by omega⟩ : Fin 1024) := by
  funext a; apply Fin.ext
  match a with
  | ⟨0, _⟩ => show 128 * i.val + 1 * r.val = 128 * i.val + r.val; omega
  | ⟨1, _⟩ => show 128 * n.val + 1 * x.val = 128 * n.val + x.val; omega

/-- A block whose pieces are the chains' results is, at a row and a column. -/
theorem block_at (p : Fin 16 → Fin 2048 → Fin 3600 → ℝ) (g : Fin 16 → ℝ) (b : Fin 16) (j : Fin 4) (back : Bool) (H : FVec Ideal S512x1024 .bf16)
    (h : ∀ (k hd : Fin 4) (s : Bool) (r x : Fin 128), H ((rectH (quarter back k) (col hd s)).emb (ix2 r x)) =
      (((seqAt p g b back hd).out (pos back (chunk j k) r) ⟨128 * s.toNat + x.val, by cases s <;> simp <;> omega⟩ : ℝ) : EReal))
    (R : Fin 512) (f : Fin 1024) :
    H (ix2 R f) = (((seqAt p g b back ⟨f.val / 256, by omega⟩).out (rowOf back j R) ⟨f.val % 256, Nat.mod_lt _ (by omega)⟩ : ℝ) : EReal) := by
  have hs : (decide (128 ≤ f.val % 256)).toNat = f.val % 256 / 128 := by
    by_cases h' : 128 ≤ f.val % 256
    · rw [decide_eq_true h']; show 1 = _; omega
    · rw [decide_eq_false h']; show 0 = _; omega
  have e := h (quarter back ⟨R.val / 128, by omega⟩) ⟨f.val / 256, by omega⟩ (decide (128 ≤ f.val % 256)) ⟨R.val % 128, Nat.mod_lt _ (by omega)⟩
    ⟨f.val % 128, Nat.mod_lt _ (by omega)⟩
  have e1 : R.val = 128 * (quarter back (quarter back (⟨R.val / 128, by omega⟩ : Fin 4))).val + (⟨R.val % 128, Nat.mod_lt _ (by omega)⟩ : Fin 128).val := by
    rw [quarter_twice]; show R.val = 128 * (R.val / 128) + R.val % 128; omega
  rw [← rowOf_quarter back j _ _ R e1, embH] at e
  have e2 : (ix2 (⟨128 * (quarter back (quarter back (⟨R.val / 128, by omega⟩ : Fin 4))).val + (⟨R.val % 128, Nat.mod_lt _ (by omega)⟩ : Fin 128).val, by omega⟩ : Fin 512)
      (⟨128 * (col ⟨f.val / 256, by omega⟩ (decide (128 ≤ f.val % 256))).val + f.val % 128, by rw [col_val, hs]; show 128 * (2 * (f.val / 256) + _) + _ < 1024; omega⟩ : Fin 1024) : S512x1024.Idx) = ix2 R f := by
    funext a; apply Fin.ext
    match a with
    | ⟨0, _⟩ => exact e1.symm
    | ⟨1, _⟩ =>
      show 128 * (col ⟨f.val / 256, _⟩ (decide (128 ≤ f.val % 256))).val + f.val % 128 = f.val
      rw [col_val, hs]
      show 128 * (2 * (f.val / 256) + _) + _ = _
      omega
  refine ((congrArg H e2).symm.trans e).trans ?_
  congr 3
  show 128 * (decide (128 ≤ f.val % 256)).toNat + f.val % 128 = f.val % 256
  rw [hs]; omega

section
variable (m : (ℓ : Loc nD τ sig) → Buf (Elt Ideal) ℓ)
variable {p : Fin 16 → Fin 2048 → Fin 3600 → ℝ} {g : Fin 16 → ℝ} {c : Dev nD}
  (h0 : RealsP (m ((c : Thread nD τ).loc main_arg0)) p) (h1 : RealsG (m ((c : Thread nD τ).loc main_arg1)) g)
include h0 h1

/-- Every point leaves and stores the chains. -/
theorem all_points : ∀ (n : ℕ) (hn : n < cfg0.N), LeavesAll p g (entry ⟨n, hn⟩) (turn ⟨n, hn⟩) (outsAt0 m c n hn)
  | n, hn => by
    by_cases hz : n % 4 = 0
    · refine (congrArg (LeavesAll p g (entry ⟨n, hn⟩) (turn ⟨n, hn⟩)) (outsAt0_A m c ⟨n, hn⟩ hz)).mpr ?_
      exact all_A _ _ _ _ _ _ _ _ _ _ _ _ _ _ _ _ _ _ _ _ _ _ _ _ _ _ _ _ _ _ _ _ _ _ _ _ _ (fits m h0 h1 ⟨n, hn⟩) hz _
    · obtain ⟨n, rfl⟩ : ∃ k, n = k + 1 := ⟨n - 1, by omega⟩
      have ih : LeavesAll p g (entry ⟨n, by omega⟩) (turn ⟨n, by omega⟩) (outsAt0 m c n (by omega)) := all_points n (by omega)
      have eb : entry (⟨n, by omega⟩ : Fin cfg0.N) = entry ⟨n + 1, hn⟩ := Fin.ext (by show n / 4 = (n + 1) / 4; omega)
      have ej : 4 * (turn (⟨n, by omega⟩ : Fin cfg0.N)).val + 4 = 4 * (turn (⟨n + 1, hn⟩ : Fin cfg0.N)).val := by
        show 4 * (n % 4) + 4 = 4 * ((n + 1) % 4); omega
      refine (congrArg (LeavesAll p g (entry ⟨n + 1, hn⟩) (turn ⟨n + 1, hn⟩)) (outsAt0_B m c ⟨n + 1, hn⟩ hz)).mpr ?_
      refine all_B _ _ _ _ _ _ _ _ _ _ _ _ _ _ _ _ _ _ _ _ _ _ _ _ _ _ _ _ _ _ _ _ _ _ _ _ _ _ _ (fits m h0 h1 ⟨n + 1, hn⟩) (fun ch => ?_) _
      have k := Leaves.kept ih ch
      rw [eb, ej] at k
      exact k

/-! ## The result arrays -/

/-- The mixed values as an array. -/
def mixArr (p : Fin 16 → Fin 2048 → Fin 3600 → ℝ) (g : Fin 16 → ℝ) (back : Bool) : FVec Ideal S32768x1024 .bf16 := fun i => ((mixed p g back (i 0) (i 1) : ℝ) : EReal)

omit h0 h1 in
theorem mixArr_at (back : Bool) (t : Fin cfg0.N) (r : Fin 512) (f : Fin 1024) : mixArr p g back (ix2 (rowAt back t r) f) =
    (((seqAt p g (entry t) back ⟨f.val / 256, by omega⟩).out (rowOf back (turn t) r) ⟨f.val % 256, Nat.mod_lt _ (by omega)⟩ : ℝ) : EReal) := by
  have e1 : (⟨(rowAt back t r).val / 2048, by omega⟩ : Fin 16) = entry t := Fin.ext (rowAt_div back t r)
  have e2 : (⟨(rowAt back t r).val % 2048, Nat.mod_lt _ (by omega)⟩ : Fin 2048) = rowOf back (turn t) r := Fin.ext (rowAt_mod back t r)
  show (((seqAt p g ⟨(rowAt back t r).val / 2048, _⟩ back ⟨f.val / 256, _⟩).out ⟨(rowAt back t r).val % 2048, _⟩ ⟨f.val % 256, _⟩ : ℝ) : EReal) = _
  rw [e1, e2]

omit h0 h1 in
theorem emb9 (t : Fin cfg0.N) (r : Fin 512) (f : Fin 1024) : ((cfg0.win 9).blk t).view.emb (ix2 r f) = ix2 (rowAt false t r) f := by
  have e := index9 t
  funext a; apply Fin.ext
  match a with
  | ⟨0, _⟩ =>
    show win0_9.index t 0 * 512 + 1 * r.val = (rowAt false t r).val
    rw [e, rowAt_false, one_mul]
    rfl
  | ⟨1, _⟩ => show win0_9.index t 1 * 1024 + 1 * f.val = f.val; rw [e]; show 0 * 1024 + _ = _; omega

/-- What a point writes back is its block of the mixed values. -/
theorem flushed9_eq (t : Fin cfg0.N) : (dats m 0 c).flushed 9 t = ((cfg0.win 9).blk t).view.read (Elt Ideal) (mixArr p g false) := by
  rw [flushed9]
  funext j
  obtain ⟨r, f, rfl⟩ : ∃ (r : Fin 512) (f : Fin 1024), j = ix2 r f := ⟨j 0, j 1, eq_ix2 j⟩
  show (outsAt0 m c t.val t.isLt).1 (ix2 r f) = mixArr p g false (((cfg0.win 9).blk t).view.emb (ix2 r f))
  rw [emb9, mixArr_at]
  exact block_at p g (entry t) (turn t) false _ (Leaves.fwd (all_points m h0 h1 t.val t.isLt)) r f

/-- The result array after the run. -/
theorem final9 : (dats m 0 c).arrAt 9 cfg0.N = mixArr p g false :=
  (dats m 0 c).arrAt_eq_of_cover 9 (mixArr p g false) (fun t _ => flushed9_eq m h0 h1 t) fun (i : S32768x1024.Idx) => by
    obtain ⟨R, f, rfl⟩ : ∃ (R : Fin 32768) (f : Fin 1024), i = ix2 R f := ⟨i 0, i 1, eq_ix2 i⟩
    obtain ⟨t, r, rfl⟩ : ∃ (t : Fin cfg0.N) (r : Fin 512), rowAt false t r = R := ⟨⟨R.val / 512, by rw [show cfg0.N = 64 from N_0]; omega⟩,
      ⟨R.val % 512, Nat.mod_lt _ (by omega)⟩, Fin.ext (by rw [rowAt_false]; dsimp only; omega)⟩
    exact ⟨t, flush0_9 _, emb9 t r f ▸ ((cfg0.win 9).blk t).view.emb_mem_set (ix2 r f)⟩

omit h0 h1 in
theorem emb10 (t : Fin cfg0.N) (r : Fin 512) (f : Fin 1024) : ((cfg0.win 10).blk t).view.emb (ix2 r f) = ix2 (rowAt true t r) f := by
  have e := index10 t
  funext a; apply Fin.ext
  match a with
  | ⟨0, _⟩ =>
    show win0_10.index t 0 * 512 + 1 * r.val = (rowAt true t r).val
    rw [e, rowAt_true, one_mul]
    rfl
  | ⟨1, _⟩ => show win0_10.index t 1 * 1024 + 1 * f.val = f.val; rw [e]; show 0 * 1024 + _ = _; omega

/-- What a point writes back is its block of the mixed values. -/
theorem flushed10_eq (t : Fin cfg0.N) : (dats m 0 c).flushed 10 t = ((cfg0.win 10).blk t).view.read (Elt Ideal) (mixArr p g true) := by
  rw [flushed10]
  funext j
  obtain ⟨r, f, rfl⟩ : ∃ (r : Fin 512) (f : Fin 1024), j = ix2 r f := ⟨j 0, j 1, eq_ix2 j⟩
  show (outsAt0 m c t.val t.isLt).2.1 (ix2 r f) = mixArr p g true (((cfg0.win 10).blk t).view.emb (ix2 r f))
  rw [emb10, mixArr_at]
  exact block_at p g (entry t) (turn t) true _ (Leaves.bwd (all_points m h0 h1 t.val t.isLt)) r f

/-- The result array after the run. -/
theorem final10 : (dats m 0 c).arrAt 10 cfg0.N = mixArr p g true :=
  (dats m 0 c).arrAt_eq_of_cover 10 (mixArr p g true) (fun t _ => flushed10_eq m h0 h1 t) fun (i : S32768x1024.Idx) => by
    obtain ⟨R, f, rfl⟩ : ∃ (R : Fin 32768) (f : Fin 1024), i = ix2 R f := ⟨i 0, i 1, eq_ix2 i⟩
    obtain ⟨t, r, rfl⟩ : ∃ (t : Fin cfg0.N) (r : Fin 512), rowAt true t r = R := ⟨⟨4 * (R.val / 2048) + (3 - R.val % 2048 / 512), by rw [show cfg0.N = 64 from N_0]; omega⟩,
      ⟨R.val % 512, Nat.mod_lt _ (by omega)⟩, Fin.ext (by rw [rowAt_true]; dsimp only; omega)⟩
    exact ⟨t, flush0_10 _, emb10 t r f ▸ ((cfg0.win 10).blk t).view.emb_mem_set (ix2 r f)⟩

end

end Cert.Mix
-- ==== Proof.AlgebraicMix.lean ====
module

public import proofs.«01_k».proof.Defs
public import proofs.«01_k».proof.Proof.Mixer
public import proofs.«01_k».proof.Proof.Gen.Pre_finite
public import proofs.«01_k».proof.Proof.Gen.Reference2Ideal.Run
public import Idealize.ShloMosaic.Lib.ReduceAll

/-! # The mixer and its reference compute the same arrays, of finite arguments -/

@[expose] public section

noncomputable section

namespace Cert.Proof

open Cert.Mix
open Idealize.ShloMosaic hiding ix0 ix1 ix2 ix3 ix4 ix5 eq_ix1 eq_ix2 eq_ix3
open Idealize.ShloMosaic.ValueIdx
open Idealize.SL.Sem

/-- A magnitude below infinity is a real's. -/
theorem real_of_finite (x : EReal) (h : FloatOps.cmpf (F := Ideal) (φ := .f32) .olt (FloatOps.hostAbsf (F := Ideal) (φ := .f32) x) (FloatOps.ofBits (F := Ideal) .f32 0x7F800000#32) = 1#1) :
    x = ((x.toReal : ℝ) : EReal) := by
  have top : Ideal.ofBits .f32 0x7F800000#32 = ⊤ := by simp [Ideal.ofBits, Ideal.ieee]
  have h' : Ideal.cmp .olt (max x (-x)) (Ideal.ofBits .f32 0x7F800000#32) = 1#1 := h
  rw [top] at h'
  have lt : max x (-x) < ⊤ := by
    by_contra hn
    simp [Ideal.cmp, hn] at h'
  rw [max_lt_iff] at lt
  refine (EReal.coe_toReal lt.1.ne fun hb => ?_).symm
  rw [hb] at lt
  exact absurd lt.2 (by simp)

instance : Subsingleton Cert.Pre_finite.S_.Idx := ⟨fun a b => funext fun i => i.elim0⟩

/-- Of finite arguments every element is a real. -/
theorem reals_of_finite (x0 : FVec Ideal Cert.Pre_finite.S16x2048x3600 .f32) (x1 : FVec Ideal Cert.Pre_finite.S16 .f32)
    (h : Cert.Pre_finite.fn (F := Ideal) x0 x1 = fun _ => 1#1) : (∀ i, x0 i = (((x0 i).toReal : ℝ) : EReal)) ∧ ∀ i, x1 i = (((x1 i).toReal : ℝ) : EReal) := by
  have e := IntOp.andi_eq_one.1 (congrFun h fun i => i.elim0)
  exact ⟨fun i => real_of_finite _ (Host.reduce_andi_all _ _ _ _ _ e.1 i), fun i => real_of_finite _ (Host.reduce_andi_all _ _ _ _ _ e.2 i)⟩

/-- The mixer and its reference compute the same arrays of finite arguments. -/
theorem algebraicMix : algebraic_Kernel2Ideal_Reference2Ideal_pre_finite (hKernel2Ideal := Kernel2Ideal.Gen.facts) (hReference2Ideal := Reference2Ideal.Gen.facts)
    (hPre_finite := Pre_finite.Gen.facts) := fun m g m' g' hpre h => by
  have hr := fun c => reals_of_finite _ _ (hpre c)
  let p : Dev Kernel2Ideal.nD → Fin 16 → Fin 2048 → Fin 3600 → ℝ := fun c b s k =>
    (m ((c.tc : Thread Kernel2Ideal.nD Kernel2Ideal.τ).loc Kernel2Ideal.main_arg0) (ix3 b s k)).toReal
  let w : Dev Kernel2Ideal.nD → Fin 16 → ℝ := fun c k => (m ((c.tc : Thread Kernel2Ideal.nD Kernel2Ideal.τ).loc Kernel2Ideal.main_arg1) (ix1 k)).toReal
  have hp : ∀ c : Dev Kernel2Ideal.nD, RealsP (m ((c.tc : Thread Kernel2Ideal.nD Kernel2Ideal.τ).loc Kernel2Ideal.main_arg0)) (p c) := fun c i => by
    obtain ⟨b, s, k, rfl⟩ : ∃ (b : Fin 16) (s : Fin 2048) (k : Fin 3600), i = ix3 b s k := ⟨i 0, i 1, i 2, eq_ix3 i⟩
    exact (hr c).1 _
  have hw : ∀ c : Dev Kernel2Ideal.nD, RealsG (m ((c.tc : Thread Kernel2Ideal.nD Kernel2Ideal.τ).loc Kernel2Ideal.main_arg1)) (w c) := fun c i => by
    obtain ⟨k, rfl⟩ : ∃ k : Fin 16, i = ix1 k := ⟨i 0, eq_ix1 i⟩
    exact (hr c).2 _
  refine ⟨fun c => mixArr (p c) (w c) false, fun c => mixArr (p c) (w c) true,
    (θ_run Kernel2Ideal.defs _ _).mono (fun r hr c => ⟨(hr c).1.trans (final9 m (hp c) (hw c)), (hr c).2.1.trans (final10 m (hp c) (hw c)), (hr c).2.2⟩)
      (Kernel2Ideal.Value.run_blocks m g),
    (θ_run Reference2Ideal.defs _ _).mono (fun r hr c => ⟨(hr c).1.trans ?_, (hr c).2.1.trans ?_, (hr c).2.2⟩) (Reference2Ideal.Value.run m' g')⟩
  · rw [Reference2Ideal.Read.val_main_v75_eq, (h c).1, (h c).2]
    exact funext fun i => result_fwd (hp c) (hw c) i
  · rw [Reference2Ideal.Read.val_main_v77_eq, (h c).1, (h c).2]
    exact funext fun i => result_bwd (hp c) (hw c) i

end Cert.Proof
-- ==== Proof.BlocksSample.lean ====
module

public import proofs.«01_k».proof.Proof.Gen.Kernel3Ideal.Value
public import proofs.«01_k».proof.Proof.Blocks

/-! # The result array of the kernel, at the sample batch

Each grid point's block is the layer's rows of its tile; the 16 blocks, eight to a sequence, tile the result. -/

@[expose] public section

noncomputable section

namespace Cert.Kernel3Ideal.Ffn

open Cert.Kernel3Ideal Cert.Kernel3Ideal.Gen Cert.Kernel3Ideal.Value Cert.Rows Idealize.SL.Sem
open Cert.KernelIdeal.Ffn (ext extPieces ext_cover act actPieces act_cover fin IsTile emb_zero)
open Idealize.ShloMosaic hiding ix0 ix1 ix2 ix3 ix4 ix5 eq_ix1 eq_ix2 eq_ix3
open Idealize.ShloMosaic.TcCoe
open Idealize.ShloMosaic.ValueIdx
open scoped BigOperators

variable (m : (ℓ : Loc nD τ sig) → Buf (Elt Ideal) ℓ)

/-! ## Where the windows' blocks lie -/

/-- Of a window whose block is its whole array, the block index is zero. -/
theorem index3 : ∀ t : Fin cfg0.N, win0_3.index t = fun _ => 0 := (by decide +kernel : ∀ t : Fin grid0.N, win0_3.index t = fun _ => 0)
theorem index4 : ∀ t : Fin cfg0.N, win0_4.index t = fun _ => 0 := (by decide +kernel : ∀ t : Fin grid0.N, win0_4.index t = fun _ => 0)
theorem index5 : ∀ t : Fin cfg0.N, win0_5.index t = fun _ => 0 := (by decide +kernel : ∀ t : Fin grid0.N, win0_5.index t = fun _ => 0)
theorem index6 : ∀ t : Fin cfg0.N, win0_6.index t = fun _ => 0 := (by decide +kernel : ∀ t : Fin grid0.N, win0_6.index t = fun _ => 0)
theorem index7 : ∀ t : Fin cfg0.N, win0_7.index t = fun _ => 0 := (by decide +kernel : ∀ t : Fin grid0.N, win0_7.index t = fun _ => 0)
theorem index8 : ∀ t : Fin cfg0.N, win0_8.index t = fun _ => 0 := (by decide +kernel : ∀ t : Fin grid0.N, win0_8.index t = fun _ => 0)
/-- The tile of a point is block `t`, -/
theorem index0 : ∀ t : Fin cfg0.N, win0_0.index t = ![t.val, 0] := (by decide +kernel : ∀ t : Fin grid0.N, win0_0.index t = ![t.val, 0])
/-- and so is its block of the result; -/
theorem index9 : ∀ t : Fin cfg0.N, win0_9.index t = ![t.val, 0] := (by decide +kernel : ∀ t : Fin grid0.N, win0_9.index t = ![t.val, 0])
/-- the 16 rows before, -/
theorem index1 : ∀ t : Fin cfg0.N, win0_1.index t = ![t.val * 64 - 1, 0] := (by decide +kernel : ∀ t : Fin grid0.N, win0_1.index t = ![t.val * 64 - 1, 0])
/-- and the 16 rows after. -/
theorem index2 : ∀ t : Fin cfg0.N, win0_2.index t = ![min ((t.val + 1) * 64) 1023, 0] :=
  (by decide +kernel : ∀ t : Fin grid0.N, win0_2.index t = ![min ((t.val + 1) * 64) 1023, 0])

/-- A point's place among the eight tiles of its sequence. -/
theorem coord1 : ∀ t : Fin cfg0.N, (grid0.coords t 1).val = t.val % 8 := (by decide +kernel : ∀ t : Fin grid0.N, (grid0.coords t 1).val = t.val % 8)

/-- Whether there is a tile before, as the call computes it. -/
def hasPrev (i : grid0.Coords) : EReal := FloatOps.sitofp (F := Ideal) .f32 (Scalar.extui (Scalar.cmpi .sgt (BitVec.ofNat 32 (i 1).val) 0#32))

/-- Whether there is a tile after, as the call computes it. -/
def hasNext (i : grid0.Coords) : EReal := k0_pay4 (F := Ideal) i

/-- A flag as a value. -/
theorem flag (b : BitVec 32) (p : Prop) [Decidable p] (h : (p ∧ b = 0#32) ∨ (¬ p ∧ b = 1#32)) :
    (FloatOps.sitofp (F := Ideal) .f32 b : EReal) = if p then 0 else 1 := by
  rcases h with ⟨hp, rfl⟩ | ⟨hp, rfl⟩
  · rw [if_pos hp]; show ((BitVec.toInt 0#32 : ℝ) : EReal) = _; simp
  · rw [if_neg hp]; show ((BitVec.toInt 1#32 : ℝ) : EReal) = _; simp

/-- There is a tile before all but the first. -/
theorem hasPrev_eq (t : Fin cfg0.N) : hasPrev (grid0.coords t) = if t.val % 8 = 0 then 0 else 1 := by
  unfold hasPrev
  rw [coord1]
  have h : t.val % 8 < 8 := Nat.mod_lt _ (by omega)
  interval_cases h' : t.val % 8 <;> exact flag _ _ (by decide)

/-- There is a tile after all but the last. -/
theorem hasNext_eq (t : Fin cfg0.N) : hasNext (grid0.coords t) = if t.val % 8 = 7 then 0 else 1 := by
  unfold hasNext k0_pay4
  dsimp only
  rw [coord1]
  have h : t.val % 8 < 8 := Nat.mod_lt _ (by omega)
  interval_cases h' : t.val % 8 <;> exact flag _ _ (by decide)

/-- The row of the result (and of the input) that row `r` of tile `t` is. -/
def row (t : Fin cfg0.N) (r : Fin 1024) : Fin 16384 := ⟨t.val * 1024 + r.val, by have := t.isLt; have : cfg0.N = 16 := N_0; omega⟩

/-! ## The input blocks -/

theorem iblk0 (c : Dev nD) (t : Fin cfg0.N) (r d : Fin 1024) : iblk m c 0 t (ix2 r d) = V m c main_v0 (ix2 (row t r) d) :=
  congrArg (V m c main_v0) (by
    have e := index0 t
    funext a; apply Fin.ext
    match a with
    | ⟨0, _⟩ => show win0_0.index t 0 * 1024 + 1 * r.val = t.val * 1024 + r.val; rw [e]; show t.val * 1024 + _ = _; omega
    | ⟨1, _⟩ => show win0_0.index t 1 * 1024 + 1 * d.val = d.val; rw [e]; show 0 * 1024 + _ = _; omega)

theorem iblk1 (c : Dev nD) (t : Fin cfg0.N) (d : Fin 1024) (ht : t.val % 8 ≠ 0) :
    iblk m c 1 t (ix2 15 d) = V m c main_v0 (ix2 ⟨(row t 0).val - 1, by omega⟩ d) :=
  congrArg (V m c main_v0) (by
    have e := index1 t
    funext a; apply Fin.ext
    match a with
    | ⟨0, _⟩ => show win0_1.index t 0 * 16 + 1 * 15 = t.val * 1024 + 0 - 1; rw [e]; show (t.val * 64 - 1) * 16 + _ = _; omega
    | ⟨1, _⟩ => show win0_1.index t 1 * 1024 + 1 * d.val = d.val; rw [e]; show 0 * 1024 + _ = _; omega)

theorem iblk2 (c : Dev nD) (t : Fin cfg0.N) (d : Fin 1024) (ht : t.val % 8 ≠ 7) (R : Fin 16384) (hR : R.val = t.val * 1024 + 1024) :
    iblk m c 2 t (ix2 0 d) = V m c main_v0 (ix2 R d) :=
  congrArg (V m c main_v0) (by
    have e := index2 t
    have hN : cfg0.N = 16 := N_0
    have := t.isLt
    funext a; apply Fin.ext
    match a with
    | ⟨0, _⟩ => show win0_2.index t 0 * 16 + 1 * 0 = R.val; rw [e]; show (min ((t.val + 1) * 64) 1023) * 16 + _ = _; omega
    | ⟨1, _⟩ => show win0_2.index t 1 * 1024 + 1 * d.val = d.val; rw [e]; show 0 * 1024 + _ = _; omega)

theorem iblk3 (c : Dev nD) (t : Fin cfg0.N) : iblk m c 3 t = V m c main_v3 := by
  funext j
  refine congrArg (V m c main_v3) (funext fun a => Fin.ext ?_)
  match a with
  | ⟨0, _⟩ => exact emb_zero (congrFun (index3 t) 0)
  | ⟨1, _⟩ => exact emb_zero (congrFun (index3 t) 1)
theorem iblk4 (c : Dev nD) (t : Fin cfg0.N) : iblk m c 4 t = V m c main_v1 := by
  funext j
  refine congrArg (V m c main_v1) (funext fun a => Fin.ext ?_)
  match a with
  | ⟨0, _⟩ => exact emb_zero (congrFun (index4 t) 0)
  | ⟨1, _⟩ => exact emb_zero (congrFun (index4 t) 1)
theorem iblk5 (c : Dev nD) (t : Fin cfg0.N) : iblk m c 5 t = V m c main_arg3 := by
  funext j
  refine congrArg (V m c main_arg3) (funext fun a => Fin.ext ?_)
  match a with
  | ⟨0, _⟩ => exact emb_zero (congrFun (index5 t) 0)
  | ⟨1, _⟩ => exact emb_zero (congrFun (index5 t) 1)
theorem iblk6 (c : Dev nD) (t : Fin cfg0.N) : iblk m c 6 t = V m c main_v4 := by
  funext j
  refine congrArg (V m c main_v4) (funext fun a => Fin.ext ?_)
  match a with
  | ⟨0, _⟩ => exact emb_zero (congrFun (index6 t) 0)
  | ⟨1, _⟩ => exact emb_zero (congrFun (index6 t) 1)
theorem iblk7 (c : Dev nD) (t : Fin cfg0.N) : iblk m c 7 t = V m c main_v2 := by
  funext j
  refine congrArg (V m c main_v2) (funext fun a => Fin.ext ?_)
  match a with
  | ⟨0, _⟩ => exact emb_zero (congrFun (index7 t) 0)
  | ⟨1, _⟩ => exact emb_zero (congrFun (index7 t) 1)
theorem iblk8 (c : Dev nD) (t : Fin cfg0.N) : iblk m c 8 t = V m c main_v5 := by
  funext j
  refine congrArg (V m c main_v5) (funext fun a => Fin.ext ?_)
  match a with
  | ⟨0, _⟩ => exact emb_zero (congrFun (index8 t) 0)
  | ⟨1, _⟩ => exact emb_zero (congrFun (index8 t) 1)

/-! ## The layer on the arrays the launch finds -/

/-- The input rows. -/
def X (c : Dev nD) (R : Fin 16384) (d : Fin 1024) : EReal := V m c main_v0 (ix2 R d)
/-- The weights of the first norm. -/
def G (c : Dev nD) (d : Fin 1024) : EReal := V m c main_v3 (ix2 0 d)
/-- The up-projection. -/
def Wu (c : Dev nD) (d : Fin 1024) (f : Fin 5632) : EReal := V m c main_v1 (ix2 d f)
/-- The taps of the convolution. -/
def Cw (c : Dev nD) (j : Fin 3) (f : Fin 5632) : EReal := V m c main_arg3 (ix2 j f)
/-- The bias of the convolution. -/
def Cb (c : Dev nD) (f : Fin 5632) : EReal := V m c main_v4 (ix2 0 f)
/-- The down-projection. -/
def Wd (c : Dev nD) (k : Fin 2816) (d : Fin 1024) : EReal := V m c main_v2 (ix2 k d)
/-- The weights of the last norm. -/
def Gp (c : Dev nD) (d : Fin 1024) : EReal := V m c main_v5 (ix2 0 d)

/-- A point's input blocks are a tile of the rows. -/
theorem tile (c : Dev nD) (t : Fin cfg0.N) : IsTile 8192 (X m c) (G m c) (t.val * 1024) (hasPrev (grid0.coords t)) (hasNext (grid0.coords t))
    (iblk m c 0 t) (iblk m c 1 t) (iblk m c 2 t) (iblk m c 3 t) where
  le := by have := t.isLt; have : cfg0.N = 16 := N_0; omega
  rows r d := iblk0 m c t r d
  norm d := by rw [iblk3]; rfl
  inside r h h' := by omega
  inside' r h := by omega
  before := by
    by_cases h : t.val % 8 = 0
    · exact .inl ⟨by omega, by rw [hasPrev_eq, if_pos h]⟩
    · exact .inr ⟨by omega, by rw [hasPrev_eq, if_neg h], fun d => iblk1 m c t d h⟩
  after := by
    have hN : cfg0.N = 16 := N_0
    have := t.isLt
    by_cases h : t.val % 8 = 7
    · exact .inl ⟨by omega, by rw [hasNext_eq, if_pos h]⟩
    · exact .inr ⟨by omega, by rw [hasNext_eq, if_neg h], by omega, fun d => iblk2 m c t d h _ rfl⟩

/-- The layer as an array. -/
def layer (c : Dev nD) : FVec Ideal S16384x1024 .f32 := fun i =>
  Spec.out 8192 (X m c) (G m c) (Wu m c) (Cw m c) (Cb m c) (Wd m c) (Gp m c) (i 0) (i 1)

set_option maxHeartbeats 4000000 in
/-- What a point leaves in the staging buffer of the result. -/
theorem out_open (c : Dev nD) (t : Fin cfg0.N) : outsAt0 m c t
    = fin (iblk m c 0 t) (act (ext (hasPrev (grid0.coords t)) (hasNext (grid0.coords t)) (iblk m c 0 t) (iblk m c 1 t) (iblk m c 2 t) (iblk m c 3 t)) (iblk m c 4 t) (iblk m c 5 t) (iblk m c 6 t))
        (iblk m c 7 t) (iblk m c 8 t) := by
  unfold outsAt0 out0_A_9
  rw [View.read_writes_eq_canon _ _ _ (cover0_A_9 c _ _ _ _ _ _ _ _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread]
  rw [View.canon_unit_zero (by funext a; fin_cases a <;> rfl)]
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  have z : (![0, 0] : Fin 2 → ℕ) = fun _ => 0 := by funext a; fin_cases a <;> rfl
  rw [View.ld_unit_zero (S := S1024x1024) z, View.ld_unit_zero (S := S1x1024) z, View.ld_unit_zero (S := S1x1024) z,
    View.ld_unit_zero (S := S16x1024) z, View.ld_unit_zero (S := S16x1024) z, View.ld_unit_zero (S := S2816x1024) z]
  have hH : (View.whole cc0_scratch0).readCov (extPieces (hasPrev (grid0.coords t)) (hasNext (grid0.coords t)) x0 x1 x2 x3)
      (Rect.unit ![0, 0] ![1056, 1024] inb_S1056x1024_S1056x1024_0_0).toLoadRect = ext (hasPrev (grid0.coords t)) (hasNext (grid0.coords t)) x0 x1 x2 x3 :=
    (View.readCov_eq_canon_ld _ _ _ (ext_cover _ _ x0 x1 x2 x3)).trans (View.ld_unit_zero (S := S1056x1024) z _ _)
  have hE : extPieces (hasPrev (grid0.coords t)) (hasNext (grid0.coords t)) x0 x1 x2 x3 =
      [⟨Rect.unit ![1040, 0] ![16, 1024] inb_S1056x1024_S16x1024_1040_0, k0_pay9 (F := Ideal) (k0_pay2 x3) (k0_pay4 (grid0.coords t)) x2⟩,
       ⟨Rect.unit ![16, 0] ![1024, 1024] inb_S1056x1024_S1024x1024_16_0, k0_pay8 (F := Ideal) (k0_pay6 x0) (k0_pay7 x3)⟩,
       ⟨Rect.unit ![0, 0] ![16, 1024] inb_S1056x1024_S16x1024_0_0, k0_pay5 (F := Ideal) (grid0.coords t) x3 x1⟩] := rfl
  rw [hE] at hH
  rw [hH]
  generalize ext (hasPrev (grid0.coords t)) (hasNext (grid0.coords t)) x0 x1 x2 x3 = H
  have hA : (View.whole cc0_scratch1).readCov (actPieces H x4 x5 x6)
      (Rect.unit ![0, 0] ![1024, 2816] inb_S1024x2816_S1024x2816_0_0).toLoadRect = act H x4 x5 x6 :=
    (View.readCov_eq_canon_ld _ _ _ (act_cover H x4 x5 x6)).trans (View.ld_unit_zero (S := S1024x2816) z _ _)
  rw [← hA]
  rfl

/-- What a point leaves is the layer at the rows of its tile. -/
theorem out_apply (c : Dev nD) (t : Fin cfg0.N) (r d : Fin 1024) : outsAt0 m c t (ix2 r d) = layer m c (ix2 (row t r) d) := by
  rw [out_open]
  rw [iblk4, iblk5, iblk6, iblk7, iblk8]
  exact (tile m c t).fin_eq _ _ _ _ _ r d

/-- Where an index of a point's block of the result lies. -/
theorem emb9 (t : Fin cfg0.N) (r d : Fin 1024) : ((cfg0.win 9).blk t).view.emb (ix2 r d) = ix2 (row t r) d := by
  have e := index9 t
  funext a; apply Fin.ext
  match a with
  | ⟨0, _⟩ => show win0_9.index t 0 * 1024 + 1 * r.val = t.val * 1024 + r.val; rw [e]; show t.val * 1024 + _ = _; omega
  | ⟨1, _⟩ => show win0_9.index t 1 * 1024 + 1 * d.val = d.val; rw [e]; show 0 * 1024 + _ = _; omega

/-- What a point writes back is its block of the layer. -/
theorem flushed_eq (c : Dev nD) (t : Fin cfg0.N) :
    (dats m 0 c).flushed 9 t = ((cfg0.win 9).blk t).view.read (Elt Ideal) (layer m c) := by
  rw [flushed9]
  funext j
  obtain ⟨r, d, rfl⟩ : ∃ (r d : Fin 1024), j = ix2 r d := ⟨j 0, j 1, eq_ix2 j⟩
  show outsAt0 m c t (ix2 r d) = layer m c (((cfg0.win 9).blk t).view.emb (ix2 r d))
  rw [emb9, out_apply]

/-- The points' blocks cover the result. -/
theorem covered (i : S16384x1024.Idx) : ∃ t : Fin cfg0.N, (cfg0.win 9).flush t = true ∧ i ∈ ((cfg0.win 9).blk t).view.set := by
  have hN : cfg0.N = 16 := N_0
  obtain ⟨R, d, rfl⟩ : ∃ (R : Fin 16384) (d : Fin 1024), i = ix2 R d := ⟨i 0, i 1, eq_ix2 i⟩
  obtain ⟨t, ht⟩ : ∃ t : Fin cfg0.N, t.val = R.val / 1024 := ⟨⟨R.val / 1024, by rw [hN]; omega⟩, rfl⟩
  have h := ((cfg0.win 9).blk t).view.emb_mem_set (ix2 (⟨R.val % 1024, Nat.mod_lt _ (by omega)⟩ : Fin 1024) d)
  have e : row t ⟨R.val % 1024, Nat.mod_lt _ (by omega)⟩ = R := Fin.ext (by show t.val * 1024 + R.val % 1024 = R.val; omega)
  rw [emb9, e] at h
  exact ⟨t, flush0_9 _, h⟩

/-- The result array after the run is the layer. -/
theorem final (c : Dev nD) : (dats m 0 c).arrAt 9 cfg0.N = layer m c :=
  (dats m 0 c).arrAt_eq_of_cover 9 (layer m c) (fun t _ => flushed_eq m c t) covered

end Cert.Kernel3Ideal.Ffn
-- ==== Proof.HostArgsSample.lean ====
module

public import proofs.«01_k».proof.Proof.BlocksSample
public import proofs.«01_k».proof.Proof.HostArgs

/-! # The arrays the launch finds

At the sample batch: what the host code before the call leaves in the arrays the call reads, in terms of the arguments. -/

@[expose] public section

noncomputable section

namespace Cert.Kernel3Ideal.Ffn

open Cert.Kernel3Ideal Cert.Kernel3Ideal.Gen Cert.Rows Idealize.SL.Sem
open Cert.KernelIdeal.Ffn (asRow)
open Idealize.ShloMosaic hiding ix0 ix1 ix2 ix3 ix4 ix5 eq_ix1 eq_ix2 eq_ix3
open Idealize.ShloMosaic.TcCoe
open Idealize.ShloMosaic.ValueIdx
open Idealize.ShloMosaic.StableHlo

variable (m : (ℓ : Loc nD τ sig) → Buf (Elt Ideal) ℓ)

theorem V0 (c : Dev nD) : V m c main_v0 = shapeCast S16384x1024 (m ((c : Thread nD τ).loc main_arg0)) shapeCasts_S2x8192x1024_S16384x1024 := by
  simp only [V, hostOps0]; after_results_simp <;> rfl
theorem V1 (c : Dev nD) : V m c main_v1 = m ((c : Thread nD τ).loc main_arg2) := by
  simp only [V, hostOps0]; after_results_simp <;> rfl
theorem V2 (c : Dev nD) : V m c main_v2 = m ((c : Thread nD τ).loc main_arg5) := by
  simp only [V, hostOps0]; after_results_simp <;> rfl
theorem V3 (c : Dev nD) : V m c main_v3 = shapeCast S1x1024 (m ((c : Thread nD τ).loc main_arg1)) shapeCasts_S1024_S1x1024 := by
  simp only [V, hostOps0]; after_results_simp <;> rfl
theorem V4 (c : Dev nD) : V m c main_v4 = shapeCast S1x5632 (m ((c : Thread nD τ).loc main_arg4)) shapeCasts_S5632_S1x5632 := by
  simp only [V, hostOps0]; after_results_simp <;> rfl
theorem V5 (c : Dev nD) : V m c main_v5 = shapeCast S1x1024 (m ((c : Thread nD τ).loc main_arg6)) shapeCasts_S1024_S1x1024 := by
  simp only [V, hostOps0]; after_results_simp <;> rfl

theorem X_eq (c : Dev nD) (R : Fin 16384) (d : Fin 1024) :
    X m c R d = m ((c : Thread nD τ).loc main_arg0) (ix3 (⟨R.val / 8192, by omega⟩ : Fin 2) (⟨R.val % 8192, Nat.mod_lt _ (by omega)⟩ : Fin 8192) d) := by
  unfold X
  rw [V0]
  refine shapeCast_apply (s := S2x8192x1024) (t := S16384x1024) _ _ _ _ ?_
  rw [Shape.rowMajor_val_three, Shape.rowMajor_val_two]
  show (R.val / 8192 * 8192 + R.val % 8192) * 1024 + d.val = R.val * 1024 + d.val
  omega
theorem G_eq (c : Dev nD) (d : Fin 1024) : G m c d = m ((c : Thread nD τ).loc main_arg1) (ix1 d) := by
  unfold G; rw [V3]; exact asRow _ _ d
theorem Cb_eq (c : Dev nD) (f : Fin 5632) : Cb m c f = m ((c : Thread nD τ).loc main_arg4) (ix1 f) := by
  unfold Cb; rw [V4]; exact asRow _ _ f
theorem Gp_eq (c : Dev nD) (d : Fin 1024) : Gp m c d = m ((c : Thread nD τ).loc main_arg6) (ix1 d) := by
  unfold Gp; rw [V5]; exact asRow _ _ d
theorem Wu_eq (c : Dev nD) (d : Fin 1024) (f : Fin 5632) : Wu m c d f = m ((c : Thread nD τ).loc main_arg2) (ix2 d f) := by
  unfold Wu; rw [V1]
theorem Wd_eq (c : Dev nD) (k : Fin 2816) (d : Fin 1024) : Wd m c k d = m ((c : Thread nD τ).loc main_arg5) (ix2 k d) := by
  unfold Wd; rw [V2]
theorem Cw_eq (c : Dev nD) (j : Fin 3) (f : Fin 5632) : Cw m c j f = m ((c : Thread nD τ).loc main_arg3) (ix2 j f) := by
  unfold Cw; rw [V_main_arg3]

end Cert.Kernel3Ideal.Ffn
-- ==== Proof.RefRowsSample.lean ====
module

public import proofs.«01_k».proof.Proof.Gen.Reference3Ideal.Run
public import proofs.«01_k».proof.Proof.Gen.Reference3Ideal.Read
public import proofs.«01_k».proof.Proof.Spec

/-! # The reference at a row and a column, at the sample batch

Each stage of the reference program, read at a position, is the same stage of the layer written as plain functions. -/

@[expose] public section

noncomputable section

namespace Cert.Reference3Ideal.Ffn

open Cert.Reference3Ideal Cert.Reference3Ideal.Gen Cert.Reference3Ideal.Read Cert.Rows
open Idealize.ShloMosaic hiding ix0 ix1 ix2 ix3 ix4 ix5 eq_ix1 eq_ix2 eq_ix3
open Idealize.ShloMosaic.ValueIdx
open scoped BigOperators

variable (x0 : (⟨S2x8192x1024, .f32⟩ : BufTy).Contents (Elt Ideal)) (x1 : (⟨S1024, .f32⟩ : BufTy).Contents (Elt Ideal))
  (x2 : (⟨S1024x5632, .f32⟩ : BufTy).Contents (Elt Ideal)) (x3 : (⟨S3x5632, .f32⟩ : BufTy).Contents (Elt Ideal))
  (x4 : (⟨S5632, .f32⟩ : BufTy).Contents (Elt Ideal)) (x5 : (⟨S2816x1024, .f32⟩ : BufTy).Contents (Elt Ideal))
  (x6 : (⟨S1024, .f32⟩ : BufTy).Contents (Elt Ideal))

/-- The sequence of a row. -/
def bq (R : Fin 16384) : Fin 2 := ⟨R.val / 8192, by omega⟩
/-- The position of a row in its sequence. -/
def sq (R : Fin 16384) : Fin 8192 := ⟨R.val % 8192, Nat.mod_lt _ (by omega)⟩

/-- The input rows. -/
def X (R : Fin 16384) (d : Fin 1024) : EReal := x0 (ix3 (bq R) (sq R) d)
/-- The weights of the first norm. -/
def G (d : Fin 1024) : EReal := x1 (ix1 d)
/-- The up-projection. -/
def Wu (d : Fin 1024) (f : Fin 5632) : EReal := x2 (ix2 d f)
/-- The taps of the convolution. -/
def Cw (j : Fin 3) (f : Fin 5632) : EReal := x3 (ix2 j f)
/-- The bias of the convolution. -/
def Cb (f : Fin 5632) : EReal := x4 (ix1 f)
/-- The down-projection. -/
def Wd (k : Fin 2816) (d : Fin 1024) : EReal := x5 (ix2 k d)
/-- The weights of the last norm. -/
def Gp (d : Fin 1024) : EReal := x6 (ix1 d)

/-- The first norm. -/
theorem norm_apply (R : Fin 16384) (d : Fin 1024) :
    val_main_v12 (F := Ideal) x0 x1 (ix3 (bq R) (sq R) d) = rmsRow (X x0 R) (G x1) d := by
  rw [val_main_v12_apply, val_main_v9_apply, val_main_v8_apply, val_main_v11_apply, val_main_v10_apply, val_main_v7_apply,
    val_main_v6_apply, val_main_v5_apply, val_main_v4_apply, val_main_v3_apply, val_main_v2_apply, val_main_v1_apply,
    val_main_cst_apply, val_main_cst_0_apply, val_main_cst_1_apply]
  have hs : ∀ k : Fin 1024, val_main_v0 (F := Ideal) x0 (idx_main_v1 (idx_main_v2 (idx_main_v8 (ix3 (bq R) (sq R) d))) k) = X x0 R k * X x0 R k := fun k => by
    rw [show idx_main_v1 (idx_main_v2 (idx_main_v8 (ix3 (bq R) (sq R) d))) k = ix3 (bq R) (sq R) k from eq_ix3 _]; rfl
  rw [show idx_main_v10 (idx_main_v11 (ix3 (bq R) (sq R) d)) = ix1 d from eq_ix1 _, Finset.sum_congr rfl fun k _ => hs k]
  show X x0 R d * Ideal.rsqrt (Ideal.div (Ideal.ofBits .f32 0x00000000#32 + _) width + eps) * G x1 d = _
  rw [Ideal.ofBits_zero_f32, zero_add]; rfl

/-- The up-projection. -/
theorem up_apply (R : Fin 16384) (f : Fin 5632) :
    val_main_v13 (F := Ideal) x0 x1 x2 (ix3 (bq R) (sq R) f) = Spec.up (X x0) (G x1) (Wu x2) R f := by
  rw [val_main_v13_apply]
  refine Finset.sum_congr rfl fun k _ => ?_
  rw [show lidx_main_v13 (ix3 (bq R) (sq R) f) k = ix3 (bq R) (sq R) k from eq_ix3 _, norm_apply,
    show ridx_main_v13 (ix3 (bq R) (sq R) f) k = ix2 k f from eq_ix2 _]; rfl

/-- The padded up-projection inside. -/
theorem pad_in (R : Fin 16384) (s : Fin 8194) (hs : s.val = R.val % 8192 + 1) (f : Fin 5632) :
    val_main_v14 (F := Ideal) x0 x1 x2 (ix3 (bq R) s f) = Spec.up (X x0) (G x1) (Wu x2) R f := by
  unfold val_main_v14
  refine (pad_apply_of_inside _ _ _ _ _ _ _ (ix3 (bq R) s f) (ix3 (bq R) (sq R) f) fun a => ?_).trans (up_apply x0 x1 x2 R f)
  match a with
  | ⟨0, _⟩ => show (bq R).val = 0 + (bq R).val * (0 + 1); omega
  | ⟨1, _⟩ => show s.val = 1 + R.val % 8192 * (0 + 1); omega
  | ⟨2, _⟩ => show f.val = 0 + f.val * (0 + 1); omega

/-- The padded up-projection outside is zero. -/
theorem pad_out (b : Fin 2) (s : Fin 8194) (hs : s.val = 0 ∨ s.val = 8193) (f : Fin 5632) :
    val_main_v14 (F := Ideal) x0 x1 x2 (ix3 b s f) = 0 := by
  unfold val_main_v14
  refine (pad_apply_of_not_inside _ _ _ _ _ _ _ (ix3 b s f) 1 ?_).trans ?_
  · show ¬ (1 ≤ s.val ∧ (s.val - 1) % (0 + 1) = 0 ∧ (s.val - 1) / (0 + 1) < 8192)
    omega
  · show ((BitVec.toInt 0#32 : ℝ) : EReal) = 0; simp

/-- The convolution and its bias. -/
theorem conv_apply (R : Fin 16384) (f : Fin 5632) :
    val_main_v37 (F := Ideal) x0 x1 x2 x3 x4 (ix3 (bq R) (sq R) f)
      = Spec.conv 8192 (X x0) (G x1) (Wu x2) (Cw x3) (Cb x4) R f := by
  have hR : (sq R).val = R.val % 8192 := rfl
  rw [val_main_v37_apply, val_main_v34_apply, val_main_v27_apply, val_main_v20_apply, val_main_v26_apply, val_main_v33_apply,
    val_main_v15_apply, val_main_v21_apply, val_main_v28_apply, val_main_v19_apply, val_main_v18_apply, val_main_v17_apply, val_main_v16_apply,
    val_main_v25_apply, val_main_v24_apply, val_main_v23_apply, val_main_v22_apply, val_main_v32_apply, val_main_v31_apply, val_main_v30_apply, val_main_v29_apply,
    val_main_v36_apply, val_main_v35_apply]
  have p0 : val_main_v14 (F := Ideal) x0 x1 x2 (idx_main_v15 (ix3 (bq R) (sq R) f)) = Spec.upPrev 8192 (X x0) (G x1) (Wu x2) R f := by
    rw [show idx_main_v15 (ix3 (bq R) (sq R) f) = ix3 (bq R) (⟨R.val % 8192, by omega⟩ : Fin 8194) f from eq_ix3 _]
    unfold Spec.upPrev
    by_cases h : R.val % 8192 = 0
    · rw [if_pos h]; exact pad_out x0 x1 x2 _ _ (Or.inl h) f
    · rw [if_neg h]
      have e : bq R = bq ⟨R.val - 1, by omega⟩ := Fin.ext (by show R.val / 8192 = (R.val - 1) / 8192; omega)
      rw [e]
      exact pad_in x0 x1 x2 ⟨R.val - 1, by omega⟩ _ (by show R.val % 8192 = (R.val - 1) % 8192 + 1; omega) f
  have p1 : val_main_v14 (F := Ideal) x0 x1 x2 (idx_main_v21 (ix3 (bq R) (sq R) f)) = Spec.up (X x0) (G x1) (Wu x2) R f := by
    rw [show idx_main_v21 (ix3 (bq R) (sq R) f) = ix3 (bq R) (⟨1 + R.val % 8192, by omega⟩ : Fin 8194) f from eq_ix3 _]
    exact pad_in x0 x1 x2 R _ (by show 1 + R.val % 8192 = R.val % 8192 + 1; omega) f
  have p2 : val_main_v14 (F := Ideal) x0 x1 x2 (idx_main_v28 (ix3 (bq R) (sq R) f)) = Spec.upNext 8192 (X x0) (G x1) (Wu x2) R f := by
    rw [show idx_main_v28 (ix3 (bq R) (sq R) f) = ix3 (bq R) (⟨2 + R.val % 8192, by omega⟩ : Fin 8194) f from eq_ix3 _]
    unfold Spec.upNext
    by_cases h : R.val % 8192 = 8191
    · rw [if_pos h]; exact pad_out x0 x1 x2 _ _ (Or.inr (by show 2 + R.val % 8192 = 8193; omega)) f
    · have hM := R.isLt
      rw [if_neg h, dif_pos (by omega)]
      have e : bq R = bq ⟨R.val + 1, by omega⟩ := Fin.ext (by show R.val / 8192 = (R.val + 1) / 8192; omega)
      rw [e]
      exact pad_in x0 x1 x2 ⟨R.val + 1, by omega⟩ _ (by show 2 + R.val % 8192 = (R.val + 1) % 8192 + 1; omega) f
  have hf : f.val % 5632 = f.val := Nat.mod_eq_of_lt f.isLt
  have c0 : idx_main_v16 (idx_main_v17 (idx_main_v18 (idx_main_v19 (ix3 (bq R) (sq R) f)))) = ix2 0 f := by
    funext a; apply Fin.ext
    match a with
    | ⟨0, _⟩ => rfl
    | ⟨1, _⟩ => exact hf
  have c1 : idx_main_v22 (idx_main_v23 (idx_main_v24 (idx_main_v25 (ix3 (bq R) (sq R) f)))) = ix2 1 f := by
    funext a; apply Fin.ext
    match a with
    | ⟨0, _⟩ => rfl
    | ⟨1, _⟩ => exact hf
  have c2 : idx_main_v29 (idx_main_v30 (idx_main_v31 (idx_main_v32 (ix3 (bq R) (sq R) f)))) = ix2 2 f := by
    funext a; apply Fin.ext
    match a with
    | ⟨0, _⟩ => rfl
    | ⟨1, _⟩ => exact hf
  rw [p0, p1, p2, c0, c1, c2, show idx_main_v35 (idx_main_v36 (ix3 (bq R) (sq R) f)) = ix1 f from eq_ix1 _]
  rfl

/-- The gated activations. -/
theorem gated_apply (R : Fin 16384) (k : Fin 2816) :
    val_main_v41 (F := Ideal) x0 x1 x2 x3 x4 (ix3 (bq R) (sq R) k)
      = Spec.gated 8192 (X x0) (G x1) (Wu x2) (Cw x3) (Cb x4) R k := by
  rw [val_main_v41_apply, val_main_v40_apply, val_main_call1_v5_apply, val_main_call1_v4_apply, val_main_call1_v3_apply, val_main_call1_v2_apply,
    val_main_call1_v1_apply, val_main_call1_v0_apply, val_main_v39_apply, val_main_v38_apply, val_main_call1_cst_apply, val_main_call1_cst_0_apply,
    show idx_main_v39 (ix3 (bq R) (sq R) k) = ix3 (bq R) (sq R) (⟨2816 + k.val, by omega⟩ : Fin 5632) from eq_ix3 _,
    show idx_main_v38 (ix3 (bq R) (sq R) k) = ix3 (bq R) (sq R) (⟨k.val, by omega⟩ : Fin 5632) from eq_ix3 _,
    conv_apply, conv_apply]
  generalize hg : Spec.conv 8192 (X x0) (G x1) (Wu x2) (Cw x3) (Cb x4) R ⟨2816 + k.val, by omega⟩ = g
  generalize ha : Spec.conv 8192 (X x0) (G x1) (Wu x2) (Cw x3) (Cb x4) R ⟨k.val, by omega⟩ = a
  unfold Spec.gated
  rw [hg, ha]
  show g * Ideal.div (Ideal.ofBits .f32 0x3F800000#32) (Ideal.ofBits .f32 0x3F800000#32 + Ideal.exp (-g)) * a = glu a g
  rw [Ideal.ofBits_one_f32]
  rfl

/-- The down-projection. -/
theorem down_apply (R : Fin 16384) (d : Fin 1024) :
    val_main_v42 (F := Ideal) x0 x1 x2 x3 x4 x5 (ix3 (bq R) (sq R) d)
      = Spec.down 8192 (X x0) (G x1) (Wu x2) (Cw x3) (Cb x4) (Wd x5) R d := by
  rw [val_main_v42_apply]
  refine Finset.sum_congr rfl fun k _ => ?_
  rw [show lidx_main_v42 (ix3 (bq R) (sq R) d) k = ix3 (bq R) (sq R) k from eq_ix3 _, gated_apply,
    show ridx_main_v42 (ix3 (bq R) (sq R) d) k = ix2 k d from eq_ix2 _]; rfl

/-- The layer, before the last reshape. -/
theorem out_apply (R : Fin 16384) (d : Fin 1024) :
    val_main_v56 (F := Ideal) x0 x1 x2 x3 x4 x5 x6 (ix3 (bq R) (sq R) d)
      = Spec.out 8192 (X x0) (G x1) (Wu x2) (Cw x3) (Cb x4) (Wd x5) (Gp x6) R d := by
  rw [val_main_v56_apply, val_main_v55_apply, val_main_v54_apply, val_main_v53_apply, val_main_v52_apply, val_main_v51_apply, val_main_v50_apply,
    val_main_v49_apply, val_main_v48_apply, val_main_v47_apply, val_main_v46_apply, val_main_v45_apply, val_main_v44_apply,
    val_main_cst_2_apply, val_main_cst_3_apply, val_main_cst_4_apply]
  have hs : ∀ k : Fin 1024, val_main_v43 (F := Ideal) x0 x1 x2 x3 x4 x5 (idx_main_v44 (idx_main_v45 (idx_main_v51 (ix3 (bq R) (sq R) d))) k)
      = Spec.down 8192 (X x0) (G x1) (Wu x2) (Cw x3) (Cb x4) (Wd x5) R k * Spec.down 8192 (X x0) (G x1) (Wu x2) (Cw x3) (Cb x4) (Wd x5) R k := fun k => by
    rw [show idx_main_v44 (idx_main_v45 (idx_main_v51 (ix3 (bq R) (sq R) d))) k = ix3 (bq R) (sq R) k from eq_ix3 _, val_main_v43_apply, down_apply]; rfl
  rw [show idx_main_v53 (idx_main_v54 (ix3 (bq R) (sq R) d)) = ix1 d from eq_ix1 _, Finset.sum_congr rfl fun k _ => hs k, down_apply]
  show X x0 R d + Spec.down 8192 (X x0) (G x1) (Wu x2) (Cw x3) (Cb x4) (Wd x5) R d * Ideal.rsqrt (Ideal.div (Ideal.ofBits .f32 0x00000000#32 + _) width + eps) * Gp x6 d = _
  rw [Ideal.ofBits_zero_f32, zero_add]; rfl

/-- The result of the reference is the layer. -/
theorem result_apply (R : Fin 16384) (d : Fin 1024) :
    val_main_v57 (F := Ideal) x0 x1 x2 x3 x4 x5 x6 (ix2 R d)
      = Spec.out 8192 (X x0) (G x1) (Wu x2) (Cw x3) (Cb x4) (Wd x5) (Gp x6) R d := by
  unfold val_main_v57
  refine (shapeCast_apply _ _ _ (ix3 (bq R) (sq R) d) ?_).trans (out_apply x0 x1 x2 x3 x4 x5 x6 R d)
  rw [Shape.rowMajor_val_three, Shape.rowMajor_val_two]
  show (R.val / 8192 * 8192 + R.val % 8192) * 1024 + d.val = R.val * 1024 + d.val
  omega

end Cert.Reference3Ideal.Ffn
-- ==== Proof.AlgebraicSample.lean ====
module

public import proofs.«01_k».proof.Defs
public import proofs.«01_k».proof.Proof.HostArgsSample
public import proofs.«01_k».proof.Proof.RefRowsSample

/-! # The feed-forward call and its reference compute the same array, at the sample batch -/

@[expose] public section

noncomputable section

namespace Cert.Proof

open Idealize.ShloMosaic hiding ix0 ix1 ix2 ix3 ix4 ix5 eq_ix1 eq_ix2 eq_ix3
open Idealize.ShloMosaic.ValueIdx
open Idealize.SL.Sem

/-- On equal arguments the reference's result is the layer the kernel's blocks make up. -/
theorem ffn_eq_sample (m : (ℓ : Loc Kernel3Ideal.nD Kernel3Ideal.τ Kernel3Ideal.sig) → Buf (Elt Ideal) ℓ)
    (m' : (ℓ : Loc Reference3Ideal.nD Reference3Ideal.τ Reference3Ideal.sig) → Buf (Elt Ideal) ℓ) (c : Dev Kernel3Ideal.nD)
    (h0 : m' ((c.tc : Thread Reference3Ideal.nD Reference3Ideal.τ).loc Reference3Ideal.main_arg0) = m ((c.tc : Thread Kernel3Ideal.nD Kernel3Ideal.τ).loc Kernel3Ideal.main_arg0))
    (h1 : m' ((c.tc : Thread Reference3Ideal.nD Reference3Ideal.τ).loc Reference3Ideal.main_arg1) = m ((c.tc : Thread Kernel3Ideal.nD Kernel3Ideal.τ).loc Kernel3Ideal.main_arg1))
    (h2 : m' ((c.tc : Thread Reference3Ideal.nD Reference3Ideal.τ).loc Reference3Ideal.main_arg2) = m ((c.tc : Thread Kernel3Ideal.nD Kernel3Ideal.τ).loc Kernel3Ideal.main_arg2))
    (h3 : m' ((c.tc : Thread Reference3Ideal.nD Reference3Ideal.τ).loc Reference3Ideal.main_arg3) = m ((c.tc : Thread Kernel3Ideal.nD Kernel3Ideal.τ).loc Kernel3Ideal.main_arg3))
    (h4 : m' ((c.tc : Thread Reference3Ideal.nD Reference3Ideal.τ).loc Reference3Ideal.main_arg4) = m ((c.tc : Thread Kernel3Ideal.nD Kernel3Ideal.τ).loc Kernel3Ideal.main_arg4))
    (h5 : m' ((c.tc : Thread Reference3Ideal.nD Reference3Ideal.τ).loc Reference3Ideal.main_arg5) = m ((c.tc : Thread Kernel3Ideal.nD Kernel3Ideal.τ).loc Kernel3Ideal.main_arg5))
    (h6 : m' ((c.tc : Thread Reference3Ideal.nD Reference3Ideal.τ).loc Reference3Ideal.main_arg6) = m ((c.tc : Thread Kernel3Ideal.nD Kernel3Ideal.τ).loc Kernel3Ideal.main_arg6)) :
    Reference3Ideal.Value.res_main_v57 m' c = Kernel3Ideal.Ffn.layer m c := by
  rw [Reference3Ideal.Read.val_main_v57_eq, h0, h1, h2, h3, h4, h5, h6]
  funext i
  obtain ⟨R, d, rfl⟩ : ∃ (R : Fin 16384) (d : Fin 1024), i = ix2 R d := ⟨i 0, i 1, eq_ix2 i⟩
  refine (Reference3Ideal.Ffn.result_apply _ _ _ _ _ _ _ R d).trans ?_
  show _ = Spec.out 8192 (Kernel3Ideal.Ffn.X m c) (Kernel3Ideal.Ffn.G m c) (Kernel3Ideal.Ffn.Wu m c) (Kernel3Ideal.Ffn.Cw m c) (Kernel3Ideal.Ffn.Cb m c)
    (Kernel3Ideal.Ffn.Wd m c) (Kernel3Ideal.Ffn.Gp m c) R d
  rw [show Kernel3Ideal.Ffn.X m c = _ from funext fun R => funext fun d => Kernel3Ideal.Ffn.X_eq m c R d,
    show Kernel3Ideal.Ffn.G m c = _ from funext fun d => Kernel3Ideal.Ffn.G_eq m c d,
    show Kernel3Ideal.Ffn.Wu m c = _ from funext fun d => funext fun f => Kernel3Ideal.Ffn.Wu_eq m c d f,
    show Kernel3Ideal.Ffn.Cw m c = _ from funext fun j => funext fun f => Kernel3Ideal.Ffn.Cw_eq m c j f,
    show Kernel3Ideal.Ffn.Cb m c = _ from funext fun f => Kernel3Ideal.Ffn.Cb_eq m c f,
    show Kernel3Ideal.Ffn.Wd m c = _ from funext fun k => funext fun d => Kernel3Ideal.Ffn.Wd_eq m c k d,
    show Kernel3Ideal.Ffn.Gp m c = _ from funext fun d => Kernel3Ideal.Ffn.Gp_eq m c d]
  rfl

/-- The kernel's result array is the reference's. -/
theorem algebraicSample : algebraic_Kernel3Ideal_Reference3Ideal (hKernel3Ideal := Kernel3Ideal.Gen.facts) (hReference3Ideal := Reference3Ideal.Gen.facts) :=
  fun m g m' g' _ h =>
    ⟨fun c => Kernel3Ideal.Ffn.layer m c,
      (θ_run Kernel3Ideal.defs _ _).mono (fun r hr c => ⟨(hr c).1.trans (Kernel3Ideal.Ffn.final m c), (hr c).2⟩) (Kernel3Ideal.Value.run_blocks m g),
      (θ_run Reference3Ideal.defs _ _).mono (fun r hr c => ⟨(hr c).1.trans
        (ffn_eq_sample m m' c (h c).1 (h c).2.1 (h c).2.2.1 (h c).2.2.2.1 (h c).2.2.2.2.1 (h c).2.2.2.2.2.1 (h c).2.2.2.2.2.2), (hr c).2⟩) (Reference3Ideal.Value.run m' g')⟩

end Cert.Proof
-- ==== Proof.ProjA.lean ====
module

public import proofs.«01_k».proof.Proof.Gen.Kernel4Ideal.Value
public import proofs.«01_k».proof.Proof.Proj

/-! # The input projection of the mLSTM layers: the arrays the call leaves

Each of the 64 grid points normalises 512 rows and multiplies them by the columns of both weight matrices. -/

@[expose] public section

noncomputable section

namespace Cert.Kernel4Ideal.Projection

open Cert.Kernel4Ideal Cert.Kernel4Ideal.Gen Cert.Kernel4Ideal.Value Cert.Rows Cert.Proj Idealize.SL.Sem
open Idealize.ShloMosaic hiding ix0 ix1 ix2 ix3 ix4 ix5 eq_ix1 eq_ix2 eq_ix3
open Idealize.ShloMosaic.TcCoe
open Idealize.ShloMosaic.ValueIdx
open Idealize.ShloMosaic.StableHlo
open scoped BigOperators

variable (m : (ℓ : Loc nD τ sig) → Buf (Elt Ideal) ℓ)

/-! ## One point -/

/-- The normalised rows of a point's tile. -/
theorem norm_apply (x : FVec Ideal S512x1024 .f32) (g : FVec Ideal S1x1024 .f32) (r : Fin 512) (d : Fin 1024) :
    k0_pay6 (F := Ideal) x g (ix2 r d) = rmsRow (fun d => x (ix2 r d)) (fun d => g (ix2 0 d)) d := by
  unfold k0_pay6
  simp only [shapeCast_self]
  exact rms_apply x g _ _ _ _ _ _ r d

/-- A chunk of 512 columns of a weight matrix lies inside it. -/
theorem chunkInb {M N R : ℕ} (o : ℕ) (hR : R ≤ M) (h : o + 512 ≤ N) :
    ∀ a : Fin 2, (![0, o] : Fin 2 → ℕ) a + (![R, 512] : Fin 2 → ℕ) a ≤ (![M, N] : Fin 2 → ℕ) a := fun a => by
  match a with
  | ⟨0, _⟩ => show 0 + R ≤ M; omega
  | ⟨1, _⟩ => exact h

/-- The store of the projection's columns from `o` on. -/
def piece {N : ℕ} (x : FVec Ideal S512x1024 .f32) (g : FVec Ideal S1x1024 .f32) (w : FVec Ideal ⟨2, ![1024, N]⟩ .bf16) (o : ℕ) (h : o + 512 ≤ N) :
    View.Piece (Elt Ideal) (⟨2, ![512, N]⟩ : Shape) .bf16 :=
  ⟨Rect.unit ![0, o] ![512, 512] (chunkInb o le_rfl h),
    k0_pay1 (F := Ideal) (k0_pay6 (View.ld x r0_0) (View.ld g r0_1))
      (View.ld (Val := Elt Ideal) (e' := .bf16) (S := ⟨2, ![1024, N]⟩) w (Rect.unit ![0, o] ![1024, 512] (chunkInb o le_rfl h)))⟩

/-- A whole block loaded is the block. -/
theorem ld_x (x : FVec Ideal S512x1024 .f32) : View.ld (Val := Elt Ideal) (e' := .f32) x r0_0 = x := by
  funext i
  obtain ⟨r, d, rfl⟩ : ∃ (r : Fin 512) (d : Fin 1024), i = ix2 r d := ⟨i 0, i 1, eq_ix2 i⟩
  exact congrArg x (funext fun a => Fin.ext (by
    match a with
    | ⟨0, _⟩ => show 0 + 1 * r.val = r.val; omega
    | ⟨1, _⟩ => show 0 + 1 * d.val = d.val; omega))
theorem ld_g (g : FVec Ideal S1x1024 .f32) : View.ld (Val := Elt Ideal) (e' := .f32) g r0_1 = g := by
  funext i
  obtain ⟨r, d, rfl⟩ : ∃ (r : Fin 1) (d : Fin 1024), i = ix2 r d := ⟨i 0, i 1, eq_ix2 i⟩
  exact congrArg g (funext fun a => Fin.ext (by
    match a with
    | ⟨0, _⟩ => show 0 + 1 * r.val = r.val; omega
    | ⟨1, _⟩ => show 0 + 1 * d.val = d.val; omega))

/-- A point's columns of a projection as a plain function. -/
def colVal {N : ℕ} (x : FVec Ideal S512x1024 .f32) (g : FVec Ideal S1x1024 .f32) (w : FVec Ideal ⟨2, ![1024, N]⟩ .bf16) (r : Fin 512) (f : Fin N) : EReal :=
  ∑ d, rmsRow (fun d => x (ix2 r d)) (fun d => g (ix2 0 d)) d * w (ix2 d f)

/-- A store holds its columns of the projection. -/
theorem piece_apply {N : ℕ} (x : FVec Ideal S512x1024 .f32) (g : FVec Ideal S1x1024 .f32) (w : FVec Ideal ⟨2, ![1024, N]⟩ .bf16) (o : ℕ) (h : o + 512 ≤ N)
    (i : (piece x g w o h).1.shape.Idx) :
    (piece x g w o h).2 i = colVal x g w ((piece x g w o h).1.emb i 0) ((piece x g w o h).1.emb i 1) := by
  obtain ⟨r, c, rfl⟩ : ∃ (r : Fin 512) (c : Fin 512), i = ix2 r c := ⟨i 0, i 1, eq_ix2 i⟩
  have e0 : (piece x g w o h).1.emb (ix2 r c) 0 = r := Fin.ext (by show 0 + 1 * r.val = r.val; omega)
  have e1 : (piece x g w o h).1.emb (ix2 r c) 1 = (⟨o + c.val, by omega⟩ : Fin N) := Fin.ext (by show o + 1 * c.val = o + c.val; omega)
  rw [e0, e1]
  show k0_pay1 (F := Ideal) _ _ (ix2 r c) = _
  unfold k0_pay1
  rw [ld_x, ld_g]
  simp only [shapeCast_self]
  refine (Ideal.matmul_plain_apply (φ₂ := .bf16) none _ _ _ r c).trans ?_
  rw [constant_apply, Ideal.ofBits_zero_f32, zero_add]
  refine Finset.sum_congr rfl fun d _ => congrArg₂ (· * ·) (norm_apply x g r d) ?_
  exact congrArg w (funext fun a => Fin.ext (by
    match a with
    | ⟨0, _⟩ => show 0 + 1 * d.val = d.val; omega
    | ⟨1, _⟩ => show o + 1 * c.val = o + c.val; omega))

/-- The stores of a point into the main columns. -/
theorem outMain_eq (x : FVec Ideal S512x1024 .f32) (g : FVec Ideal S1x1024 .f32) (w : FVec Ideal S1024x3584 .bf16) (w' : FVec Ideal S1024x256 .bf16) :
    out0_4 (F := Ideal) x g w w' = View.canon [piece x g w 3072 (by omega), piece x g w 2560 (by omega), piece x g w 2048 (by omega),
      piece x g w 1536 (by omega), piece x g w 1024 (by omega), piece x g w 512 (by omega), piece x g w 0 (by omega)] := rfl

/-- A point's main columns. -/
theorem outMain_apply (x : FVec Ideal S512x1024 .f32) (g : FVec Ideal S1x1024 .f32) (w : FVec Ideal S1024x3584 .bf16) (w' : FVec Ideal S1024x256 .bf16)
    (r : Fin 512) (f : Fin 3584) : out0_4 (F := Ideal) x g w w' (ix2 r f) = colVal x g w r f := by
  rw [outMain_eq]
  refine View.canon_apply_of_pieces (Val := Elt Ideal) (e := .bf16) (fun y : S512x3584.Idx => colVal x g w (y 0) (y 1)) _ ?_ (ix2 r f) (cover0_4 _ _ _ _ _ _ _ _)
  simp only [List.forall_mem_cons]
  refine ⟨?_, ?_, ?_, ?_, ?_, ?_, ?_, fun p hp => absurd hp List.not_mem_nil⟩ <;> exact piece_apply x g w _ _

/-- A point's gate lanes. -/
theorem outGate_apply (x : FVec Ideal S512x1024 .f32) (g : FVec Ideal S1x1024 .f32) (w' : FVec Ideal S1024x3584 .bf16) (w : FVec Ideal S1024x256 .bf16)
    (r : Fin 512) (f : Fin 256) : out0_5 (F := Ideal) x g w' w (ix2 r f) = colVal x g w r f := by
  unfold out0_5
  refine View.canon_apply_of_pieces (Val := Elt Ideal) (e := .f32) (fun y : S512x256.Idx => colVal x g w (y 0) (y 1)) _ ?_ (ix2 r f) (cover0_5 _ _)
  simp only [List.forall_mem_cons]
  refine ⟨fun i => ?_, fun p hp => absurd hp List.not_mem_nil⟩
  obtain ⟨r, c, rfl⟩ : ∃ (r : Fin 512) (c : Fin 256), i = ix2 r c := ⟨i 0, i 1, eq_ix2 i⟩
  have e0 : r0_17.emb (ix2 r c) 0 = r := Fin.ext (by show 0 + 1 * r.val = r.val; omega)
  have e1 : r0_17.emb (ix2 r c) 1 = c := Fin.ext (by show 0 + 1 * c.val = c.val; omega)
  show k0_pay5 (F := Ideal) (k0_pay6 (View.ld x r0_0) (View.ld g r0_1)) (View.ld w r0_16) (ix2 r c) = colVal x g w (r0_17.emb (ix2 r c) 0) (r0_17.emb (ix2 r c) 1)
  rw [e0, e1]
  unfold k0_pay5
  rw [ld_x, ld_g]
  simp only [shapeCast_self]
  refine (Ideal.matmul_plain_apply (φ₂ := .bf16) none _ _ _ r c).trans ?_
  rw [constant_apply, Ideal.ofBits_zero_f32, zero_add]
  refine Finset.sum_congr rfl fun d _ => congrArg₂ (· * ·) (norm_apply x g r d) ?_
  exact congrArg w (funext fun a => Fin.ext (by
    match a with
    | ⟨0, _⟩ => show 0 + 1 * d.val = d.val; omega
    | ⟨1, _⟩ => show 0 + 1 * c.val = c.val; omega))

/-! ## Where the windows' blocks lie -/

theorem index0 : ∀ t : Fin cfg0.N, win0_0.index t = ![t.val, 0] := (by decide +kernel : ∀ t : Fin grid0.N, win0_0.index t = ![t.val, 0])
theorem index4 : ∀ t : Fin cfg0.N, win0_4.index t = ![t.val, 0] := (by decide +kernel : ∀ t : Fin grid0.N, win0_4.index t = ![t.val, 0])
theorem index5 : ∀ t : Fin cfg0.N, win0_5.index t = ![t.val, 0] := (by decide +kernel : ∀ t : Fin grid0.N, win0_5.index t = ![t.val, 0])
theorem index1 : ∀ t : Fin cfg0.N, win0_1.index t = fun _ => 0 := (by decide +kernel : ∀ t : Fin grid0.N, win0_1.index t = fun _ => 0)
theorem index2 : ∀ t : Fin cfg0.N, win0_2.index t = fun _ => 0 := (by decide +kernel : ∀ t : Fin grid0.N, win0_2.index t = fun _ => 0)
theorem index3 : ∀ t : Fin cfg0.N, win0_3.index t = fun _ => 0 := (by decide +kernel : ∀ t : Fin grid0.N, win0_3.index t = fun _ => 0)

/-- The row of the arrays that row `r` of tile `t` is. -/
def row (t : Fin cfg0.N) (r : Fin 512) : Fin 32768 := ⟨t.val * 512 + r.val, by have := t.isLt; have : cfg0.N = 64 := N_0; omega⟩

theorem iblk0 (c : Dev nD) (t : Fin cfg0.N) (r : Fin 512) (d : Fin 1024) : iblk m c 0 t (ix2 r d) = V m c main_v12 (ix2 (row t r) d) :=
  congrArg (V m c main_v12) (by
    have e := index0 t
    funext a; apply Fin.ext
    match a with
    | ⟨0, _⟩ => show win0_0.index t 0 * 512 + 1 * r.val = t.val * 512 + r.val; rw [e]; show t.val * 512 + _ = _; omega
    | ⟨1, _⟩ => show win0_0.index t 1 * 1024 + 1 * d.val = d.val; rw [e]; show 0 * 1024 + _ = _; omega)

/-- An index moved by a zero block index. -/
theorem emb_zero {k : ℕ} {i j : ℕ} (h : i = 0) : i * k + 1 * j = j := by subst h; omega

theorem iblk1 (c : Dev nD) (t : Fin cfg0.N) : iblk m c 1 t = V m c main_v13 := by
  funext j
  refine congrArg (V m c main_v13) (funext fun a => Fin.ext ?_)
  match a with
  | ⟨0, _⟩ => exact emb_zero (congrFun (index1 t) 0)
  | ⟨1, _⟩ => exact emb_zero (congrFun (index1 t) 1)
theorem iblk2 (c : Dev nD) (t : Fin cfg0.N) : iblk m c 2 t = V m c main_v3 := by
  funext j
  refine congrArg (V m c main_v3) (funext fun a => Fin.ext ?_)
  match a with
  | ⟨0, _⟩ => exact emb_zero (congrFun (index2 t) 0)
  | ⟨1, _⟩ => exact emb_zero (congrFun (index2 t) 1)
theorem iblk3 (c : Dev nD) (t : Fin cfg0.N) : iblk m c 3 t = V m c main_v11 := by
  funext j
  refine congrArg (V m c main_v11) (funext fun a => Fin.ext ?_)
  match a with
  | ⟨0, _⟩ => exact emb_zero (congrFun (index3 t) 0)
  | ⟨1, _⟩ => exact emb_zero (congrFun (index3 t) 1)

/-! ## The arrays -/

/-- The input rows. -/
def X (c : Dev nD) (R : Fin 32768) (d : Fin 1024) : EReal := V m c main_v12 (ix2 R d)
/-- The weights of the norm. -/
def G (c : Dev nD) (d : Fin 1024) : EReal := V m c main_v13 (ix2 0 d)

/-- The main columns as an array. -/
def mainArr (c : Dev nD) : FVec Ideal S32768x3584 .bf16 := fun i => proj (X m c) (G m c) (fun d f => V m c main_v3 (ix2 d f)) (i 0) (i 1)
/-- The gate lanes as an array. -/
def gateArr (c : Dev nD) : FVec Ideal S32768x256 .f32 := fun i => proj (X m c) (G m c) (fun d f => V m c main_v11 (ix2 d f)) (i 0) (i 1)

/-- A point's columns are its rows of the projection. -/
theorem colVal_eq {N : ℕ} (c : Dev nD) (t : Fin cfg0.N) (w : FVec Ideal ⟨2, ![1024, N]⟩ .bf16) (r : Fin 512) (f : Fin N) :
    colVal (iblk m c 0 t) (iblk m c 1 t) w r f = proj (X m c) (G m c) (fun d f => w (ix2 d f)) (row t r) f := by
  refine Finset.sum_congr rfl fun d _ => congrArg (· * w (ix2 d f)) ?_
  rw [iblk1]
  exact congrArg (fun v => rmsRow v (G m c) d) (funext fun d => iblk0 m c t r d)

theorem emb4 (t : Fin cfg0.N) (r : Fin 512) (f : Fin 3584) : ((cfg0.win 4).blk t).view.emb (ix2 r f) = ix2 (row t r) f := by
  have e := index4 t
  funext a; apply Fin.ext
  match a with
  | ⟨0, _⟩ => show win0_4.index t 0 * 512 + 1 * r.val = t.val * 512 + r.val; rw [e]; show t.val * 512 + _ = _; omega
  | ⟨1, _⟩ => show win0_4.index t 1 * 3584 + 1 * f.val = f.val; rw [e]; show 0 * 3584 + _ = _; omega
theorem emb5 (t : Fin cfg0.N) (r : Fin 512) (f : Fin 256) : ((cfg0.win 5).blk t).view.emb (ix2 r f) = ix2 (row t r) f := by
  have e := index5 t
  funext a; apply Fin.ext
  match a with
  | ⟨0, _⟩ => show win0_5.index t 0 * 512 + 1 * r.val = t.val * 512 + r.val; rw [e]; show t.val * 512 + _ = _; omega
  | ⟨1, _⟩ => show win0_5.index t 1 * 256 + 1 * f.val = f.val; rw [e]; show 0 * 256 + _ = _; omega

/-- What a point writes back is its block of the projection. -/
theorem flushed4_eq (c : Dev nD) (t : Fin cfg0.N) : (dats m 0 c).flushed 4 t = ((cfg0.win 4).blk t).view.read (Elt Ideal) (mainArr m c) := by
  rw [flushed4]
  funext j
  obtain ⟨r, f, rfl⟩ : ∃ (r : Fin 512) (f : Fin 3584), j = ix2 r f := ⟨j 0, j 1, eq_ix2 j⟩
  show out0_4 (F := Ideal) (iblk m c 0 t) (iblk m c 1 t) (iblk m c 2 t) (iblk m c 3 t) (ix2 r f) = mainArr m c (((cfg0.win 4).blk t).view.emb (ix2 r f))
  rw [emb4]
  refine (outMain_apply _ _ _ _ r f).trans ((colVal_eq m c t _ r f).trans ?_)
  rw [iblk2]; rfl
theorem flushed5_eq (c : Dev nD) (t : Fin cfg0.N) : (dats m 0 c).flushed 5 t = ((cfg0.win 5).blk t).view.read (Elt Ideal) (gateArr m c) := by
  rw [flushed5]
  funext j
  obtain ⟨r, f, rfl⟩ : ∃ (r : Fin 512) (f : Fin 256), j = ix2 r f := ⟨j 0, j 1, eq_ix2 j⟩
  show out0_5 (F := Ideal) (iblk m c 0 t) (iblk m c 1 t) (iblk m c 2 t) (iblk m c 3 t) (ix2 r f) = gateArr m c (((cfg0.win 5).blk t).view.emb (ix2 r f))
  rw [emb5]
  refine (outGate_apply _ _ _ _ r f).trans ((colVal_eq m c t _ r f).trans ?_)
  rw [iblk3]; rfl

/-- The point and the row of its tile that a row of the arrays lies in. -/
theorem row_exists (R : Fin 32768) : ∃ (t : Fin cfg0.N) (r : Fin 512), row t r = R :=
  ⟨⟨R.val / 512, by rw [show cfg0.N = 64 from N_0]; omega⟩, ⟨R.val % 512, Nat.mod_lt _ (by omega)⟩,
    Fin.ext (by show R.val / 512 * 512 + R.val % 512 = R.val; omega)⟩

/-- The main columns after the run. -/
theorem final4 (c : Dev nD) : (dats m 0 c).arrAt 4 cfg0.N = mainArr m c :=
  (dats m 0 c).arrAt_eq_of_cover 4 (mainArr m c) (fun t _ => flushed4_eq m c t) fun (i : S32768x3584.Idx) => by
    obtain ⟨R, f, rfl⟩ : ∃ (R : Fin 32768) (f : Fin 3584), i = ix2 R f := ⟨i 0, i 1, eq_ix2 i⟩
    obtain ⟨t, r, rfl⟩ := row_exists R
    exact ⟨t, flush0_4 _, emb4 t r f ▸ ((cfg0.win 4).blk t).view.emb_mem_set (ix2 r f)⟩
/-- The gate lanes after the run. -/
theorem final5 (c : Dev nD) : (dats m 0 c).arrAt 5 cfg0.N = gateArr m c :=
  (dats m 0 c).arrAt_eq_of_cover 5 (gateArr m c) (fun t _ => flushed5_eq m c t) fun (i : S32768x256.Idx) => by
    obtain ⟨R, f, rfl⟩ : ∃ (R : Fin 32768) (f : Fin 256), i = ix2 R f := ⟨i 0, i 1, eq_ix2 i⟩
    obtain ⟨t, r, rfl⟩ := row_exists R
    exact ⟨t, flush0_5 _, emb5 t r f ▸ ((cfg0.win 5).blk t).view.emb_mem_set (ix2 r f)⟩

/-! ## The arrays the launch finds -/

theorem V12 (c : Dev nD) : V m c main_v12 = shapeCast S32768x1024 (m ((c : Thread nD τ).loc main_arg0)) shapeCasts_S16x2048x1024_S32768x1024 := by
  simp only [V, hostOps0]; after_results_simp <;> rfl
theorem V13 (c : Dev nD) : V m c main_v13 = shapeCast S1x1024 (m ((c : Thread nD τ).loc main_arg1)) shapeCasts_S1024_S1x1024 := by
  simp only [V, hostOps0]; after_results_simp <;> rfl

theorem X_eq (c : Dev nD) (R : Fin 32768) (d : Fin 1024) :
    X m c R d = m ((c : Thread nD τ).loc main_arg0) (ix3 (⟨R.val / 2048, by omega⟩ : Fin 16) (⟨R.val % 2048, Nat.mod_lt _ (by omega)⟩ : Fin 2048) d) := by
  unfold X
  rw [V12]
  refine shapeCast_apply (s := S16x2048x1024) (t := S32768x1024) _ _ _ _ ?_
  rw [Shape.rowMajor_val_three, Shape.rowMajor_val_two]
  show (R.val / 2048 * 2048 + R.val % 2048) * 1024 + d.val = R.val * 1024 + d.val
  omega
theorem G_eq (c : Dev nD) (d : Fin 1024) : G m c d = m ((c : Thread nD τ).loc main_arg1) (ix1 d) := by
  unfold G; rw [V13]
  refine shapeCast_apply (s := S1024) (t := S1x1024) _ _ _ _ ?_
  rw [Shape.rowMajor_val_two, Shape.rowMajor_val_one]
  show d.val = 0 * 1024 + d.val
  omega

/-- Column `k` of the reference's projection that main column `f` is. -/
def mainCol (f : Fin 3584) : Fin 3600 := ⟨if f.val < 3072 then f.val else 3088 + (f.val - 3072), by split <;> omega⟩

/-- The main weights are columns of the weights. -/
theorem wMain_eq (c : Dev nD) (d : Fin 1024) (f : Fin 3584) :
    V m c main_v3 (ix2 d f) = m ((c : Thread nD τ).loc main_arg2) (ix2 d (mainCol f)) := by
  have e : V m c main_v3 = concatenate S1024x3584 1 [⟨S1024x3072, extractStridedSlice S1024x3072 ![0, 0] (m ((c : Thread nD τ).loc main_arg2)) slices_S1024x3600_S1024x3072_0_0⟩,
      ⟨S1024x512, extractStridedSlice S1024x512 ![0, 3088] (m ((c : Thread nD τ).loc main_arg2)) slices_S1024x3600_S1024x512_0_3088⟩] concatenates_S1024x3072_S1024x512_S1024x3584_d1 := by
    simp only [V, hostOps0]; after_results_simp <;> rfl
  rw [e]
  exact joinSlices (M := 1024) (K := 3600) (A := 3072) (B := 512) (C := 3584) 3088 _ _ _ rfl _ d f (mainCol f) rfl

/-- The gate weights are columns of the weights, and zero in the other lanes. -/
theorem wGate_eq (c : Dev nD) (d : Fin 1024) (f : Fin 256) :
    V m c main_v11 (ix2 d f) = (gateCol f).elim (0 : EReal) fun k => m ((c : Thread nD τ).loc main_arg2) (ix2 d (⟨3072 + k.val, by omega⟩ : Fin 3600)) := by
  have e : ∃ y : FVec Ideal S1024x16 .f32, y = extractStridedSlice S1024x16 ![0, 3072] (m ((c : Thread nD τ).loc main_arg2)) slices_S1024x3600_S1024x16_0_3072 ∧
      V m c main_v11 = concatenate S1024x256 1 [⟨S1024x4, extractStridedSlice S1024x4 ![0, 0] y slices_S1024x16_S1024x4_0_0⟩,
        ⟨S1024x4, extractStridedSlice S1024x4 ![0, 8] y slices_S1024x16_S1024x4_0_8⟩,
        ⟨S1024x120, broadcastInDim S1024x120 ![] bcast_S_S1024x120 (constant (F := Ideal) S_ .f32 0x00000000#32)⟩,
        ⟨S1024x4, extractStridedSlice S1024x4 ![0, 4] y slices_S1024x16_S1024x4_0_4⟩,
        ⟨S1024x4, extractStridedSlice S1024x4 ![0, 12] y slices_S1024x16_S1024x4_0_12⟩,
        ⟨S1024x120, broadcastInDim S1024x120 ![] bcast_S_S1024x120 (constant (F := Ideal) S_ .f32 0x00000000#32)⟩]
        concatenates_S1024x4_S1024x4_S1024x120_S1024x4_S1024x4_S1024x120_S1024x256_d1 := by
    refine ⟨_, rfl, ?_⟩
    simp only [V, hostOps0]; after_results_simp <;> rfl
  obtain ⟨y, hy, e⟩ := e
  rw [e]
  refine (twoTiles (M := 1024) y _ (0 : EReal) (fun i => Ideal.ofBits_zero_f32) _ _ _ _ _ d f).trans ?_
  rw [hy]
  congr 1
  funext k
  exact sliceCols 3072 _ _ d k _ rfl

end Cert.Kernel4Ideal.Projection
-- ==== Proof.ProjARef.lean ====
module

public import proofs.«01_k».proof.Proof.Gen.Reference4Ideal.Run
public import proofs.«01_k».proof.Proof.Gen.Reference4Ideal.Read
public import proofs.«01_k».proof.Proof.Proj

/-! # The reference of an input projection at a row and a column -/

@[expose] public section

noncomputable section

namespace Cert.Reference4Ideal.Projection

open Cert.Reference4Ideal Cert.Reference4Ideal.Gen Cert.Reference4Ideal.Read Cert.Rows Cert.Proj
open Idealize.ShloMosaic hiding ix0 ix1 ix2 ix3 ix4 ix5 eq_ix1 eq_ix2 eq_ix3
open Idealize.ShloMosaic.ValueIdx
open scoped BigOperators

variable (x0 : (⟨S16x2048x1024, .f32⟩ : BufTy).Contents (Elt Ideal)) (x1 : (⟨S1024, .f32⟩ : BufTy).Contents (Elt Ideal))
  (x2 : (⟨S1024x3600, .f32⟩ : BufTy).Contents (Elt Ideal))

/-- The sequence of a row. -/
def bq (R : Fin 32768) : Fin 16 := ⟨R.val / 2048, by omega⟩
/-- The position of a row in its sequence. -/
def sq (R : Fin 32768) : Fin 2048 := ⟨R.val % 2048, Nat.mod_lt _ (by omega)⟩
/-- The input rows. -/
def X (R : Fin 32768) (d : Fin 1024) : EReal := x0 (ix3 (bq R) (sq R) d)
/-- The weights of the norm. -/
def G (d : Fin 1024) : EReal := x1 (ix1 d)

/-- The norm. -/
theorem norm_apply (R : Fin 32768) (d : Fin 1024) :
    val_main_v12 (F := Ideal) x0 x1 (ix3 (bq R) (sq R) d) = rmsRow (X x0 R) (G x1) d := by
  rw [val_main_v12_apply, val_main_v9_apply, val_main_v8_apply, val_main_v11_apply, val_main_v10_apply, val_main_v7_apply,
    val_main_v6_apply, val_main_v5_apply, val_main_v4_apply, val_main_v3_apply, val_main_v2_apply, val_main_v1_apply,
    val_main_cst_apply, val_main_cst_0_apply, val_main_cst_1_apply]
  have hs : ∀ k : Fin 1024, val_main_v0 (F := Ideal) x0 (idx_main_v1 (idx_main_v2 (idx_main_v8 (ix3 (bq R) (sq R) d))) k) = X x0 R k * X x0 R k := fun k => by
    rw [show idx_main_v1 (idx_main_v2 (idx_main_v8 (ix3 (bq R) (sq R) d))) k = ix3 (bq R) (sq R) k from eq_ix3 _]; rfl
  rw [show idx_main_v10 (idx_main_v11 (ix3 (bq R) (sq R) d)) = ix1 d from eq_ix1 _, Finset.sum_congr rfl fun k _ => hs k]
  show X x0 R d * Ideal.rsqrt (Ideal.div (Ideal.ofBits .f32 0x00000000#32 + _) width + eps) * G x1 d = _
  rw [Ideal.ofBits_zero_f32, zero_add]; rfl

/-- The projection, as rows. -/
theorem proj_apply (R : Fin 32768) (f : Fin 3600) :
    val_main_v14 (F := Ideal) x0 x1 x2 (ix2 R f) = proj (X x0) (G x1) (fun d f => x2 (ix2 d f)) R f := by
  unfold val_main_v14
  refine (shapeCast_apply (s := S16x2048x3600) (t := S32768x3600) _ _ _ (ix3 (bq R) (sq R) f) ?_).trans ?_
  · rw [Shape.rowMajor_val_three, Shape.rowMajor_val_two]
    show (R.val / 2048 * 2048 + R.val % 2048) * 3600 + f.val = R.val * 3600 + f.val
    omega
  rw [val_main_v13_apply]
  refine Finset.sum_congr rfl fun k _ => ?_
  rw [show lidx_main_v13 (ix3 (bq R) (sq R) f) k = ix3 (bq R) (sq R) k from eq_ix3 _, norm_apply,
    show ridx_main_v13 (ix3 (bq R) (sq R) f) k = ix2 k f from eq_ix2 _]

/-- The main columns. -/
theorem main_apply (R : Fin 32768) (f : Fin 3584) (k : Fin 3600) (hk : k.val = if f.val < 3072 then f.val else 3088 + (f.val - 3072)) :
    val_main_v18 (F := Ideal) x0 x1 x2 (ix2 R f) = proj (X x0) (G x1) (fun d f => x2 (ix2 d f)) R k :=
  (joinSlices (M := 32768) (K := 3600) (A := 3072) (B := 512) (C := 3584) 3088 (val_main_v14 (F := Ideal) x0 x1 x2) _ _ rfl concatenates_S32768x3072_S32768x512_S32768x3584_d1 R f k hk).trans
    (proj_apply x0 x1 x2 R k)

/-- The gate lanes. -/
theorem gate_apply (R : Fin 32768) (f : Fin 256) :
    val_main_v25 (F := Ideal) x0 x1 x2 (ix2 R f)
      = (gateCol f).elim (0 : EReal) fun k => proj (X x0) (G x1) (fun d f => x2 (ix2 d f)) R ⟨3072 + k.val, by omega⟩ := by
  refine (twoTiles (M := 32768) (val_main_v19 (F := Ideal) x0 x1 x2) (val_main_v20 (F := Ideal)) (0 : EReal) (fun i => Ideal.ofBits_zero_f32) _ _ _ _ _ R f).trans ?_
  congr 1
  funext k
  exact (sliceCols 3072 (val_main_v14 (F := Ideal) x0 x1 x2) _ R k _ rfl).trans (proj_apply x0 x1 x2 R _)

end Cert.Reference4Ideal.Projection
-- ==== Proof.AlgebraicA.lean ====
module

public import proofs.«01_k».proof.Defs
public import proofs.«01_k».proof.Proof.ProjA
public import proofs.«01_k».proof.Proof.ProjARef

/-! # The mLSTM layers' input projection and its reference compute the same arrays -/

@[expose] public section

noncomputable section

namespace Cert.Proof

open Idealize.ShloMosaic hiding ix0 ix1 ix2 ix3 ix4 ix5 eq_ix1 eq_ix2 eq_ix3
open Idealize.ShloMosaic.ValueIdx
open Idealize.SL.Sem
open Cert.Proj

section ProjA
variable (m : (ℓ : Loc Kernel4Ideal.nD Kernel4Ideal.τ Kernel4Ideal.sig) → Buf (Elt Ideal) ℓ)
    (m' : (ℓ : Loc Reference4Ideal.nD Reference4Ideal.τ Reference4Ideal.sig) → Buf (Elt Ideal) ℓ) (c : Dev Kernel4Ideal.nD)
    (h0 : m' ((c.tc : Thread Reference4Ideal.nD Reference4Ideal.τ).loc Reference4Ideal.main_arg0) = m ((c.tc : Thread Kernel4Ideal.nD Kernel4Ideal.τ).loc Kernel4Ideal.main_arg0))
    (h1 : m' ((c.tc : Thread Reference4Ideal.nD Reference4Ideal.τ).loc Reference4Ideal.main_arg1) = m ((c.tc : Thread Kernel4Ideal.nD Kernel4Ideal.τ).loc Kernel4Ideal.main_arg1))
    (h2 : m' ((c.tc : Thread Reference4Ideal.nD Reference4Ideal.τ).loc Reference4Ideal.main_arg2) = m ((c.tc : Thread Kernel4Ideal.nD Kernel4Ideal.τ).loc Kernel4Ideal.main_arg2))

include h0 h1 h2

/-- The reference's main columns are the kernel's. -/
theorem projA_main : Reference4Ideal.Read.val_main_v18 (F := Ideal) (m' ((c.tc : Thread Reference4Ideal.nD Reference4Ideal.τ).loc Reference4Ideal.main_arg0))
    (m' ((c.tc : Thread Reference4Ideal.nD Reference4Ideal.τ).loc Reference4Ideal.main_arg1)) (m' ((c.tc : Thread Reference4Ideal.nD Reference4Ideal.τ).loc Reference4Ideal.main_arg2)) = Kernel4Ideal.Projection.mainArr m c := by
  rw [h0, h1, h2]
  funext i
  obtain ⟨R, f, rfl⟩ : ∃ (R : Fin 32768) (f : Fin 3584), i = ix2 R f := ⟨i 0, i 1, eq_ix2 i⟩
  refine (Reference4Ideal.Projection.main_apply _ _ _ R f (Kernel4Ideal.Projection.mainCol f) rfl).trans ?_
  show _ = proj (Kernel4Ideal.Projection.X m c) (Kernel4Ideal.Projection.G m c) (fun d f => Kernel4Ideal.Gen.V m c Kernel4Ideal.main_v3 (ix2 d f)) R f
  rw [show Kernel4Ideal.Projection.X m c = _ from funext fun R => funext fun d => Kernel4Ideal.Projection.X_eq m c R d,
    show Kernel4Ideal.Projection.G m c = _ from funext fun d => Kernel4Ideal.Projection.G_eq m c d,
    show (fun d f => Kernel4Ideal.Gen.V m c Kernel4Ideal.main_v3 (ix2 d f)) = _ from funext fun d => funext fun f => Kernel4Ideal.Projection.wMain_eq m c d f]
  rfl

/-- The reference's gate columns are the kernel's. -/
theorem projA_gate : Reference4Ideal.Read.val_main_v25 (F := Ideal) (m' ((c.tc : Thread Reference4Ideal.nD Reference4Ideal.τ).loc Reference4Ideal.main_arg0))
    (m' ((c.tc : Thread Reference4Ideal.nD Reference4Ideal.τ).loc Reference4Ideal.main_arg1)) (m' ((c.tc : Thread Reference4Ideal.nD Reference4Ideal.τ).loc Reference4Ideal.main_arg2)) = Kernel4Ideal.Projection.gateArr m c := by
  rw [h0, h1, h2]
  funext i
  obtain ⟨R, f, rfl⟩ : ∃ (R : Fin 32768) (f : Fin 256), i = ix2 R f := ⟨i 0, i 1, eq_ix2 i⟩
  refine (Reference4Ideal.Projection.gate_apply _ _ _ R f).trans ?_
  show _ = proj (Kernel4Ideal.Projection.X m c) (Kernel4Ideal.Projection.G m c) (fun d f => Kernel4Ideal.Gen.V m c Kernel4Ideal.main_v11 (ix2 d f)) R f
  rw [show Kernel4Ideal.Projection.X m c = _ from funext fun R => funext fun d => Kernel4Ideal.Projection.X_eq m c R d,
    show Kernel4Ideal.Projection.G m c = _ from funext fun d => Kernel4Ideal.Projection.G_eq m c d,
    show (fun d f => Kernel4Ideal.Gen.V m c Kernel4Ideal.main_v11 (ix2 d f)) = _ from funext fun d => funext fun f => Kernel4Ideal.Projection.wGate_eq m c d f]
  unfold proj
  dsimp only
  cases gateCol f with
  | none => exact (Finset.sum_eq_zero fun d _ => mul_zero _).symm
  | some k => rfl

end ProjA

/-- The kernel's result arrays are the reference's. -/
theorem algebraicA : algebraic_Kernel4Ideal_Reference4Ideal (hKernel4Ideal := Kernel4Ideal.Gen.facts) (hReference4Ideal := Reference4Ideal.Gen.facts) :=
  fun m g m' g' _ h =>
    ⟨fun c => Kernel4Ideal.Projection.mainArr m c, fun c => Kernel4Ideal.Projection.gateArr m c,
      (θ_run Kernel4Ideal.defs _ _).mono (fun r hr c => ⟨(hr c).1.trans (Kernel4Ideal.Projection.final4 m c), (hr c).2.1.trans (Kernel4Ideal.Projection.final5 m c), (hr c).2.2⟩) (Kernel4Ideal.Value.run_blocks m g),
      (θ_run Reference4Ideal.defs _ _).mono (fun r hr c => ⟨((hr c).1.trans (Reference4Ideal.Read.val_main_v18_eq _ _ _)).trans (projA_main m m' c (h c).1 (h c).2.1 (h c).2.2),
        ((hr c).2.1.trans (Reference4Ideal.Read.val_main_v25_eq m' c)).trans (projA_gate m m' c (h c).1 (h c).2.1 (h c).2.2), (hr c).2.2⟩) (Reference4Ideal.Value.run m' g')⟩

end Cert.Proof
-- ==== Proof.ProjB.lean ====
module

public import proofs.«01_k».proof.Proof.Gen.Kernel5Ideal.Value
public import proofs.«01_k».proof.Proof.Proj

/-! # The input projection of the gated recurrent layers: the arrays the call leaves

Each of the 64 grid points normalises 512 rows and multiplies them by the columns of both weight matrices. -/

@[expose] public section

noncomputable section

namespace Cert.Kernel5Ideal.Projection

open Cert.Kernel5Ideal Cert.Kernel5Ideal.Gen Cert.Kernel5Ideal.Value Cert.Rows Cert.Proj Idealize.SL.Sem
open Idealize.ShloMosaic hiding ix0 ix1 ix2 ix3 ix4 ix5 eq_ix1 eq_ix2 eq_ix3
open Idealize.ShloMosaic.TcCoe
open Idealize.ShloMosaic.ValueIdx
open Idealize.ShloMosaic.StableHlo
open scoped BigOperators

variable (m : (ℓ : Loc nD τ sig) → Buf (Elt Ideal) ℓ)

/-! ## One point -/

/-- The normalised rows of a point's tile. -/
theorem norm_apply (x : FVec Ideal S512x1024 .f32) (g : FVec Ideal S1x1024 .f32) (r : Fin 512) (d : Fin 1024) :
    k0_pay3 (F := Ideal) x g (ix2 r d) = rmsRow (fun d => x (ix2 r d)) (fun d => g (ix2 0 d)) d := by
  unfold k0_pay3
  simp only [shapeCast_self]
  exact rms_apply x g _ _ _ _ _ _ r d

/-- A chunk of 512 columns of a weight matrix lies inside it. -/
theorem chunkInb {M N R : ℕ} (o : ℕ) (hR : R ≤ M) (h : o + 512 ≤ N) :
    ∀ a : Fin 2, (![0, o] : Fin 2 → ℕ) a + (![R, 512] : Fin 2 → ℕ) a ≤ (![M, N] : Fin 2 → ℕ) a := fun a => by
  match a with
  | ⟨0, _⟩ => show 0 + R ≤ M; omega
  | ⟨1, _⟩ => exact h

/-- The store of the projection's columns from `o` on. -/
def piece {N : ℕ} (x : FVec Ideal S512x1024 .f32) (g : FVec Ideal S1x1024 .f32) (w : FVec Ideal ⟨2, ![1024, N]⟩ .bf16) (o : ℕ) (h : o + 512 ≤ N) :
    View.Piece (Elt Ideal) (⟨2, ![512, N]⟩ : Shape) .bf16 :=
  ⟨Rect.unit ![0, o] ![512, 512] (chunkInb o le_rfl h),
    k0_pay7 (F := Ideal) (k0_pay3 (View.ld x r0_0) (View.ld g r0_1))
      (View.ld (Val := Elt Ideal) (e' := .bf16) (S := ⟨2, ![1024, N]⟩) w (Rect.unit ![0, o] ![1024, 512] (chunkInb o le_rfl h)))⟩

/-- The store of the gates' columns from `o` on. -/
def pieceGate {N : ℕ} (x : FVec Ideal S512x1024 .f32) (g : FVec Ideal S1x1024 .f32) (w : FVec Ideal ⟨2, ![1024, N]⟩ .bf16) (o : ℕ) (h : o + 512 ≤ N) :
    View.Piece (Elt Ideal) (⟨2, ![512, N]⟩ : Shape) .f32 :=
  ⟨Rect.unit ![0, o] ![512, 512] (chunkInb o le_rfl h),
    k0_pay11 (F := Ideal) (k0_pay3 (View.ld x r0_0) (View.ld g r0_1))
      (View.ld (Val := Elt Ideal) (e' := .bf16) (S := ⟨2, ![1024, N]⟩) w (Rect.unit ![0, o] ![1024, 512] (chunkInb o le_rfl h)))⟩

/-- A whole block loaded is the block. -/
theorem ld_x (x : FVec Ideal S512x1024 .f32) : View.ld (Val := Elt Ideal) (e' := .f32) x r0_0 = x := by
  funext i
  obtain ⟨r, d, rfl⟩ : ∃ (r : Fin 512) (d : Fin 1024), i = ix2 r d := ⟨i 0, i 1, eq_ix2 i⟩
  exact congrArg x (funext fun a => Fin.ext (by
    match a with
    | ⟨0, _⟩ => show 0 + 1 * r.val = r.val; omega
    | ⟨1, _⟩ => show 0 + 1 * d.val = d.val; omega))
theorem ld_g (g : FVec Ideal S1x1024 .f32) : View.ld (Val := Elt Ideal) (e' := .f32) g r0_1 = g := by
  funext i
  obtain ⟨r, d, rfl⟩ : ∃ (r : Fin 1) (d : Fin 1024), i = ix2 r d := ⟨i 0, i 1, eq_ix2 i⟩
  exact congrArg g (funext fun a => Fin.ext (by
    match a with
    | ⟨0, _⟩ => show 0 + 1 * r.val = r.val; omega
    | ⟨1, _⟩ => show 0 + 1 * d.val = d.val; omega))

/-- A point's columns of a projection as a plain function. -/
def colVal {N : ℕ} (x : FVec Ideal S512x1024 .f32) (g : FVec Ideal S1x1024 .f32) (w : FVec Ideal ⟨2, ![1024, N]⟩ .bf16) (r : Fin 512) (f : Fin N) : EReal :=
  ∑ d, rmsRow (fun d => x (ix2 r d)) (fun d => g (ix2 0 d)) d * w (ix2 d f)

/-- A store holds its columns of the projection. -/
theorem piece_apply {N : ℕ} (x : FVec Ideal S512x1024 .f32) (g : FVec Ideal S1x1024 .f32) (w : FVec Ideal ⟨2, ![1024, N]⟩ .bf16) (o : ℕ) (h : o + 512 ≤ N)
    (i : (piece x g w o h).1.shape.Idx) :
    (piece x g w o h).2 i = colVal x g w ((piece x g w o h).1.emb i 0) ((piece x g w o h).1.emb i 1) := by
  obtain ⟨r, c, rfl⟩ : ∃ (r : Fin 512) (c : Fin 512), i = ix2 r c := ⟨i 0, i 1, eq_ix2 i⟩
  have e0 : (piece x g w o h).1.emb (ix2 r c) 0 = r := Fin.ext (by show 0 + 1 * r.val = r.val; omega)
  have e1 : (piece x g w o h).1.emb (ix2 r c) 1 = (⟨o + c.val, by omega⟩ : Fin N) := Fin.ext (by show o + 1 * c.val = o + c.val; omega)
  rw [e0, e1]
  show k0_pay7 (F := Ideal) _ _ (ix2 r c) = _
  unfold k0_pay7
  rw [ld_x, ld_g]
  simp only [shapeCast_self]
  refine (Ideal.matmul_plain_apply (φ₂ := .bf16) none _ _ _ r c).trans ?_
  rw [constant_apply, Ideal.ofBits_zero_f32, zero_add]
  refine Finset.sum_congr rfl fun d _ => congrArg₂ (· * ·) (norm_apply x g r d) ?_
  exact congrArg w (funext fun a => Fin.ext (by
    match a with
    | ⟨0, _⟩ => show 0 + 1 * d.val = d.val; omega
    | ⟨1, _⟩ => show o + 1 * c.val = o + c.val; omega))

/-- The stores of a point into the main columns. -/
theorem outMain_eq (x : FVec Ideal S512x1024 .f32) (g : FVec Ideal S1x1024 .f32) (w : FVec Ideal S1024x3584 .bf16) (w' : FVec Ideal S1024x2048 .bf16) :
    out0_4 (F := Ideal) x g w w' = View.canon [piece x g w 3072 (by omega), piece x g w 2560 (by omega), piece x g w 2048 (by omega),
      piece x g w 1536 (by omega), piece x g w 1024 (by omega), piece x g w 512 (by omega), piece x g w 0 (by omega)] := rfl

/-- A point's main columns. -/
theorem outMain_apply (x : FVec Ideal S512x1024 .f32) (g : FVec Ideal S1x1024 .f32) (w : FVec Ideal S1024x3584 .bf16) (w' : FVec Ideal S1024x2048 .bf16)
    (r : Fin 512) (f : Fin 3584) : out0_4 (F := Ideal) x g w w' (ix2 r f) = colVal x g w r f := by
  rw [outMain_eq]
  refine View.canon_apply_of_pieces (Val := Elt Ideal) (e := .bf16) (fun y : S512x3584.Idx => colVal x g w (y 0) (y 1)) _ ?_ (ix2 r f) (cover0_4 _ _ _ _ _ _ _ _)
  simp only [List.forall_mem_cons]
  refine ⟨?_, ?_, ?_, ?_, ?_, ?_, ?_, fun p hp => absurd hp List.not_mem_nil⟩ <;> exact piece_apply x g w _ _

/-- A store of gates holds its columns of the projection. -/
theorem pieceGate_apply {N : ℕ} (x : FVec Ideal S512x1024 .f32) (g : FVec Ideal S1x1024 .f32) (w : FVec Ideal ⟨2, ![1024, N]⟩ .bf16) (o : ℕ) (h : o + 512 ≤ N)
    (i : (pieceGate x g w o h).1.shape.Idx) :
    (pieceGate x g w o h).2 i = colVal x g w ((pieceGate x g w o h).1.emb i 0) ((pieceGate x g w o h).1.emb i 1) := by
  obtain ⟨r, c, rfl⟩ : ∃ (r : Fin 512) (c : Fin 512), i = ix2 r c := ⟨i 0, i 1, eq_ix2 i⟩
  have e0 : (pieceGate x g w o h).1.emb (ix2 r c) 0 = r := Fin.ext (by show 0 + 1 * r.val = r.val; omega)
  have e1 : (pieceGate x g w o h).1.emb (ix2 r c) 1 = (⟨o + c.val, by omega⟩ : Fin N) := Fin.ext (by show o + 1 * c.val = o + c.val; omega)
  rw [e0, e1]
  show k0_pay11 (F := Ideal) _ _ (ix2 r c) = _
  unfold k0_pay11
  rw [ld_x, ld_g]
  simp only [shapeCast_self]
  refine (Ideal.matmul_plain_apply (φ₂ := .bf16) none _ _ _ r c).trans ?_
  rw [constant_apply, Ideal.ofBits_zero_f32, zero_add]
  refine Finset.sum_congr rfl fun d _ => congrArg₂ (· * ·) (norm_apply x g r d) ?_
  exact congrArg w (funext fun a => Fin.ext (by
    match a with
    | ⟨0, _⟩ => show 0 + 1 * d.val = d.val; omega
    | ⟨1, _⟩ => show o + 1 * c.val = o + c.val; omega))

/-- A point's gate columns. -/
theorem outGate_apply (x : FVec Ideal S512x1024 .f32) (g : FVec Ideal S1x1024 .f32) (w' : FVec Ideal S1024x3584 .bf16) (w : FVec Ideal S1024x2048 .bf16)
    (r : Fin 512) (f : Fin 2048) : out0_5 (F := Ideal) x g w' w (ix2 r f) = colVal x g w r f := by
  have e : out0_5 (F := Ideal) x g w' w = View.canon [pieceGate x g w 1536 (by omega), pieceGate x g w 1024 (by omega), pieceGate x g w 512 (by omega),
    pieceGate x g w 0 (by omega)] := rfl
  rw [e]
  refine View.canon_apply_of_pieces (Val := Elt Ideal) (e := .f32) (fun y : S512x2048.Idx => colVal x g w (y 0) (y 1)) _ ?_ (ix2 r f) (cover0_5 _ _ _ _ _)
  simp only [List.forall_mem_cons]
  refine ⟨?_, ?_, ?_, ?_, fun p hp => absurd hp List.not_mem_nil⟩ <;> exact pieceGate_apply x g w _ _

/-! ## Where the windows' blocks lie -/

theorem index0 : ∀ t : Fin cfg0.N, win0_0.index t = ![t.val, 0] := (by decide +kernel : ∀ t : Fin grid0.N, win0_0.index t = ![t.val, 0])
theorem index4 : ∀ t : Fin cfg0.N, win0_4.index t = ![t.val, 0] := (by decide +kernel : ∀ t : Fin grid0.N, win0_4.index t = ![t.val, 0])
theorem index5 : ∀ t : Fin cfg0.N, win0_5.index t = ![t.val, 0] := (by decide +kernel : ∀ t : Fin grid0.N, win0_5.index t = ![t.val, 0])
theorem index1 : ∀ t : Fin cfg0.N, win0_1.index t = fun _ => 0 := (by decide +kernel : ∀ t : Fin grid0.N, win0_1.index t = fun _ => 0)
theorem index2 : ∀ t : Fin cfg0.N, win0_2.index t = fun _ => 0 := (by decide +kernel : ∀ t : Fin grid0.N, win0_2.index t = fun _ => 0)
theorem index3 : ∀ t : Fin cfg0.N, win0_3.index t = fun _ => 0 := (by decide +kernel : ∀ t : Fin grid0.N, win0_3.index t = fun _ => 0)

/-- The row of the arrays that row `r` of tile `t` is. -/
def row (t : Fin cfg0.N) (r : Fin 512) : Fin 32768 := ⟨t.val * 512 + r.val, by have := t.isLt; have : cfg0.N = 64 := N_0; omega⟩

theorem iblk0 (c : Dev nD) (t : Fin cfg0.N) (r : Fin 512) (d : Fin 1024) : iblk m c 0 t (ix2 r d) = V m c main_v6 (ix2 (row t r) d) :=
  congrArg (V m c main_v6) (by
    have e := index0 t
    funext a; apply Fin.ext
    match a with
    | ⟨0, _⟩ => show win0_0.index t 0 * 512 + 1 * r.val = t.val * 512 + r.val; rw [e]; show t.val * 512 + _ = _; omega
    | ⟨1, _⟩ => show win0_0.index t 1 * 1024 + 1 * d.val = d.val; rw [e]; show 0 * 1024 + _ = _; omega)

/-- An index moved by a zero block index. -/
theorem emb_zero {k : ℕ} {i j : ℕ} (h : i = 0) : i * k + 1 * j = j := by subst h; omega

theorem iblk1 (c : Dev nD) (t : Fin cfg0.N) : iblk m c 1 t = V m c main_v7 := by
  funext j
  refine congrArg (V m c main_v7) (funext fun a => Fin.ext ?_)
  match a with
  | ⟨0, _⟩ => exact emb_zero (congrFun (index1 t) 0)
  | ⟨1, _⟩ => exact emb_zero (congrFun (index1 t) 1)
theorem iblk2 (c : Dev nD) (t : Fin cfg0.N) : iblk m c 2 t = V m c main_v3 := by
  funext j
  refine congrArg (V m c main_v3) (funext fun a => Fin.ext ?_)
  match a with
  | ⟨0, _⟩ => exact emb_zero (congrFun (index2 t) 0)
  | ⟨1, _⟩ => exact emb_zero (congrFun (index2 t) 1)
theorem iblk3 (c : Dev nD) (t : Fin cfg0.N) : iblk m c 3 t = V m c main_v5 := by
  funext j
  refine congrArg (V m c main_v5) (funext fun a => Fin.ext ?_)
  match a with
  | ⟨0, _⟩ => exact emb_zero (congrFun (index3 t) 0)
  | ⟨1, _⟩ => exact emb_zero (congrFun (index3 t) 1)

/-! ## The arrays -/

/-- The input rows. -/
def X (c : Dev nD) (R : Fin 32768) (d : Fin 1024) : EReal := V m c main_v6 (ix2 R d)
/-- The weights of the norm. -/
def G (c : Dev nD) (d : Fin 1024) : EReal := V m c main_v7 (ix2 0 d)

/-- The main columns as an array. -/
def mainArr (c : Dev nD) : FVec Ideal S32768x3584 .bf16 := fun i => proj (X m c) (G m c) (fun d f => V m c main_v3 (ix2 d f)) (i 0) (i 1)
/-- The gate lanes as an array. -/
def gateArr (c : Dev nD) : FVec Ideal S32768x2048 .f32 := fun i => proj (X m c) (G m c) (fun d f => V m c main_v5 (ix2 d f)) (i 0) (i 1)

/-- A point's columns are its rows of the projection. -/
theorem colVal_eq {N : ℕ} (c : Dev nD) (t : Fin cfg0.N) (w : FVec Ideal ⟨2, ![1024, N]⟩ .bf16) (r : Fin 512) (f : Fin N) :
    colVal (iblk m c 0 t) (iblk m c 1 t) w r f = proj (X m c) (G m c) (fun d f => w (ix2 d f)) (row t r) f := by
  refine Finset.sum_congr rfl fun d _ => congrArg (· * w (ix2 d f)) ?_
  rw [iblk1]
  exact congrArg (fun v => rmsRow v (G m c) d) (funext fun d => iblk0 m c t r d)

theorem emb4 (t : Fin cfg0.N) (r : Fin 512) (f : Fin 3584) : ((cfg0.win 4).blk t).view.emb (ix2 r f) = ix2 (row t r) f := by
  have e := index4 t
  funext a; apply Fin.ext
  match a with
  | ⟨0, _⟩ => show win0_4.index t 0 * 512 + 1 * r.val = t.val * 512 + r.val; rw [e]; show t.val * 512 + _ = _; omega
  | ⟨1, _⟩ => show win0_4.index t 1 * 3584 + 1 * f.val = f.val; rw [e]; show 0 * 3584 + _ = _; omega
theorem emb5 (t : Fin cfg0.N) (r : Fin 512) (f : Fin 2048) : ((cfg0.win 5).blk t).view.emb (ix2 r f) = ix2 (row t r) f := by
  have e := index5 t
  funext a; apply Fin.ext
  match a with
  | ⟨0, _⟩ => show win0_5.index t 0 * 512 + 1 * r.val = t.val * 512 + r.val; rw [e]; show t.val * 512 + _ = _; omega
  | ⟨1, _⟩ => show win0_5.index t 1 * 2048 + 1 * f.val = f.val; rw [e]; show 0 * 2048 + _ = _; omega

/-- What a point writes back is its block of the projection. -/
theorem flushed4_eq (c : Dev nD) (t : Fin cfg0.N) : (dats m 0 c).flushed 4 t = ((cfg0.win 4).blk t).view.read (Elt Ideal) (mainArr m c) := by
  rw [flushed4]
  funext j
  obtain ⟨r, f, rfl⟩ : ∃ (r : Fin 512) (f : Fin 3584), j = ix2 r f := ⟨j 0, j 1, eq_ix2 j⟩
  show out0_4 (F := Ideal) (iblk m c 0 t) (iblk m c 1 t) (iblk m c 2 t) (iblk m c 3 t) (ix2 r f) = mainArr m c (((cfg0.win 4).blk t).view.emb (ix2 r f))
  rw [emb4]
  refine (outMain_apply _ _ _ _ r f).trans ((colVal_eq m c t _ r f).trans ?_)
  rw [iblk2]; rfl
theorem flushed5_eq (c : Dev nD) (t : Fin cfg0.N) : (dats m 0 c).flushed 5 t = ((cfg0.win 5).blk t).view.read (Elt Ideal) (gateArr m c) := by
  rw [flushed5]
  funext j
  obtain ⟨r, f, rfl⟩ : ∃ (r : Fin 512) (f : Fin 2048), j = ix2 r f := ⟨j 0, j 1, eq_ix2 j⟩
  show out0_5 (F := Ideal) (iblk m c 0 t) (iblk m c 1 t) (iblk m c 2 t) (iblk m c 3 t) (ix2 r f) = gateArr m c (((cfg0.win 5).blk t).view.emb (ix2 r f))
  rw [emb5]
  refine (outGate_apply _ _ _ _ r f).trans ((colVal_eq m c t _ r f).trans ?_)
  rw [iblk3]; rfl

/-- The point and the row of its tile that a row of the arrays lies in. -/
theorem row_exists (R : Fin 32768) : ∃ (t : Fin cfg0.N) (r : Fin 512), row t r = R :=
  ⟨⟨R.val / 512, by rw [show cfg0.N = 64 from N_0]; omega⟩, ⟨R.val % 512, Nat.mod_lt _ (by omega)⟩,
    Fin.ext (by show R.val / 512 * 512 + R.val % 512 = R.val; omega)⟩

/-- The main columns after the run. -/
theorem final4 (c : Dev nD) : (dats m 0 c).arrAt 4 cfg0.N = mainArr m c :=
  (dats m 0 c).arrAt_eq_of_cover 4 (mainArr m c) (fun t _ => flushed4_eq m c t) fun (i : S32768x3584.Idx) => by
    obtain ⟨R, f, rfl⟩ : ∃ (R : Fin 32768) (f : Fin 3584), i = ix2 R f := ⟨i 0, i 1, eq_ix2 i⟩
    obtain ⟨t, r, rfl⟩ := row_exists R
    exact ⟨t, flush0_4 _, emb4 t r f ▸ ((cfg0.win 4).blk t).view.emb_mem_set (ix2 r f)⟩
/-- The gate lanes after the run. -/
theorem final5 (c : Dev nD) : (dats m 0 c).arrAt 5 cfg0.N = gateArr m c :=
  (dats m 0 c).arrAt_eq_of_cover 5 (gateArr m c) (fun t _ => flushed5_eq m c t) fun (i : S32768x2048.Idx) => by
    obtain ⟨R, f, rfl⟩ : ∃ (R : Fin 32768) (f : Fin 2048), i = ix2 R f := ⟨i 0, i 1, eq_ix2 i⟩
    obtain ⟨t, r, rfl⟩ := row_exists R
    exact ⟨t, flush0_5 _, emb5 t r f ▸ ((cfg0.win 5).blk t).view.emb_mem_set (ix2 r f)⟩

/-! ## The arrays the launch finds -/

theorem V6 (c : Dev nD) : V m c main_v6 = shapeCast S32768x1024 (m ((c : Thread nD τ).loc main_arg0)) shapeCasts_S16x2048x1024_S32768x1024 := by
  simp only [V, hostOps0]; after_results_simp <;> rfl
theorem V7 (c : Dev nD) : V m c main_v7 = shapeCast S1x1024 (m ((c : Thread nD τ).loc main_arg1)) shapeCasts_S1024_S1x1024 := by
  simp only [V, hostOps0]; after_results_simp <;> rfl

theorem X_eq (c : Dev nD) (R : Fin 32768) (d : Fin 1024) :
    X m c R d = m ((c : Thread nD τ).loc main_arg0) (ix3 (⟨R.val / 2048, by omega⟩ : Fin 16) (⟨R.val % 2048, Nat.mod_lt _ (by omega)⟩ : Fin 2048) d) := by
  unfold X
  rw [V6]
  refine shapeCast_apply (s := S16x2048x1024) (t := S32768x1024) _ _ _ _ ?_
  rw [Shape.rowMajor_val_three, Shape.rowMajor_val_two]
  show (R.val / 2048 * 2048 + R.val % 2048) * 1024 + d.val = R.val * 1024 + d.val
  omega
theorem G_eq (c : Dev nD) (d : Fin 1024) : G m c d = m ((c : Thread nD τ).loc main_arg1) (ix1 d) := by
  unfold G; rw [V7]
  refine shapeCast_apply (s := S1024) (t := S1x1024) _ _ _ _ ?_
  rw [Shape.rowMajor_val_two, Shape.rowMajor_val_one]
  show d.val = 0 * 1024 + d.val
  omega

/-- Column `k` of the reference's projection that main column `f` is. -/
def mainCol (f : Fin 3584) : Fin 5632 := ⟨if f.val < 2048 then f.val else 4096 + (f.val - 2048), by split <;> omega⟩

/-- The main weights are columns of the weights. -/
theorem wMain_eq (c : Dev nD) (d : Fin 1024) (f : Fin 3584) :
    V m c main_v3 (ix2 d f) = m ((c : Thread nD τ).loc main_arg2) (ix2 d (mainCol f)) := by
  have e : V m c main_v3 = concatenate S1024x3584 1 [⟨S1024x2048, extractStridedSlice S1024x2048 ![0, 0] (m ((c : Thread nD τ).loc main_arg2)) slices_S1024x5632_S1024x2048_0_0⟩,
      ⟨S1024x1536, extractStridedSlice S1024x1536 ![0, 4096] (m ((c : Thread nD τ).loc main_arg2)) slices_S1024x5632_S1024x1536_0_4096⟩] concatenates_S1024x2048_S1024x1536_S1024x3584_d1 := by
    simp only [V, hostOps0]; after_results_simp <;> rfl
  rw [e]
  exact joinSlices (M := 1024) (K := 5632) (A := 2048) (B := 1536) (C := 3584) 4096 _ _ _ rfl _ d f (mainCol f) rfl

/-- The gate weights are columns of the weights. -/
theorem wGate_eq (c : Dev nD) (d : Fin 1024) (f : Fin 2048) :
    V m c main_v5 (ix2 d f) = m ((c : Thread nD τ).loc main_arg2) (ix2 d (⟨2048 + f.val, by omega⟩ : Fin 5632)) := by
  have e : V m c main_v5 = extractStridedSlice S1024x2048 ![0, 2048] (m ((c : Thread nD τ).loc main_arg2)) slices_S1024x5632_S1024x2048_0_2048 := by
    simp only [V, hostOps0]; after_results_simp <;> rfl
  rw [e]
  exact sliceCols 2048 _ _ d f _ rfl

end Cert.Kernel5Ideal.Projection
-- ==== Proof.ProjBRef.lean ====
module

public import proofs.«01_k».proof.Proof.Gen.Reference5Ideal.Run
public import proofs.«01_k».proof.Proof.Gen.Reference5Ideal.Read
public import proofs.«01_k».proof.Proof.Proj

/-! # The reference of an input projection at a row and a column -/

@[expose] public section

noncomputable section

namespace Cert.Reference5Ideal.Projection

open Cert.Reference5Ideal Cert.Reference5Ideal.Gen Cert.Reference5Ideal.Read Cert.Rows Cert.Proj
open Idealize.ShloMosaic hiding ix0 ix1 ix2 ix3 ix4 ix5 eq_ix1 eq_ix2 eq_ix3
open Idealize.ShloMosaic.ValueIdx
open scoped BigOperators

variable (x0 : (⟨S16x2048x1024, .f32⟩ : BufTy).Contents (Elt Ideal)) (x1 : (⟨S1024, .f32⟩ : BufTy).Contents (Elt Ideal))
  (x2 : (⟨S1024x5632, .f32⟩ : BufTy).Contents (Elt Ideal))

/-- The sequence of a row. -/
def bq (R : Fin 32768) : Fin 16 := ⟨R.val / 2048, by omega⟩
/-- The position of a row in its sequence. -/
def sq (R : Fin 32768) : Fin 2048 := ⟨R.val % 2048, Nat.mod_lt _ (by omega)⟩
/-- The input rows. -/
def X (R : Fin 32768) (d : Fin 1024) : EReal := x0 (ix3 (bq R) (sq R) d)
/-- The weights of the norm. -/
def G (d : Fin 1024) : EReal := x1 (ix1 d)

/-- The norm. -/
theorem norm_apply (R : Fin 32768) (d : Fin 1024) :
    val_main_v12 (F := Ideal) x0 x1 (ix3 (bq R) (sq R) d) = rmsRow (X x0 R) (G x1) d := by
  rw [val_main_v12_apply, val_main_v9_apply, val_main_v8_apply, val_main_v11_apply, val_main_v10_apply, val_main_v7_apply,
    val_main_v6_apply, val_main_v5_apply, val_main_v4_apply, val_main_v3_apply, val_main_v2_apply, val_main_v1_apply,
    val_main_cst_apply, val_main_cst_0_apply, val_main_cst_1_apply]
  have hs : ∀ k : Fin 1024, val_main_v0 (F := Ideal) x0 (idx_main_v1 (idx_main_v2 (idx_main_v8 (ix3 (bq R) (sq R) d))) k) = X x0 R k * X x0 R k := fun k => by
    rw [show idx_main_v1 (idx_main_v2 (idx_main_v8 (ix3 (bq R) (sq R) d))) k = ix3 (bq R) (sq R) k from eq_ix3 _]; rfl
  rw [show idx_main_v10 (idx_main_v11 (ix3 (bq R) (sq R) d)) = ix1 d from eq_ix1 _, Finset.sum_congr rfl fun k _ => hs k]
  show X x0 R d * Ideal.rsqrt (Ideal.div (Ideal.ofBits .f32 0x00000000#32 + _) width + eps) * G x1 d = _
  rw [Ideal.ofBits_zero_f32, zero_add]; rfl

/-- The projection, as rows. -/
theorem proj_apply (R : Fin 32768) (f : Fin 5632) :
    val_main_v14 (F := Ideal) x0 x1 x2 (ix2 R f) = proj (X x0) (G x1) (fun d f => x2 (ix2 d f)) R f := by
  unfold val_main_v14
  refine (shapeCast_apply (s := S16x2048x5632) (t := S32768x5632) _ _ _ (ix3 (bq R) (sq R) f) ?_).trans ?_
  · rw [Shape.rowMajor_val_three, Shape.rowMajor_val_two]
    show (R.val / 2048 * 2048 + R.val % 2048) * 5632 + f.val = R.val * 5632 + f.val
    omega
  rw [val_main_v13_apply]
  refine Finset.sum_congr rfl fun k _ => ?_
  rw [show lidx_main_v13 (ix3 (bq R) (sq R) f) k = ix3 (bq R) (sq R) k from eq_ix3 _, norm_apply,
    show ridx_main_v13 (ix3 (bq R) (sq R) f) k = ix2 k f from eq_ix2 _]

/-- The main columns. -/
theorem main_apply (R : Fin 32768) (f : Fin 3584) (k : Fin 5632) (hk : k.val = if f.val < 2048 then f.val else 4096 + (f.val - 2048)) :
    val_main_v18 (F := Ideal) x0 x1 x2 (ix2 R f) = proj (X x0) (G x1) (fun d f => x2 (ix2 d f)) R k :=
  (joinSlices (M := 32768) (K := 5632) (A := 2048) (B := 1536) (C := 3584) 4096 (val_main_v14 (F := Ideal) x0 x1 x2) _ _ rfl concatenates_S32768x2048_S32768x1536_S32768x3584_d1 R f k hk).trans
    (proj_apply x0 x1 x2 R k)

/-- The gate columns. -/
theorem gate_apply (R : Fin 32768) (f : Fin 2048) :
    val_main_v19 (F := Ideal) x0 x1 x2 (ix2 R f) = proj (X x0) (G x1) (fun d f => x2 (ix2 d f)) R ⟨2048 + f.val, by omega⟩ :=
  (sliceCols 2048 (val_main_v14 (F := Ideal) x0 x1 x2) _ R f _ rfl).trans (proj_apply x0 x1 x2 R _)

end Cert.Reference5Ideal.Projection
-- ==== Proof.AlgebraicB.lean ====
module

public import proofs.«01_k».proof.Defs
public import proofs.«01_k».proof.Proof.ProjB
public import proofs.«01_k».proof.Proof.ProjBRef

/-! # The gated recurrent layers' input projection and its reference compute the same arrays -/

@[expose] public section

noncomputable section

namespace Cert.Proof

open Idealize.ShloMosaic hiding ix0 ix1 ix2 ix3 ix4 ix5 eq_ix1 eq_ix2 eq_ix3
open Idealize.ShloMosaic.ValueIdx
open Idealize.SL.Sem
open Cert.Proj

section ProjB
variable (m : (ℓ : Loc Kernel5Ideal.nD Kernel5Ideal.τ Kernel5Ideal.sig) → Buf (Elt Ideal) ℓ)
    (m' : (ℓ : Loc Reference5Ideal.nD Reference5Ideal.τ Reference5Ideal.sig) → Buf (Elt Ideal) ℓ) (c : Dev Kernel5Ideal.nD)
    (h0 : m' ((c.tc : Thread Reference5Ideal.nD Reference5Ideal.τ).loc Reference5Ideal.main_arg0) = m ((c.tc : Thread Kernel5Ideal.nD Kernel5Ideal.τ).loc Kernel5Ideal.main_arg0))
    (h1 : m' ((c.tc : Thread Reference5Ideal.nD Reference5Ideal.τ).loc Reference5Ideal.main_arg1) = m ((c.tc : Thread Kernel5Ideal.nD Kernel5Ideal.τ).loc Kernel5Ideal.main_arg1))
    (h2 : m' ((c.tc : Thread Reference5Ideal.nD Reference5Ideal.τ).loc Reference5Ideal.main_arg2) = m ((c.tc : Thread Kernel5Ideal.nD Kernel5Ideal.τ).loc Kernel5Ideal.main_arg2))

include h0 h1 h2

/-- The reference's main columns are the kernel's. -/
theorem projB_main : Reference5Ideal.Read.val_main_v18 (F := Ideal) (m' ((c.tc : Thread Reference5Ideal.nD Reference5Ideal.τ).loc Reference5Ideal.main_arg0))
    (m' ((c.tc : Thread Reference5Ideal.nD Reference5Ideal.τ).loc Reference5Ideal.main_arg1)) (m' ((c.tc : Thread Reference5Ideal.nD Reference5Ideal.τ).loc Reference5Ideal.main_arg2)) = Kernel5Ideal.Projection.mainArr m c := by
  rw [h0, h1, h2]
  funext i
  obtain ⟨R, f, rfl⟩ : ∃ (R : Fin 32768) (f : Fin 3584), i = ix2 R f := ⟨i 0, i 1, eq_ix2 i⟩
  refine (Reference5Ideal.Projection.main_apply _ _ _ R f (Kernel5Ideal.Projection.mainCol f) rfl).trans ?_
  show _ = proj (Kernel5Ideal.Projection.X m c) (Kernel5Ideal.Projection.G m c) (fun d f => Kernel5Ideal.Gen.V m c Kernel5Ideal.main_v3 (ix2 d f)) R f
  rw [show Kernel5Ideal.Projection.X m c = _ from funext fun R => funext fun d => Kernel5Ideal.Projection.X_eq m c R d,
    show Kernel5Ideal.Projection.G m c = _ from funext fun d => Kernel5Ideal.Projection.G_eq m c d,
    show (fun d f => Kernel5Ideal.Gen.V m c Kernel5Ideal.main_v3 (ix2 d f)) = _ from funext fun d => funext fun f => Kernel5Ideal.Projection.wMain_eq m c d f]
  rfl

/-- The reference's gate columns are the kernel's. -/
theorem projB_gate : Reference5Ideal.Read.val_main_v19 (F := Ideal) (m' ((c.tc : Thread Reference5Ideal.nD Reference5Ideal.τ).loc Reference5Ideal.main_arg0))
    (m' ((c.tc : Thread Reference5Ideal.nD Reference5Ideal.τ).loc Reference5Ideal.main_arg1)) (m' ((c.tc : Thread Reference5Ideal.nD Reference5Ideal.τ).loc Reference5Ideal.main_arg2)) = Kernel5Ideal.Projection.gateArr m c := by
  rw [h0, h1, h2]
  funext i
  obtain ⟨R, f, rfl⟩ : ∃ (R : Fin 32768) (f : Fin 2048), i = ix2 R f := ⟨i 0, i 1, eq_ix2 i⟩
  refine (Reference5Ideal.Projection.gate_apply _ _ _ R f).trans ?_
  show _ = proj (Kernel5Ideal.Projection.X m c) (Kernel5Ideal.Projection.G m c) (fun d f => Kernel5Ideal.Gen.V m c Kernel5Ideal.main_v5 (ix2 d f)) R f
  rw [show Kernel5Ideal.Projection.X m c = _ from funext fun R => funext fun d => Kernel5Ideal.Projection.X_eq m c R d,
    show Kernel5Ideal.Projection.G m c = _ from funext fun d => Kernel5Ideal.Projection.G_eq m c d,
    show (fun d f => Kernel5Ideal.Gen.V m c Kernel5Ideal.main_v5 (ix2 d f)) = _ from funext fun d => funext fun f => Kernel5Ideal.Projection.wGate_eq m c d f]
  rfl

end ProjB

/-- The kernel's result arrays are the reference's. -/
theorem algebraicB : algebraic_Kernel5Ideal_Reference5Ideal (hKernel5Ideal := Kernel5Ideal.Gen.facts) (hReference5Ideal := Reference5Ideal.Gen.facts) :=
  fun m g m' g' _ h =>
    ⟨fun c => Kernel5Ideal.Projection.mainArr m c, fun c => Kernel5Ideal.Projection.gateArr m c,
      (θ_run Kernel5Ideal.defs _ _).mono (fun r hr c => ⟨(hr c).1.trans (Kernel5Ideal.Projection.final4 m c), (hr c).2.1.trans (Kernel5Ideal.Projection.final5 m c), (hr c).2.2⟩) (Kernel5Ideal.Value.run_blocks m g),
      (θ_run Reference5Ideal.defs _ _).mono (fun r hr c => ⟨((hr c).1.trans (Reference5Ideal.Read.val_main_v18_eq _ _ _)).trans (projB_main m m' c (h c).1 (h c).2.1 (h c).2.2),
        ((hr c).2.1.trans (Reference5Ideal.Read.val_main_v19_eq _ _ _)).trans (projB_gate m m' c (h c).1 (h c).2.1 (h c).2.2), (hr c).2.2⟩) (Reference5Ideal.Value.run m' g')⟩

end Cert.Proof
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Pre_finite
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel5Ideal.Value
public import proofs.«01_k».proof.Proof.Gen.Reference5Ideal.Run
public import proofs.«01_k».proof.Proof.Gen.Reference5Ideal.Read
public import proofs.«01_k».proof.Proof.Algebraic
public import proofs.«01_k».proof.Proof.AlgebraicMix
public import proofs.«01_k».proof.Proof.AlgebraicSample
public import proofs.«01_k».proof.Proof.AlgebraicA
public import proofs.«01_k».proof.Proof.AlgebraicB
public import Idealize.ShloMosaic.Adequacy
public import Idealize.ShloMosaic.Init

@[expose] public section

noncomputable section

namespace Cert.Proof

open Idealize.ShloMosaic Idealize.SL.Sem

/-- The reference leaves its arguments, and declares no semaphore. -/
theorem reference_frame : quiescent_ReferenceIdeal (hReferenceIdeal := ReferenceIdeal.Gen.facts) := fun m g _ =>
  (θ_run ReferenceIdeal.defs _ _).mono (fun r h => ⟨fun c => (h c).2, funext fun s => by
    rcases s with ⟨_, s⟩
    rcases s with s | s <;> exact s.elim0⟩) (ReferenceIdeal.Value.run m g)

/-- The reference leaves its arguments, and declares no semaphore. -/
theorem reference2_frame : quiescent_Reference2Ideal (hReference2Ideal := Reference2Ideal.Gen.facts) := fun m g _ =>
  (θ_run Reference2Ideal.defs _ _).mono (fun r h => ⟨fun c => (h c).2.2, funext fun s => by
    rcases s with ⟨_, s⟩
    rcases s with s | s <;> exact s.elim0⟩) (Reference2Ideal.Value.run m g)

/-- The reference leaves its arguments, and declares no semaphore. -/
theorem reference3_frame : quiescent_Reference3Ideal (hReference3Ideal := Reference3Ideal.Gen.facts) := fun m g _ =>
  (θ_run Reference3Ideal.defs _ _).mono (fun r h => ⟨fun c => (h c).2, funext fun s => by
    rcases s with ⟨_, s⟩
    rcases s with s | s <;> exact s.elim0⟩) (Reference3Ideal.Value.run m g)

/-- The reference leaves its arguments, and declares no semaphore. -/
theorem reference4_frame : quiescent_Reference4Ideal (hReference4Ideal := Reference4Ideal.Gen.facts) := fun m g _ =>
  (θ_run Reference4Ideal.defs _ _).mono (fun r h => ⟨fun c => (h c).2.2, funext fun s => by
    rcases s with ⟨_, s⟩
    rcases s with s | s <;> exact s.elim0⟩) (Reference4Ideal.Value.run m g)

/-- The reference leaves its arguments, and declares no semaphore. -/
theorem reference5_frame : quiescent_Reference5Ideal (hReference5Ideal := Reference5Ideal.Gen.facts) := fun m g _ =>
  (θ_run Reference5Ideal.defs _ _).mono (fun r h => ⟨fun c => (h c).2.2, funext fun s => by
    rcases s with ⟨_, s⟩
    rcases s with s | s <;> exact s.elim0⟩) (Reference5Ideal.Value.run m g)

/-- Every claim. -/
theorem claim : Cert.Claim :=
  ⟨Kernel.Gen.facts, KernelIdeal.Gen.facts, ReferenceIdeal.Gen.facts, Kernel2.Gen.facts, Kernel2Ideal.Gen.facts, Reference2Ideal.Gen.facts, Kernel3.Gen.facts, Kernel3Ideal.Gen.facts, Reference3Ideal.Gen.facts, Kernel4.Gen.facts, Kernel4Ideal.Gen.facts, Reference4Ideal.Gen.facts, Kernel5.Gen.facts, Kernel5Ideal.Gen.facts, Reference5Ideal.Gen.facts, Pre_finite.Gen.facts,
    fun m ρ _ => Kernel.Gen.frame m ρ, fun m ρ _ => KernelIdeal.Gen.frame m ρ, reference_frame,
    fun m ρ _ => Kernel2.Gen.frame m ρ, fun m ρ _ => Kernel2Ideal.Gen.frame m ρ, fun m ρ _ => Kernel2Ideal.Gen.frame m ρ,
    reference2_frame, fun m g _ => reference2_frame m g trivial,
    fun m ρ _ => Kernel3.Gen.frame m ρ, fun m ρ _ => Kernel3Ideal.Gen.frame m ρ, reference3_frame,
    fun m ρ _ => Kernel4.Gen.frame m ρ, fun m ρ _ => Kernel4Ideal.Gen.frame m ρ, reference4_frame,
    fun m ρ _ => Kernel5.Gen.frame m ρ, fun m ρ _ => Kernel5Ideal.Gen.frame m ρ, reference5_frame,
    trivial, algebraic, trivial, algebraicMix, trivial, algebraicSample, trivial, algebraicA, trivial, algebraicB⟩

end Cert.Proof

end
